-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_named : Cert.Pre_experts_named.Facts] (m : (ℓ : Loc Cert.Kernel4.nD Cert.Kernel4.τ Cert.Kernel4.sig) → Buf (Elt Bits) ℓ) : Prop :=
  ∀ c : Dev Cert.Kernel4.nD,
    (Cert.Pre_experts_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))) = (fun _ => 1#1)

def Pre_Kernel4Ideal [hPre_experts_named : Cert.Pre_experts_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Kernel4Ideal_blocks_counted [hPre_blocks_counted : Cert.Pre_blocks_counted.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_blocks_counted.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_blocks_counted [hPre_blocks_counted : Cert.Pre_blocks_counted.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_blocks_counted.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] [hPre_experts_named : Cert.Pre_experts_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_blocks_counted [hKernel4Ideal : Cert.Kernel4Ideal.Facts] [hPre_blocks_counted : Cert.Pre_blocks_counted.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_blocks_counted m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_blocks_counted [hReference4Ideal : Cert.Reference4Ideal.Facts] [hPre_blocks_counted : Cert.Pre_blocks_counted.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_blocks_counted m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_blocks_counted [hKernel4Ideal : Cert.Kernel4Ideal.Facts] [hReference4Ideal : Cert.Reference4Ideal.Facts] [hPre_blocks_counted : Cert.Pre_blocks_counted.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_blocks_counted m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_experts_named : Cert.Pre_experts_named.Facts) (hPre_blocks_counted : Cert.Pre_blocks_counted.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_named := hPre_experts_named)
    ∧ quiescent_Kernel4Ideal (hKernel4Ideal := hKernel4Ideal) (hPre_experts_named := hPre_experts_named)
    ∧ quiescent_Kernel4Ideal_pre_blocks_counted (hKernel4Ideal := hKernel4Ideal) (hPre_blocks_counted := hPre_blocks_counted)
    ∧ quiescent_Reference4Ideal (hReference4Ideal := hReference4Ideal)
    ∧ quiescent_Reference4Ideal_pre_blocks_counted (hReference4Ideal := hReference4Ideal) (hPre_blocks_counted := hPre_blocks_counted)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_blocks_counted (hKernel4Ideal := hKernel4Ideal) (hReference4Ideal := hReference4Ideal) (hPre_blocks_counted := hPre_blocks_counted)
-- ==== Pre_blocks_counted.lean ====
abbrev S167040x2048 : Shape := ⟨2, ![167040, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S145 : Shape := ⟨1, ![145]⟩
abbrev S1 : Shape := ⟨1, ![1]⟩
abbrev S_ : Shape := ⟨0, ![]⟩

class Facts : Prop where
  bcast_S_S145 : S_.BroadcastsInDim S145 (![] : Fin 0 → Fin S145.rank)
  bcast_S1_S145_0 : S1.BroadcastsInDim S145 (![0] : Fin 1 → Fin S145.rank)
  reducesTo_S145_S_d0 : S145.ReducesTo [0] S_
  h_S_ : 0 < S_.numel

variable [Facts]

def fn {F : FTy → Type} [FloatOps F] (main_arg0 : FVec F S167040x2048 .bf16) (main_arg1 : FVec F S32x2048x4096 .f32) (main_arg2 : FVec F S32x4096 .f32) (main_arg3 : FVec F S32x2048x2048 .f32) (main_arg4 : FVec F S32x2048 .f32) (main_arg5 : IVec S145 32) (main_arg6 : IVec S145 32) (main_arg7 : IVec S1 32) : IVec S_ 1 :=
  let main_v0 : IVec S145 32 := iotaInDim S145 32 0
  let main_c : IVec S_ 32 := constantI S_ 32 0#32
  let main_v1 : IVec S145 32 := broadcastInDim S145 ![] bcast_S_S145 main_c
  let main_v2 : IVec S145 1 := cmpi .sge main_arg5 main_v1
  let main_c_0 : IVec S_ 32 := constantI S_ 32 32#32
  let main_v3 : IVec S145 32 := broadcastInDim S145 ![] bcast_S_S145 main_c_0
  let main_v4 : IVec S145 1 := cmpi .slt main_arg5 main_v3
  let main_v5 : IVec S145 1 := andi main_v2 main_v4
  let main_c_1 : IVec S_ 32 := constantI S_ 32 0#32
  let main_v6 : IVec S145 32 := broadcastInDim S145 ![] bcast_S_S145 main_c_1
  let main_v7 : IVec S145 1 := cmpi .sle main_arg6 main_v6
  let main_v8 : IVec S145 32 := broadcastInDim S145 ![0] bcast_S1_S145_0 main_arg7
  let main_v9 : IVec S145 1 := cmpi .slt main_v0 main_v8
  let main_v10 : IVec S145 1 := ori main_v7 main_v9
  let main_v11 : IVec S145 1 := andi main_v5 main_v10
  let main_c_2 : IVec S_ 1 := constantI S_ 1 1#1
  let main_v12 : IVec S_ 1 := (fun x v => Host.reduce IntOp.andi x v reducesTo_S145_S_d0 h_S_) main_v11 main_c_2
  main_v12
-- ==== Pre_experts_named.lean ====
abbrev S167040x2048 : Shape := ⟨2, ![167040, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S145 : Shape := ⟨1, ![145]⟩
abbrev S1 : Shape := ⟨1, ![1]⟩
abbrev S_ : Shape := ⟨0, ![]⟩

class Facts : Prop where
  bcast_S_S145 : S_.BroadcastsInDim S145 (![] : Fin 0 → Fin S145.rank)
  reducesTo_S145_S_d0 : S145.ReducesTo [0] S_
  h_S_ : 0 < S_.numel

variable [Facts]

def fn {F : FTy → Type} [FloatOps F] (main_arg0 : FVec F S167040x2048 .bf16) (main_arg1 : FVec F S32x2048x4096 .f32) (main_arg2 : FVec F S32x4096 .f32) (main_arg3 : FVec F S32x2048x2048 .f32) (main_arg4 : FVec F S32x2048 .f32) (main_arg5 : IVec S145 32) (main_arg6 : IVec S145 32) (main_arg7 : IVec S1 32) : IVec S_ 1 :=
  let main_c : IVec S_ 32 := constantI S_ 32 0#32
  let main_v0 : IVec S145 32 := broadcastInDim S145 ![] bcast_S_S145 main_c
  let main_v1 : IVec S145 1 := cmpi .sge main_arg5 main_v0
  let main_c_0 : IVec S_ 32 := constantI S_ 32 32#32
  let main_v2 : IVec S145 32 := broadcastInDim S145 ![] bcast_S_S145 main_c_0
  let main_v3 : IVec S145 1 := cmpi .slt main_arg5 main_v2
  let main_v4 : IVec S145 1 := andi main_v1 main_v3
  let main_c_1 : IVec S_ 1 := constantI S_ 1 1#1
  let main_v5 : IVec S_ 1 := (fun x v => Host.reduce IntOp.andi x v reducesTo_S145_S_d0 h_S_) main_v4 main_c_1
  main_v5
-- ==== Pre_finite_scores.lean ====
abbrev S32768x1536 : Shape := ⟨2, ![32768, 1536]⟩
abbrev S16 : Shape := ⟨1, ![16]⟩
abbrev S32768x1280 : Shape := ⟨2, ![32768, 1280]⟩
abbrev S_ : Shape := ⟨0, ![]⟩

class Facts : Prop where
  slices_S32768x1536_S32768x1280_0_0 : S32768x1536.Slices ![0, 0] S32768x1280
  bcast_S_S32768x1280 : S_.BroadcastsInDim S32768x1280 (![] : Fin 0 → Fin S32768x1280.rank)
  bcast_S_S16 : S_.BroadcastsInDim S16 (![] : Fin 0 → Fin S16.rank)

variable [Facts]

def fn {F : FTy → Type} [FloatOps F] (main_arg0 : FVec F S32768x1536 .bf16) (main_arg1 : FVec F S16 .f32) : IVec S32768x1280 1 × IVec S16 1 :=
  let main_v0 : FVec F S32768x1280 .bf16 := (extractStridedSlice S32768x1280 ![0, 0] · slices_S32768x1536_S32768x1280_0_0) main_arg0
  let main_cst : FVec F S_ .bf16 := constant S_ .bf16 0xFF80#16
  let main_v1 : FVec F S32768x1280 .bf16 := broadcastInDim S32768x1280 ![] bcast_S_S32768x1280 main_cst
  let main_v2 : IVec S32768x1280 1 := cmpf .ogt main_v0 main_v1
  let main_cst_0 : FVec F S_ .bf16 := constant S_ .bf16 0x7F80#16
  let main_v3 : FVec F S32768x1280 .bf16 := broadcastInDim S32768x1280 ![] bcast_S_S32768x1280 main_cst_0
  let main_v4 : IVec S32768x1280 1 := cmpf .olt main_v0 main_v3
  let main_v5 : IVec S32768x1280 1 := andi main_v2 main_v4
  let main_cst_1 : FVec F S_ .f32 := constant S_ .f32 0x7F800000#32
  let main_v6 : FVec F S16 .f32 := broadcastInDim S16 ![] bcast_S_S16 main_cst_1
  let main_v7 : IVec S16 1 := cmpf .olt main_arg1 main_v6
  (main_v5, main_v7)
-- ==== Kernel.lean ====
abbrev S32768x1536 : Shape := ⟨2, ![32768, 1536]⟩
abbrev S16 : Shape := ⟨1, ![16]⟩
abbrev S32768x1024 : Shape := ⟨2, ![32768, 1024]⟩
abbrev S2x16384x1024 : Shape := ⟨3, ![2, 16384, 1024]⟩
abbrev S32768x256 : Shape := ⟨2, ![32768, 256]⟩
abbrev S2x16384x256 : Shape := ⟨3, ![2, 16384, 256]⟩
abbrev S16x1 : Shape := ⟨2, ![16, 1]⟩
abbrev S16x128 : Shape := ⟨2, ![16, 128]⟩
abbrev S1x128x1024 : Shape := ⟨3, ![1, 128, 1024]⟩
abbrev S1x128x256 : Shape := ⟨3, ![1, 128, 256]⟩
abbrev S512x256 : Shape := ⟨2, ![512, 256]⟩
abbrev S512x1 : Shape := ⟨2, ![512, 1]⟩
abbrev S128x1024 : Shape := ⟨2, ![128, 1024]⟩
abbrev S1x128x64 : Shape := ⟨3, ![1, 128, 64]⟩
abbrev S128x64 : Shape := ⟨2, ![128, 64]⟩
abbrev S256x64 : Shape := ⟨2, ![256, 64]⟩
abbrev S512x64 : Shape := ⟨2, ![512, 64]⟩
abbrev S1x1 : Shape := ⟨2, ![1, 1]⟩
abbrev S512 : Shape := ⟨1, ![512]⟩

abbrev nBuf : Space → Nat
  | .hbm => 11
  | .vmem => 13
  | .smem => 0
  | _ => 0

abbrev bufTy : (tb : Table) → Fin (tcTables nBuf tb) → BufTy
  | .hbm, ⟨0, _⟩ => ⟨S32768x1536, .bf16⟩
  | .hbm, ⟨1, _⟩ => ⟨S16, .f32⟩
  | .hbm, ⟨2, _⟩ => ⟨S32768x1024, .bf16⟩
  | .hbm, ⟨3, _⟩ => ⟨S2x16384x1024, .bf16⟩
  | .hbm, ⟨4, _⟩ => ⟨S32768x256, .bf16⟩
  | .hbm, ⟨5, _⟩ => ⟨S2x16384x256, .bf16⟩
  | .hbm, ⟨6, _⟩ => ⟨S32768x256, .bf16⟩
  | .hbm, ⟨7, _⟩ => ⟨S2x16384x256, .bf16⟩
  | .hbm, ⟨8, _⟩ => ⟨S16x1, .f32⟩
  | .hbm, ⟨9, _⟩ => ⟨S16x128, .f32⟩
  | .hbm, ⟨10, _⟩ => ⟨S2x16384x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S16x128, .f32⟩
  | .local _ .vmem, ⟨11, _⟩ => ⟨S1x128x1024, .bf16⟩
  | .local _ .vmem, ⟨12, _⟩ => ⟨S1x128x1024, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x1536 : Shape := ⟨2, ![32768, 1536]⟩
abbrev S16 : Shape := ⟨1, ![16]⟩
abbrev S2x16384x1536 : Shape := ⟨3, ![2, 16384, 1536]⟩
abbrev S2x16384x1024 : Shape := ⟨3, ![2, 16384, 1024]⟩
abbrev S2x16384x256 : Shape := ⟨3, ![2, 16384, 256]⟩
abbrev S2x16384x4x64 : Shape := ⟨4, ![2, 16384, 4, 64]⟩
abbrev S2x128x128x4x4x64 : Shape := ⟨6, ![2, 128, 128, 4, 4, 64]⟩
abbrev S2x128x128x4x64 : Shape := ⟨5, ![2, 128, 128, 4, 64]⟩
abbrev S2x127x128x4x64 : Shape := ⟨5, ![2, 127, 128, 4, 64]⟩
abbrev S_ : Shape := ⟨0, ![]⟩
abbrev S2x128x256x4x64 : Shape := ⟨5, ![2, 128, 256, 4, 64]⟩
abbrev S2x128x4x256x128x4 : Shape := ⟨6, ![2, 128, 4, 256, 128, 4]⟩
abbrev S2x128x4x4x128x256 : Shape := ⟨6, ![2, 128, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S1x128x1x1x128x256 : Shape := ⟨6, ![1, 128, 1, 1, 128, 256]⟩
abbrev S4x4 : Shape := ⟨2, ![4, 4]⟩
abbrev S1x1x4x4x1x1 : Shape := ⟨6, ![1, 1, 4, 4, 1, 1]⟩
abbrev S2x128x4x4x128 : Shape := ⟨5, ![2, 128, 4, 4, 128]⟩
abbrev S2x128x4x4x128x1 : Shape := ⟨6, ![2, 128, 4, 4, 128, 1]⟩
abbrev S2x128x4x64x4x128 : Shape := ⟨6, ![2, 128, 4, 64, 4, 128]⟩

abbrev nBuf : Space → Nat
  | .hbm => 87
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S16, .f32⟩
  | .hbm, ⟨2, _⟩ => ⟨S32768x1536, .f32⟩
  | .hbm, ⟨3, _⟩ => ⟨S2x16384x1536, .f32⟩
  | .hbm, ⟨4, _⟩ => ⟨S2x16384x1024, .f32⟩
  | .hbm, ⟨5, _⟩ => ⟨S2x16384x256, .f32⟩
  | .hbm, ⟨6, _⟩ => ⟨S2x16384x4x64, .f32⟩
  | .hbm, ⟨7, _⟩ => ⟨S2x16384x256, .f32⟩
  | .hbm, ⟨8, _⟩ => ⟨S2x16384x4x64, .f32⟩
  | .hbm, ⟨9, _⟩ => ⟨S2x128x128x4x4x64, .f32⟩
  | .hbm, ⟨10, _⟩ => ⟨S2x128x128x4x64, .f32⟩
  | .hbm, ⟨11, _⟩ => ⟨S2x127x128x4x64, .f32⟩
  | .hbm, ⟨12, _⟩ => ⟨S_, .i32⟩
  | .hbm, ⟨13, _⟩ => ⟨S_, .f32⟩
  | .hbm, ⟨14, _⟩ => ⟨S2x128x128x4x64, .f32⟩
  | .hbm, ⟨15, _⟩ => ⟨S2x128x256x4x64, .f32⟩
  | .hbm, ⟨16, _⟩ => ⟨S2x128x128x4x64, .f32⟩
  | .hbm, ⟨17, _⟩ => ⟨S2x127x128x4x64, .f32⟩
  | .hbm, ⟨18, _⟩ => ⟨S_, .i32⟩
  | .hbm, ⟨19, _⟩ => ⟨S_, .f32⟩
  | .hbm, ⟨20, _⟩ => ⟨S2x128x128x4x64, .f32⟩
  | .hbm, ⟨21, _⟩ => ⟨S2x128x256x4x64, .f32⟩
  | .hbm, ⟨22, _⟩ => ⟨S2x128x4x256x128x4, .f32⟩
  | .hbm, ⟨23, _⟩ => ⟨S2x128x4x4x128x256, .f32⟩
  | .hbm, ⟨24, _⟩ => ⟨S_, .f32⟩
  | .hbm, ⟨25, _⟩ => ⟨S2x128x4x4x128x256, .f32⟩
  | .hbm, ⟨26, _⟩ => ⟨S2x128x4x4x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S128x1x1, .i1⟩
  | .hbm, ⟨46, _⟩ => ⟨S1x128x256, .i1⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x1x256, .i1⟩
  | .hbm, ⟨51, _⟩ => ⟨S128x1x256, .i1⟩
  | .hbm, ⟨52, _⟩ => ⟨S128x1x256, .i1⟩
  | .hbm, ⟨53, _⟩ => ⟨S128x1x256, .i1⟩
  | .hbm, ⟨54, _⟩ => ⟨S128x1x256, .i1⟩
  | .hbm, ⟨55, _⟩ => ⟨S128x128x256, .i1⟩
  | .hbm, ⟨56, _⟩ => ⟨S128x128x256, .i1⟩
  | .hbm, ⟨57, _⟩ => ⟨S128x128x256, .i1⟩
  | .hbm, ⟨58, _⟩ => ⟨S1x128x1x1x128x256, .i1⟩
  | .hbm, ⟨59, _⟩ => ⟨S_, .f32⟩
  | .hbm, ⟨60, _⟩ => ⟨S_, .f32⟩
  | .hbm, ⟨61, _⟩ => ⟨S2x128x4x4x128x256, .i1⟩
  | .hbm, ⟨62, _⟩ => ⟨S2x128x4x4x128x256, .f32⟩
  | .hbm, ⟨63, _⟩ => ⟨S2x128x4x4x128x256, .f32⟩
  | .hbm, ⟨64, _⟩ => ⟨S4x4, .f32⟩
  | .hbm, ⟨65, _⟩ => ⟨S1x1x4x4x1x1, .f32⟩
  | .hbm, ⟨66, _⟩ => ⟨S_, .f32⟩
  | .hbm, ⟨67, _⟩ => ⟨S2x128x4x4x128, .f32⟩
  | .hbm, ⟨68, _⟩ => ⟨S2x128x4x4x128x1, .f32⟩
  | .hbm, ⟨69, _⟩ => ⟨S2x128x4x4x128x1, .f32⟩
  | .hbm, ⟨70, _⟩ => ⟨S2x128x4x4x128x1, .f32⟩
  | .hbm, ⟨71, _⟩ => ⟨S2x128x4x4x128x256, .f32⟩
  | .hbm, ⟨72, _⟩ => ⟨S2x128x4x4x128x256, .f32⟩
  | .hbm, ⟨73, _⟩ => ⟨S2x128x4x4x128x256, .f32⟩
  | .hbm, ⟨74, _⟩ => ⟨S_, .f32⟩
  | .hbm, ⟨75, _⟩ => ⟨S2x128x4x4x128, .f32⟩
  | .hbm, ⟨76, _⟩ => ⟨S2x128x4x4x128x1, .f32⟩
  | .hbm, ⟨77, _⟩ => ⟨S2x128x4x4x128x1, .f32⟩
  | .hbm, ⟨78, _⟩ => ⟨S2x128x4x4x128x1, .f32⟩
  | .hbm, ⟨79, _⟩ => ⟨S2x128x4x4x128x1, .f32⟩
  | .hbm, ⟨80, _⟩ => ⟨S2x128x4x4x128x1, .f32⟩
  | .hbm, ⟨81, _⟩ => ⟨S2x128x4x4x128x256, .f32⟩
  | .hbm, ⟨82, _⟩ => ⟨S2x128x4x4x128x256, .f32⟩
  | .hbm, ⟨83, _⟩ => ⟨S2x128x4x64x4x128, .f32⟩
  | .hbm, ⟨84, _⟩ => ⟨S2x128x128x4x4x64, .f32⟩
  | .hbm, ⟨85, _⟩ => ⟨S2x16384x1024, .f32⟩
  | .hbm, ⟨86, _⟩ => ⟨S2x16384x1024, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048 : Shape := ⟨1, ![2048]⟩
abbrev S2048x8960 : Shape := ⟨2, ![2048, 8960]⟩
abbrev S32768x2048 : Shape := ⟨2, ![32768, 2048]⟩
abbrev S1x2048 : Shape := ⟨2, ![1, 2048]⟩
abbrev S2048x4096 : Shape := ⟨2, ![2048, 4096]⟩
abbrev S_ : Shape := ⟨0, ![]⟩
abbrev S1x4096 : Shape := ⟨2, ![1, 4096]⟩
abbrev S32768x4096 : Shape := ⟨2, ![32768, 4096]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 7
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8960, .f32⟩
  | .hbm, ⟨3, _⟩ => ⟨S32768x2048, .f32⟩
  | .hbm, ⟨4, _⟩ => ⟨S2048x8960, .bf16⟩
  | .hbm, ⟨5, _⟩ => ⟨S1x2048, .f32⟩
  | .hbm, ⟨6, _⟩ => ⟨S2048x4096, .bf16⟩
  | .hbm, ⟨7, _⟩ => ⟨S_, .f32⟩
  | .hbm, ⟨8, _⟩ => ⟨S1x4096, .f32⟩
  | .hbm, ⟨9, _⟩ => ⟨S32768x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x16384x2048 : Shape := ⟨3, ![2, 16384, 2048]⟩
abbrev S2048 : Shape := ⟨1, ![2048]⟩
abbrev S2048x8960 : Shape := ⟨2, ![2048, 8960]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x8960 : Shape := ⟨3, ![2, 16384, 8960]⟩
abbrev S2x16384x4096 : Shape := ⟨3, ![2, 16384, 4096]⟩
abbrev S32768x4096 : Shape := ⟨2, ![32768, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8960, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x8960, .f32⟩
  | .hbm, ⟨20, _⟩ => ⟨S2x16384x4096, .f32⟩
  | .hbm, ⟨21, _⟩ => ⟨S32768x4096, .f32⟩
  | .hbm, ⟨22, _⟩ => ⟨S32768x4096, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S2x16384x2048 : Shape := ⟨3, ![2, 16384, 2048]⟩
abbrev S2048 : Shape := ⟨1, ![2048]⟩
abbrev S2048x8960 : Shape := ⟨2, ![2048, 8960]⟩
abbrev S1536 : Shape := ⟨1, ![1536]⟩
abbrev S32768x2048 : Shape := ⟨2, ![32768, 2048]⟩
abbrev S1x2048 : Shape := ⟨2, ![1, 2048]⟩
abbrev S2048x1536 : Shape := ⟨2, ![2048, 1536]⟩
abbrev S1x1536 : Shape := ⟨2, ![1, 1536]⟩
abbrev S32768x1536 : Shape := ⟨2, ![32768, 1536]⟩
abbrev S512x2048 : Shape := ⟨2, ![512, 2048]⟩
abbrev S512x1536 : Shape := ⟨2, ![512, 1536]⟩
abbrev S512 : Shape := ⟨1, ![512]⟩
abbrev S512x1 : Shape := ⟨2, ![512, 1]⟩

abbrev nBuf : Space → Nat
  | .hbm => 10
  | .vmem => 7
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8960, .f32⟩
  | .hbm, ⟨3, _⟩ => ⟨S1536, .f32⟩
  | .hbm, ⟨4, _⟩ => ⟨S32768x2048, .f32⟩
  | .hbm, ⟨5, _⟩ => ⟨S2048x8960, .bf16⟩
  | .hbm, ⟨6, _⟩ => ⟨S1x2048, .f32⟩
  | .hbm, ⟨7, _⟩ => ⟨S2048x1536, .bf16⟩
  | .hbm, ⟨8, _⟩ => ⟨S1x1536, .f32⟩
  | .hbm, ⟨9, _⟩ => ⟨S32768x1536, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S1x1536, .f32⟩
  | .local _ .vmem, ⟨5, _⟩ => ⟨S512x1536, .bf16⟩
  | .local _ .vmem, ⟨6, _⟩ => ⟨S512x1536, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S2x16384x2048 : Shape := ⟨3, ![2, 16384, 2048]⟩
abbrev S2048 : Shape := ⟨1, ![2048]⟩
abbrev S2048x8960 : Shape := ⟨2, ![2048, 8960]⟩
abbrev S1536 : Shape := ⟨1, ![1536]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x8960 : Shape := ⟨3, ![2, 16384, 8960]⟩
abbrev S2x16384x1536 : Shape := ⟨3, ![2, 16384, 1536]⟩
abbrev S1x1x1536 : Shape := ⟨3, ![1, 1, 1536]⟩
abbrev S32768x1536 : Shape := ⟨2, ![32768, 1536]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8960, .f32⟩
  | .hbm, ⟨3, _⟩ => ⟨S1536, .f32⟩
  | .hbm, ⟨4, _⟩ => ⟨S2x16384x2048, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S1x1x2048, .f32⟩
  | .hbm, ⟨18, _⟩ => ⟨S2x16384x2048, .f32⟩
  | .hbm, ⟨19, _⟩ => ⟨S2x16384x2048, .f32⟩
  | .hbm, ⟨20, _⟩ => ⟨S2x16384x8960, .f32⟩
  | .hbm, ⟨21, _⟩ => ⟨S2x16384x1536, .f32⟩
  | .hbm, ⟨22, _⟩ => ⟨S1x1x1536, .f32⟩
  | .hbm, ⟨23, _⟩ => ⟨S2x16384x1536, .f32⟩
  | .hbm, ⟨24, _⟩ => ⟨S2x16384x1536, .f32⟩
  | .hbm, ⟨25, _⟩ => ⟨S32768x1536, .f32⟩
  | .hbm, ⟨26, _⟩ => ⟨S32768x1536, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S167040x2048 : Shape := ⟨2, ![167040, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S145 : Shape := ⟨1, ![145]⟩
abbrev S1 : Shape := ⟨1, ![1]⟩
abbrev S32x1x4096 : Shape := ⟨3, ![32, 1, 4096]⟩
abbrev S32x1x2048 : Shape := ⟨3, ![32, 1, 2048]⟩
abbrev S1336320x128 : Shape := ⟨2, ![1336320, 128]⟩
abbrev S1152x2048 : Shape := ⟨2, ![1152, 2048]⟩
abbrev S1x2048x512 : Shape := ⟨3, ![1, 2048, 512]⟩
abbrev S1x1x512 : Shape := ⟨3, ![1, 1, 512]⟩
abbrev S1x2048x256 : Shape := ⟨3, ![1, 2048, 256]⟩
abbrev S1x1x256 : Shape := ⟨3, ![1, 1, 256]⟩
abbrev S9216x128 : Shape := ⟨2, ![9216, 128]⟩
abbrev S4x1152x512 : Shape := ⟨3, ![4, 1152, 512]⟩
abbrev S2048x512 : Shape := ⟨2, ![2048, 512]⟩
abbrev S1152x512 : Shape := ⟨2, ![1152, 512]⟩
abbrev S1x512 : Shape := ⟨2, ![1, 512]⟩
abbrev S1x1152x512 : Shape := ⟨3, ![1, 1152, 512]⟩
abbrev S384x2048 : Shape := ⟨2, ![384, 2048]⟩
abbrev S384x512 : Shape := ⟨2, ![384, 512]⟩
abbrev S1x384x512 : Shape := ⟨3, ![1, 384, 512]⟩
abbrev S2048x256 : Shape := ⟨2, ![2048, 256]⟩
abbrev S512x256 : Shape := ⟨2, ![512, 256]⟩
abbrev S1152x256 : Shape := ⟨2, ![1152, 256]⟩
abbrev S1x256 : Shape := ⟨2, ![1, 256]⟩
abbrev S1152x128 : Shape := ⟨2, ![1152, 128]⟩
abbrev S384x256 : Shape := ⟨2, ![384, 256]⟩
abbrev S384x128 : Shape := ⟨2, ![384, 128]⟩

abbrev nBuf : Space → Nat
  | .hbm => 9
  | .vmem => 23
  | .smem => 3
  | _ => 0

abbrev bufTy : (tb : Table) → Fin (tcTables nBuf tb) → BufTy
  | .hbm, ⟨0, _⟩ => ⟨S167040x2048, .bf16⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048, .f32⟩
  | .hbm, ⟨5, _⟩ => ⟨S32x1x4096, .f32⟩
  | .hbm, ⟨6, _⟩ => ⟨S32x1x2048, .f32⟩
  | .hbm, ⟨7, _⟩ => ⟨S1336320x128, .f32⟩
  | .hbm, ⟨8, _⟩ => ⟨S1336320x128, .f32⟩
  | .local _ .vmem, ⟨0, _⟩ => ⟨S1152x2048, .bf16⟩
  | .local _ .vmem, ⟨1, _⟩ => ⟨S1152x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S9216x128, .f32⟩
  | .local _ .vmem, ⟨19, _⟩ => ⟨S9216x128, .f32⟩
  | .local _ .vmem, ⟨20, _⟩ => ⟨S9216x128, .f32⟩
  | .local _ .vmem, ⟨21, _⟩ => ⟨S9216x128, .f32⟩
  | .local _ .vmem, ⟨22, _⟩ => ⟨S4x1152x512, .bf16⟩
  | .local _ .smem, ⟨0, _⟩ => ⟨S1, .i32⟩
  | .local _ .smem, ⟨1, _⟩ => ⟨S145, .i32⟩
  | .local _ .smem, ⟨2, _⟩ => ⟨S145, .i32⟩
  | _, _ => ⟨S167040x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_arg7 : Ref sig .tc := ⟨.smem, 0, rfl⟩
abbrev main_arg5 : Ref sig .tc := ⟨.smem, 1, rfl⟩
abbrev main_arg6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![145, 8], ![false, false]⟩

abbrev pre0 : Pipeline.Prefetch sig := ⟨3, ![main_arg7.idx, main_arg5.idx, main_arg6.idx], fun | 0 => main_arg7.names | 1 => main_arg5.names | 2 => main_arg6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let v3 : Index := Scalar.indexCast v2
  ![v3.toNat]
def k0_off3 (i : grid0.Coords) : Fin 3 → Nat :=
  let arg1 : BitVec 32 := BitVec.ofNat 32 (i 1).val
  let v58 : Index := Scalar.indexCast arg1
  let c0_29 : Index := 0#32
  let c0_30 : Index := 0#32
  ![v58.toNat, 0, 0]
def k0_cond1 (i : grid0.Coords) (v1 : BitVec 32) : BitVec 1 :=
  let arg1 : BitVec 32 := BitVec.ofNat 32 (i 1).val
  let c4_i32 : BitVec 32 := 4#32
  let v3 : BitVec 1 := Scalar.cmpi .slt arg1 c4_i32
  let c1152_i32 : BitVec 32 := 1152#32
  let v2 : BitVec 1 := Scalar.cmpi .eq v1 c1152_i32
  let v4 : BitVec 1 := Scalar.andi v3 v2
  let v5 : BitVec 32 := Scalar.extui v4
  let c0_i32 : BitVec 32 := 0#32
  let v6 : BitVec 1 := Scalar.cmpi .ne v5 c0_i32
  v6

def k0_off4 (i : grid0.Coords) : Fin 3 → Nat :=
  let arg1 : BitVec 32 := BitVec.ofNat 32 (i 1).val
  let v67 : Index := Scalar.indexCast arg1
  let c0_33 : Index := 0#32
  let c0_34 : Index := 0#32
  ![v67.toNat, 0, 0]
def k0_cond2 (i : grid0.Coords) (v1 : BitVec 32) : BitVec 1 :=
  let arg1 : BitVec 32 := BitVec.ofNat 32 (i 1).val
  let c4_i32_0 : BitVec 32 := 4#32
  let v7 : BitVec 1 := Scalar.cmpi .slt arg1 c4_i32_0
  let c1152_i32 : BitVec 32 := 1152#32
  let v2 : BitVec 1 := Scalar.cmpi .eq v1 c1152_i32
  let v_true : BitVec 1 := 1#1
  let v8 : BitVec 1 := Scalar.xori v2 v_true
  let v9 : BitVec 1 := Scalar.andi v7 v8
  let v10 : BitVec 32 := Scalar.extui v9
  let c0_i32_1 : BitVec 32 := 0#32
  let v11 : BitVec 1 := Scalar.cmpi .ne v10 c0_i32_1
  v11

def k0_cond3 (v1 : BitVec 32) : BitVec 1 :=
  let c0_i32_12 : BitVec 32 := 0#32
  let v27 : BitVec 1 := Scalar.cmpi .sgt v1 c0_i32_12
  let v28 : BitVec 32 := Scalar.extui v27
  let c0_i32_13 : BitVec 32 := 0#32
  let v29 : BitVec 1 := Scalar.cmpi .ne v28 c0_i32_13
  v29

def k0_off5 (i : grid0.Coords) : Fin 3 → Nat :=
  let arg1 : BitVec 32 := BitVec.ofNat 32 (i 1).val
  let v67 : Index := Scalar.indexCast arg1
  let c384_32 : Index := 384#32
  let c0_33 : Index := 0#32
  ![v67.toNat, 384, 0]
def k0_cond4 (v1 : BitVec 32) : BitVec 1 :=
  let c384_i32 : BitVec 32 := 384#32
  let v30 : BitVec 1 := Scalar.cmpi .sgt v1 c384_i32
  let v31 : BitVec 32 := Scalar.extui v30
  let c0_i32_14 : BitVec 32 := 0#32
  let v32 : BitVec 1 := Scalar.cmpi .ne v31 c0_i32_14
  v32

def k0_off6 (i : grid0.Coords) : Fin 3 → Nat :=
  let arg1 : BitVec 32 := BitVec.ofNat 32 (i 1).val
  let v67 : Index := Scalar.indexCast arg1
  let c768_32 : Index := 768#32
  let c0_33 : Index := 0#32
  ![v67.toNat, 768, 0]
def k0_cond5 (v1 : BitVec 32) : BitVec 1 :=
  let c768_i32 : BitVec 32 := 768#32
  let v33 : BitVec 1 := Scalar.cmpi .sgt v1 c768_i32
  let v34 : BitVec 32 := Scalar.extui v33
  let c0_i32_15 : BitVec 32 := 0#32
  let v35 : BitVec 1 := Scalar.cmpi .ne v34 c0_i32_15
  v35

def k0_off7 (i : grid0.Coords) (c0_i32_47 : BitVec 32) : Fin 2 → Nat :=
  let c0_i32_48 : BitVec 32 := 0#32
  let arg1 : BitVec 32 := BitVec.ofNat 32 (i 1).val
  let c4_i32_46 : BitVec 32 := 4#32
  let v77 : BitVec 32 := Scalar.subi arg1 c4_i32_46
  let c2_i32 : BitVec 32 := 2#32
  let v78 : BitVec 32 := Scalar.muli v77 c2_i32
  let v79 : BitVec 32 := Scalar.addi v78 c0_i32_47
  let v81 : BitVec 32 := Scalar.addi c0_i32_48 v79
  let v82 : Index := Scalar.indexCast v81
  let c0_49 : Index := 0#32
  ![v82.toNat, 0]
def k0_cond6 (i : grid0.Coords) (v1 : BitVec 32) : BitVec 1 :=
  let arg1 : BitVec 32 := BitVec.ofNat 32 (i 1).val
  let c4_i32_2 : BitVec 32 := 4#32
  let v12 : BitVec 1 := Scalar.cmpi .sge arg1 c4_i32_2
  let c1152_i32 : BitVec 32 := 1152#32
  let v2 : BitVec 1 := Scalar.cmpi .eq v1 c1152_i32
  let v13 : BitVec 1 := Scalar.andi v12 v2
  let v14 : BitVec 32 := Scalar.extui v13
  let c0_i32_3 : BitVec 32 := 0#32
  let v15 : BitVec 1 := Scalar.cmpi .ne v14 c0_i32_3
  v15

def k0_off8 (i : grid0.Coords) (c0_i32_57 : BitVec 32) : Fin 2 → Nat :=
  let c0_i32_58 : BitVec 32 := 0#32
  let arg1 : BitVec 32 := BitVec.ofNat 32 (i 1).val
  let c4_i32_56 : BitVec 32 := 4#32
  let v95 : BitVec 32 := Scalar.subi arg1 c4_i32_56
  let c2_i32 : BitVec 32 := 2#32
  let v96 : BitVec 32 := Scalar.muli v95 c2_i32
  let v97 : BitVec 32 := Scalar.addi v96 c0_i32_57
  let v99 : BitVec 32 := Scalar.addi c0_i32_58 v97
  let v100 : Index := Scalar.indexCast v99
  let c0_59 : Index := 0#32
  ![v100.toNat, 0]
def k0_cond7 (i : grid0.Coords) (v1 : BitVec 32) : BitVec 1 :=
  let arg1 : BitVec 32 := BitVec.ofNat 32 (i 1).val
  let c4_i32_4 : BitVec 32 := 4#32
  let v16 : BitVec 1 := Scalar.cmpi .sge arg1 c4_i32_4
  let c1152_i32 : BitVec 32 := 1152#32
  let v2 : BitVec 1 := Scalar.cmpi .eq v1 c1152_i32
  let true_5 : BitVec 1 := 1#1
  let v17 : BitVec 1 := Scalar.xori v2 true_5
  let v18 : BitVec 1 := Scalar.andi v16 v17
  let v19 : BitVec 32 := Scalar.extui v18
  let c0_i32_6 : BitVec 32 := 0#32
  let v20 : BitVec 1 := Scalar.cmpi .ne v19 c0_i32_6
  v20

def k0_cond8 (v1 : BitVec 32) : BitVec 1 :=
  let c0_i32_12 : BitVec 32 := 0#32
  let v27 : BitVec 1 := Scalar.cmpi .sgt v1 c0_i32_12
  let v28 : BitVec 32 := Scalar.extui v27
  let c0_i32_13 : BitVec 32 := 0#32
  let v29 : BitVec 1 := Scalar.cmpi .ne v28 c0_i32_13
  v29

def k0_off9 (i : grid0.Coords) (c0_i32_24 : BitVec 32) : Fin 2 → Nat :=
  let c0_i32_25 : BitVec 32 := 0#32
  let arg1 : BitVec 32 := BitVec.ofNat 32 (i 1).val
  let c4_i32_23 : BitVec 32 := 4#32
  let v47 : BitVec 32 := Scalar.subi arg1 c4_i32_23
  let c2_i32 : BitVec 32 := 2#32
  let v48 : BitVec 32 := Scalar.muli v47 c2_i32
  let v49 : BitVec 32 := Scalar.addi v48 c0_i32_24
  let v51 : BitVec 32 := Scalar.addi c0_i32_25 v49
  let v52 : Index := Scalar.indexCast v51
  let c0_26 : Index := 0#32
  ![v52.toNat, 0]
def k0_cond9 (v1 : BitVec 32) : BitVec 1 :=
  let c0_i32_14 : BitVec 32 := 0#32
  let v30 : BitVec 1 := Scalar.cmpi .sle v1 c0_i32_14
  let v31 : BitVec 32 := Scalar.extui v30
  let c0_i32_15 : BitVec 32 := 0#32
  let v32 : BitVec 1 := Scalar.cmpi .ne v31 c0_i32_15
  v32

def k0_chk1 (i : grid0.Coords) (v1 : BitVec 32) : Prop :=
  (∀ (k0_h1 : k0_cond1 i v1 = 1#1), ∀ a, (k0_off3 i) a + S1x1152x512.size a ≤ S4x1152x512.size a) ∧
  (∀ (k0_h1 : k0_cond1 i v1 = 1#1), ∀ (hinb : ∀ a, (k0_off3 i) a + S1x1152x512.size a ≤ S4x1152x512.size a), (Rect.unit (s := S4x1152x512) (k0_off3 i) S1x1152x512.size hinb).PackedRows (EltTy.packing .bf16)) ∧
  (∀ (k0_h2 : k0_cond2 i v1 = 1#1), ∀ (k0_h3 : k0_cond3 v1 = 1#1), ∀ a, (k0_off4 i) a + S1x384x512.size a ≤ S4x1152x512.size a) ∧
  (∀ (k0_h2 : k0_cond2 i v1 = 1#1), ∀ (k0_h3 : k0_cond3 v1 = 1#1), ∀ (hinb : ∀ a, (k0_off4 i) a + S1x384x512.size a ≤ S4x1152x512.size a), (Rect.unit (s := S4x1152x512) (k0_off4 i) S1x384x512.size hinb).PackedRows (EltTy.packing .bf16)) ∧
  (∀ (k0_h2 : k0_cond2 i v1 = 1#1), ∀ (k0_h4 : k0_cond4 v1 = 1#1), ∀ a, (k0_off5 i) a + S1x384x512.size a ≤ S4x1152x512.size a) ∧
  (∀ (k0_h2 : k0_cond2 i v1 = 1#1), ∀ (k0_h4 : k0_cond4 v1 = 1#1), ∀ (hinb : ∀ a, (k0_off5 i) a + S1x384x512.size a ≤ S4x1152x512.size a), (Rect.unit (s := S4x1152x512) (k0_off5 i) S1x384x512.size hinb).PackedRows (EltTy.packing .bf16)) ∧
  (∀ (k0_h2 : k0_cond2 i v1 = 1#1), ∀ (k0_h5 : k0_cond5 v1 = 1#1), ∀ a, (k0_off6 i) a + S1x384x512.size a ≤ S4x1152x512.size a) ∧
  (∀ (k0_h2 : k0_cond2 i v1 = 1#1), ∀ (k0_h5 : k0_cond5 v1 = 1#1), ∀ (hinb : ∀ a, (k0_off6 i) a + S1x384x512.size a ≤ S4x1152x512.size a), (Rect.unit (s := S4x1152x512) (k0_off6 i) S1x384x512.size hinb).PackedRows (EltTy.packing .bf16)) ∧
  (∀ (k0_h6 : k0_cond6 i v1 = 1#1), ∀ (r : Fin 2), ∀ a, S1152x128.size a = 0 ∨ (k0_off7 i (BitVec.ofNat 32 r.val)) a + (![8, 1] : Fin 2 → Nat) a * (S1152x128.size a - 1) < S9216x128.size a) ∧
  (∀ (k0_h7 : k0_cond7 i v1 = 1#1), ∀ (k0_h8 : k0_cond8 v1 = 1#1), ∀ (r : Fin 2), ∀ a, S384x128.size a = 0 ∨ (k0_off8 i (BitVec.ofNat 32 r.val)) a + (![8, 1] : Fin 2 → Nat) a * (S384x128.size a - 1) < S9216x128.size a) ∧
  (∀ (k0_h7 : k0_cond7 i v1 = 1#1), ∀ (k0_h9 : k0_cond9 v1 = 1#1), ∀ (r : Fin 2), ∀ a, S384x128.size a = 0 ∨ (k0_off9 i (BitVec.ofNat 32 r.val)) a + (![8, 1] : Fin 2 → Nat) a * (S384x128.size a - 1) < S9216x128.size a)
theorem k0_off3_inb : ∀ (i : grid0.Coords) (v1 : BitVec 32) (k0_hw1 : k0_chk1 i v1), ∀ (k0_h1 : k0_cond1 i v1 = 1#1), ∀ a, (k0_off3 i) a + S1x1152x512.size a ≤ S4x1152x512.size a := fun i v1 k0_hw1 k0_h1 => k0_hw1.1 k0_h1
theorem k0_off3_packedbf16 : ∀ (i : grid0.Coords) (v1 : BitVec 32) (k0_hw1 : k0_chk1 i v1), ∀ (k0_h1 : k0_cond1 i v1 = 1#1), (Rect.unit (s := S4x1152x512) (k0_off3 i) S1x1152x512.size (k0_off3_inb i v1 k0_hw1 k0_h1)).PackedRows (EltTy.packing .bf16) := fun i v1 k0_hw1 k0_h1 => k0_hw1.2.1 k0_h1 (k0_off3_inb i v1 k0_hw1 k0_h1)
theorem k0_off4_inb : ∀ (i : grid0.Coords) (v1 : BitVec 32) (k0_hw1 : k0_chk1 i v1), ∀ (k0_h2 : k0_cond2 i v1 = 1#1), ∀ (k0_h3 : k0_cond3 v1 = 1#1), ∀ a, (k0_off4 i) a + S1x384x512.size a ≤ S4x1152x512.size a := fun i v1 k0_hw1 k0_h2 k0_h3 => k0_hw1.2.2.1 k0_h2 k0_h3
theorem k0_off4_packedbf16 : ∀ (i : grid0.Coords) (v1 : BitVec 32) (k0_hw1 : k0_chk1 i v1), ∀ (k0_h2 : k0_cond2 i v1 = 1#1), ∀ (k0_h3 : k0_cond3 v1 = 1#1), (Rect.unit (s := S4x1152x512) (k0_off4 i) S1x384x512.size (k0_off4_inb i v1 k0_hw1 k0_h2 k0_h3)).PackedRows (EltTy.packing .bf16) := fun i v1 k0_hw1 k0_h2 k0_h3 => k0_hw1.2.2.2.1 k0_h2 k0_h3 (k0_off4_inb i v1 k0_hw1 k0_h2 k0_h3)
theorem k0_off5_inb : ∀ (i : grid0.Coords) (v1 : BitVec 32) (k0_hw1 : k0_chk1 i v1), ∀ (k0_h2 : k0_cond2 i v1 = 1#1), ∀ (k0_h4 : k0_cond4 v1 = 1#1), ∀ a, (k0_off5 i) a + S1x384x512.size a ≤ S4x1152x512.size a := fun i v1 k0_hw1 k0_h2 k0_h4 => k0_hw1.2.2.2.2.1 k0_h2 k0_h4
theorem k0_off5_packedbf16 : ∀ (i : grid0.Coords) (v1 : BitVec 32) (k0_hw1 : k0_chk1 i v1), ∀ (k0_h2 : k0_cond2 i v1 = 1#1), ∀ (k0_h4 : k0_cond4 v1 = 1#1), (Rect.unit (s := S4x1152x512) (k0_off5 i) S1x384x512.size (k0_off5_inb i v1 k0_hw1 k0_h2 k0_h4)).PackedRows (EltTy.packing .bf16) := fun i v1 k0_hw1 k0_h2 k0_h4 => k0_hw1.2.2.2.2.2.1 k0_h2 k0_h4 (k0_off5_inb i v1 k0_hw1 k0_h2 k0_h4)
theorem k0_off6_inb : ∀ (i : grid0.Coords) (v1 : BitVec 32) (k0_hw1 : k0_chk1 i v1), ∀ (k0_h2 : k0_cond2 i v1 = 1#1), ∀ (k0_h5 : k0_cond5 v1 = 1#1), ∀ a, (k0_off6 i) a + S1x384x512.size a ≤ S4x1152x512.size a := fun i v1 k0_hw1 k0_h2 k0_h5 => k0_hw1.2.2.2.2.2.2.1 k0_h2 k0_h5
theorem k0_off6_packedbf16 : ∀ (i : grid0.Coords) (v1 : BitVec 32) (k0_hw1 : k0_chk1 i v1), ∀ (k0_h2 : k0_cond2 i v1 = 1#1), ∀ (k0_h5 : k0_cond5 v1 = 1#1), (Rect.unit (s := S4x1152x512) (k0_off6 i) S1x384x512.size (k0_off6_inb i v1 k0_hw1 k0_h2 k0_h5)).PackedRows (EltTy.packing .bf16) := fun i v1 k0_hw1 k0_h2 k0_h5 => k0_hw1.2.2.2.2.2.2.2.1 k0_h2 k0_h5 (k0_off6_inb i v1 k0_hw1 k0_h2 k0_h5)
theorem k0_off7_inb : ∀ (i : grid0.Coords) (v1 : BitVec 32) (k0_hw1 : k0_chk1 i v1), ∀ (k0_h6 : k0_cond6 i v1 = 1#1), ∀ (r : Fin 2), ∀ a, S1152x128.size a = 0 ∨ (k0_off7 i (BitVec.ofNat 32 r.val)) a + (![8, 1] : Fin 2 → Nat) a * (S1152x128.size a - 1) < S9216x128.size a := fun i v1 k0_hw1 k0_h6 r => k0_hw1.2.2.2.2.2.2.2.2.1 k0_h6 r
theorem k0_off8_inb : ∀ (i : grid0.Coords) (v1 : BitVec 32) (k0_hw1 : k0_chk1 i v1), ∀ (k0_h7 : k0_cond7 i v1 = 1#1), ∀ (k0_h8 : k0_cond8 v1 = 1#1), ∀ (r : Fin 2), ∀ a, S384x128.size a = 0 ∨ (k0_off8 i (BitVec.ofNat 32 r.val)) a + (![8, 1] : Fin 2 → Nat) a * (S384x128.size a - 1) < S9216x128.size a := fun i v1 k0_hw1 k0_h7 k0_h8 r => k0_hw1.2.2.2.2.2.2.2.2.2.1 k0_h7 k0_h8 r
theorem k0_off9_inb : ∀ (i : grid0.Coords) (v1 : BitVec 32) (k0_hw1 : k0_chk1 i v1), ∀ (k0_h7 : k0_cond7 i v1 = 1#1), ∀ (k0_h9 : k0_cond9 v1 = 1#1), ∀ (r : Fin 2), ∀ a, S384x128.size a = 0 ∨ (k0_off9 i (BitVec.ofNat 32 r.val)) a + (![8, 1] : Fin 2 → Nat) a * (S384x128.size a - 1) < S9216x128.size a := fun i v1 k0_hw1 k0_h7 k0_h9 r => k0_hw1.2.2.2.2.2.2.2.2.2.2 k0_h7 k0_h9 r

def k0_off10 (i : grid0.Coords) (c0_i32_56 : BitVec 32) : Fin 2 → Nat :=
  let c3072_i32 : BitVec 32 := 3072#32
  let arg1 : BitVec 32 := BitVec.ofNat 32 (i 1).val
  let c4_i32_55 : BitVec 32 := 4#32
  let v95 : BitVec 32 := Scalar.subi arg1 c4_i32_55
  let c2_i32 : BitVec 32 := 2#32
  let v96 : BitVec 32 := Scalar.muli v95 c2_i32
  let v97 : BitVec 32 := Scalar.addi v96 c0_i32_56
  let v99 : BitVec 32 := Scalar.addi c3072_i32 v97
  let v100 : Index := Scalar.indexCast v99
  let c0_57 : Index := 0#32
  ![v100.toNat, 0]
def k0_off11 (i : grid0.Coords) (c0_i32_24 : BitVec 32) : Fin 2 → Nat :=
  let c3072_i32 : BitVec 32 := 3072#32
  let arg1 : BitVec 32 := BitVec.ofNat 32 (i 1).val
  let c4_i32_23 : BitVec 32 := 4#32
  let v47 : BitVec 32 := Scalar.subi arg1 c4_i32_23
  let c2_i32 : BitVec 32 := 2#32
  let v48 : BitVec 32 := Scalar.muli v47 c2_i32
  let v49 : BitVec 32 := Scalar.addi v48 c0_i32_24
  let v51 : BitVec 32 := Scalar.addi c3072_i32 v49
  let v52 : Index := Scalar.indexCast v51
  let c0_25 : Index := 0#32
  ![v52.toNat, 0]
def k0_off12 (i : grid0.Coords) (c0_i32_56 : BitVec 32) : Fin 2 → Nat :=
  let c6144_i32 : BitVec 32 := 6144#32
  let arg1 : BitVec 32 := BitVec.ofNat 32 (i 1).val
  let c4_i32_55 : BitVec 32 := 4#32
  let v95 : BitVec 32 := Scalar.subi arg1 c4_i32_55
  let c2_i32 : BitVec 32 := 2#32
  let v96 : BitVec 32 := Scalar.muli v95 c2_i32
  let v97 : BitVec 32 := Scalar.addi v96 c0_i32_56
  let v99 : BitVec 32 := Scalar.addi c6144_i32 v97
  let v100 : Index := Scalar.indexCast v99
  let c0_57 : Index := 0#32
  ![v100.toNat, 0]
def k0_off13 (i : grid0.Coords) (c0_i32_24 : BitVec 32) : Fin 2 → Nat :=
  let c6144_i32 : BitVec 32 := 6144#32
  let arg1 : BitVec 32 := BitVec.ofNat 32 (i 1).val
  let c4_i32_23 : BitVec 32 := 4#32
  let v47 : BitVec 32 := Scalar.subi arg1 c4_i32_23
  let c2_i32 : BitVec 32 := 2#32
  let v48 : BitVec 32 := Scalar.muli v47 c2_i32
  let v49 : BitVec 32 := Scalar.addi v48 c0_i32_24
  let v51 : BitVec 32 := Scalar.addi c6144_i32 v49
  let v52 : Index := Scalar.indexCast v51
  let c0_25 : Index := 0#32
  ![v52.toNat, 0]
def k0_cond10 (v1 : BitVec 32) : BitVec 1 :=
  let c384_i32 : BitVec 32 := 384#32
  let v33 : BitVec 1 := Scalar.cmpi .sgt v1 c384_i32
  let v34 : BitVec 32 := Scalar.extui v33
  let c0_i32_16 : BitVec 32 := 0#32
  let v35 : BitVec 1 := Scalar.cmpi .ne v34 c0_i32_16
  v35

def k0_cond11 (v1 : BitVec 32) : BitVec 1 :=
  let c384_i32_17 : BitVec 32 := 384#32
  let v36 : BitVec 1 := Scalar.cmpi .sle v1 c384_i32_17
  let v37 : BitVec 32 := Scalar.extui v36
  let c0_i32_18 : BitVec 32 := 0#32
  let v38 : BitVec 1 := Scalar.cmpi .ne v37 c0_i32_18
  v38

def k0_cond12 (v1 : BitVec 32) : BitVec 1 :=
  let c768_i32 : BitVec 32 := 768#32
  let v39 : BitVec 1 := Scalar.cmpi .sgt v1 c768_i32
  let v40 : BitVec 32 := Scalar.extui v39
  let c0_i32_19 : BitVec 32 := 0#32
  let v41 : BitVec 1 := Scalar.cmpi .ne v40 c0_i32_19
  v41

def k0_cond13 (v1 : BitVec 32) : BitVec 1 :=
  let c768_i32_20 : BitVec 32 := 768#32
  let v42 : BitVec 1 := Scalar.cmpi .sle v1 c768_i32_20
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let v1 : BitVec 32 := Scalar.addi arg0 c1_i32
  let c144_i32 : BitVec 32 := 144#32
  let v2 : BitVec 32 := Scalar.minsi v1 c144_i32
  let v3 : BitVec 32 := Scalar.select v0 v2 arg0
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S145.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S145) ![v0.toNat] S1.size (k0_off1_inb i)) numel1_S1
  let c0 : Index := 0#32
  let v2 : BitVec 32 := pf.at 0 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, c0_i32.toNat, v5.toNat]

def cc0_transform_2 (k0_off1_inb : ∀ i : grid0.Coords, ∀ a, (k0_off1 i) a + S1.size a ≤ S145.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S145) ![v0.toNat] S1.size (k0_off1_inb i)) numel1_S1
  let c0 : Index := 0#32
  let v2 : BitVec 32 := pf.at 0 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c4_i32 : BitVec 32 := 4#32
  let v6 : BitVec 32 := Scalar.addi c4_i32 v5
  let c0_i32 : BitVec 32 := 0#32
  let c0_i32_1 : BitVec 32 := 0#32
  ![v1.toNat, c0_i32.toNat, v6.toNat]

def cc0_transform_3 (k0_off1_inb : ∀ i : grid0.Coords, ∀ a, (k0_off1 i) a + S1.size a ≤ S145.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S145) ![v0.toNat] S1.size (k0_off1_inb i)) numel1_S1
  let c0 : Index := 0#32
  let v2 : BitVec 32 := pf.at 0 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c0_i32 : BitVec 32 := 0#32
  let c0_i32_1 : BitVec 32 := 0#32
  ![v1.toNat, c0_i32.toNat, v5.toNat]

def cc0_transform_4 (k0_off1_inb : ∀ i : grid0.Coords, ∀ a, (k0_off1 i) a + S1.size a ≤ S145.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S145) ![v0.toNat] S1.size (k0_off1_inb i)) numel1_S1
  let c0 : Index := 0#32
  let v2 : BitVec 32 := pf.at 0 (Rect.unit (s := S1) ![0] S1.size inb_S1_S1_0) numel1_S1
  let v3 : BitVec 1 := Scalar.cmpi .slt arg0 v2
  let c3_i32 : BitVec 32 := 3#32
  let v4 : BitVec 32 := Scalar.minsi arg1 c3_i32
  let c3_i32_0 : BitVec 32 := 3#32
  let v5 : BitVec 32 := Scalar.select v3 v4 c3_i32_0
  let c4_i32 : BitVec 32 := 4#32
  let v6 : BitVec 32 := Scalar.addi c4_i32 v5
  let c0_i32 : BitVec 32 := 0#32
  let c0_i32_1 : BitVec 32 := 0#32
  ![v1.toNat, c0_i32.toNat, v6.toNat]

def cc0_transform_5 (k0_off2_inb : ∀ i : grid0.Coords, ∀ a, (k0_off2 i) a + S1.size a ≤ S145.size a) (numel1_S1 : S1.numel = 1) (k0_off1_inb : ∀ i : grid0.Coords, ∀ a, (k0_off1 i) a + S1.size a ≤ S145.size a) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c1_i32 : BitVec 32 := 1#32
  let v1 : BitVec 32 := Scalar.subi arg0 c1_i32
  let c0_i32 : BitVec 32 := 0#32
  let v2 : BitVec 32 := Scalar.maxsi v1 c0_i32
  let v3 : Index := Scalar.indexCast v2
  let v4 : BitVec 32 := pf.at 1 (Rect.unit (s := S145) ![v3.toNat] S1.size (k0_off2_inb i)) numel1_S1
  let v5 : Index := Scalar.indexCast arg0
  let v6 : BitVec 32 := pf.at 1 (Rect.unit (s := S145) ![v5.toNat] S1.size (k0_off1_inb i)) numel1_S1
  let v7 : BitVec 32 := Scalar.select v0 v4 v6
  let c0 : Index := 0#32
  let v8 : BitVec 32 := pf.at 0 (Rect.unit (s := S1) ![0] S1.size inb_S1_S1_0) numel1_S1
  let v9 : BitVec 1 := Scalar.cmpi .slt arg0 v8
  let c4_i32_0 : BitVec 32 := 4#32
  let v10 : BitVec 1 := Scalar.cmpi .sge arg1 c4_i32_0
  let v11 : BitVec 1 := Scalar.andi v9 v10
  let c4_i32_1 : BitVec 32 := 4#32
  let v12 : BitVec 32 := Scalar.subi arg1 c4_i32_1
  let c3_i32 : BitVec 32 := 3#32
  let v13 : BitVec 32 := Scalar.select v11 v12 c3_i32
  let c0_i32_2 : BitVec 32 := 0#32
  let c0_i32_3 : BitVec 32 := 0#32
  ![v7.toNat, c0_i32_2.toNat, v13.toNat]

def cc0_transform_6 (k0_off2_inb : ∀ i : grid0.Coords, ∀ a, (k0_off2 i) a + S1.size a ≤ S145.size a) (numel1_S1 : S1.numel = 1) (k0_off1_inb : ∀ i : grid0.Coords, ∀ a, (k0_off1 i) a + S1.size a ≤ S145.size a) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c1_i32 : BitVec 32 := 1#32
  let v1 : BitVec 32 := Scalar.subi arg0 c1_i32
  let c0_i32 : BitVec 32 := 0#32
  let v2 : BitVec 32 := Scalar.maxsi v1 c0_i32
  let v3 : Index := Scalar.indexCast v2
  let v4 : BitVec 32 := pf.at 1 (Rect.unit (s := S145) ![v3.toNat] S1.size (k0_off2_inb i)) numel1_S1
  let v5 : Index := Scalar.indexCast arg0
  let v6 : BitVec 32 := pf.at 1 (Rect.unit (s := S145) ![v5.toNat] S1.size (k0_off1_inb i)) numel1_S1
  let v7 : BitVec 32 := Scalar.select v0 v4 v6
  let c0 : Index := 0#32
  let v8 : BitVec 32 := pf.at 0 (Rect.unit (s := S1) ![0] S1.size inb_S1_S1_0) numel1_S1
  let v9 : BitVec 1 := Scalar.cmpi .slt arg0 v8
  let c4_i32_0 : BitVec 32 := 4#32
  let v10 : BitVec 1 := Scalar.cmpi .sge arg1 c4_i32_0
  let v11 : BitVec 1 := Scalar.andi v9 v10
  let c4_i32_1 : BitVec 32 := 4#32
  let v12 : BitVec 32 := Scalar.subi arg1 c4_i32_1
  let c3_i32 : BitVec 32 := 3#32
  let v13 : BitVec 32 := Scalar.select v11 v12 c3_i32
  let c4_i32_2 : BitVec 32 := 4#32
  let v14 : BitVec 32 := Scalar.addi c4_i32_2 v13
  let c0_i32_3 : BitVec 32 := 0#32
  let c0_i32_4 : BitVec 32 := 0#32
  ![v7.toNat, c0_i32_3.toNat, v14.toNat]

def cc0_transform_7 (k0_off2_inb : ∀ i : grid0.Coords, ∀ a, (k0_off2 i) a + S1.size a ≤ S145.size a) (numel1_S1 : S1.numel = 1) (k0_off1_inb : ∀ i : grid0.Coords, ∀ a, (k0_off1 i) a + S1.size a ≤ S145.size a) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c1_i32 : BitVec 32 := 1#32
  let v1 : BitVec 32 := Scalar.subi arg0 c1_i32
  let c0_i32 : BitVec 32 := 0#32
  let v2 : BitVec 32 := Scalar.maxsi v1 c0_i32
  let v3 : Index := Scalar.indexCast v2
  let v4 : BitVec 32 := pf.at 1 (Rect.unit (s := S145) ![v3.toNat] S1.size (k0_off2_inb i)) numel1_S1
  let v5 : Index := Scalar.indexCast arg0
  let v6 : BitVec 32 := pf.at 1 (Rect.unit (s := S145) ![v5.toNat] S1.size (k0_off1_inb i)) numel1_S1
  let v7 : BitVec 32 := Scalar.select v0 v4 v6
  let c0 : Index := 0#32
  let v8 : BitVec 32 := pf.at 0 (Rect.unit (s := S1) ![0] S1.size inb_S1_S1_0) numel1_S1
  let v9 : BitVec 1 := Scalar.cmpi .slt arg0 v8
  let c4_i32_0 : BitVec 32 := 4#32
  let v10 : BitVec 1 := Scalar.cmpi .sge arg1 c4_i32_0
  let v11 : BitVec 1 := Scalar.andi v9 v10
  let c4_i32_1 : BitVec 32 := 4#32
  let v12 : BitVec 32 := Scalar.subi arg1 c4_i32_1
  let c3_i32 : BitVec 32 := 3#32
  let v13 : BitVec 32 := Scalar.select v11 v12 c3_i32
  let c0_i32_2 : BitVec 32 := 0#32
  let c0_i32_3 : BitVec 32 := 0#32
  ![v7.toNat, c0_i32_2.toNat, v13.toNat]

def cc0_transform_8 (k0_off2_inb : ∀ i : grid0.Coords, ∀ a, (k0_off2 i) a + S1.size a ≤ S145.size a) (numel1_S1 : S1.numel = 1) (k0_off1_inb : ∀ i : grid0.Coords, ∀ a, (k0_off1 i) a + S1.size a ≤ S145.size a) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c1_i32 : BitVec 32 := 1#32
  let v1 : BitVec 32 := Scalar.subi arg0 c1_i32
  let c0_i32 : BitVec 32 := 0#32
  let v2 : BitVec 32 := Scalar.maxsi v1 c0_i32
  let v3 : Index := Scalar.indexCast v2
  let v4 : BitVec 32 := pf.at 1 (Rect.unit (s := S145) ![v3.toNat] S1.size (k0_off2_inb i)) numel1_S1
  let v5 : Index := Scalar.indexCast arg0
  let v6 : BitVec 32 := pf.at 1 (Rect.unit (s := S145) ![v5.toNat] S1.size (k0_off1_inb i)) numel1_S1
  let v7 : BitVec 32 := Scalar.select v0 v4 v6
  let c0 : Index := 0#32
  let v8 : BitVec 32 := pf.at 0 (Rect.unit (s := S1) ![0] S1.size inb_S1_S1_0) numel1_S1
  let v9 : BitVec 1 := Scalar.cmpi .slt arg0 v8
  let c4_i32_0 : BitVec 32 := 4#32
  let v10 : BitVec 1 := Scalar.cmpi .sge arg1 c4_i32_0
  let v11 : BitVec 1 := Scalar.andi v9 v10
  let c4_i32_1 : BitVec 32 := 4#32
  let v12 : BitVec 32 := Scalar.subi arg1 c4_i32_1
  let c3_i32 : BitVec 32 := 3#32
  let v13 : BitVec 32 := Scalar.select v11 v12 c3_i32
  let c4_i32_2 : BitVec 32 := 4#32
  let v14 : BitVec 32 := Scalar.addi c4_i32_2 v13
  let c0_i32_3 : BitVec 32 := 0#32
  let c0_i32_4 : BitVec 32 := 0#32
  ![v7.toNat, c0_i32_3.toNat, v14.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S9216x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S9216x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference4Ideal.lean ====
abbrev S167040x2048 : Shape := ⟨2, ![167040, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S145 : Shape := ⟨1, ![145]⟩
abbrev S1 : Shape := ⟨1, ![1]⟩
abbrev S145x1152x2048 : Shape := ⟨3, ![145, 1152, 2048]⟩
abbrev S145x1 : Shape := ⟨2, ![145, 1]⟩
abbrev S145x2048x4096 : Shape := ⟨3, ![145, 2048, 4096]⟩
abbrev S145x1152x4096 : Shape := ⟨3, ![145, 1152, 4096]⟩
abbrev S145x4096 : Shape := ⟨2, ![145, 4096]⟩
abbrev S145x1x4096 : Shape := ⟨3, ![145, 1, 4096]⟩
abbrev S_ : Shape := ⟨0, ![]⟩
abbrev S145x2048x2048 : Shape := ⟨3, ![145, 2048, 2048]⟩
abbrev S145x2048 : Shape := ⟨2, ![145, 2048]⟩
abbrev S145x1x2048 : Shape := ⟨3, ![145, 1, 2048]⟩
abbrev S145x1x1 : Shape := ⟨3, ![145, 1, 1]⟩
abbrev S167040x1024 : Shape := ⟨2, ![167040, 1024]⟩
abbrev S1336320x128 : Shape := ⟨2, ![1336320, 128]⟩

abbrev nBuf : Space → Nat
  | .hbm => 78
  | .vmem => 0
  | .smem => 0
  | _ => 0

abbrev bufTy : (tb : Table) → Fin (tcTables nBuf tb) → BufTy
  | .hbm, ⟨0, _⟩ => ⟨S167040x2048, .bf16⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048, .f32⟩
  | .hbm, ⟨5, _⟩ => ⟨S145, .i32⟩
  | .hbm, ⟨6, _⟩ => ⟨S145, .i32⟩
  | .hbm, ⟨7, _⟩ => ⟨S1, .i32⟩
  | .hbm, ⟨8, _⟩ => ⟨S145x1152x2048, .bf16⟩
  | .hbm, ⟨9, _⟩ => ⟨S145x1, .i32⟩
  | .hbm, ⟨10, _⟩ => ⟨S145x2048x4096, .f32⟩
  | .hbm, ⟨11, _⟩ => ⟨S145x2048x4096, .bf16⟩
  | .hbm, ⟨12, _⟩ => ⟨S145x1152x4096, .f32⟩
  | .hbm, ⟨13, _⟩ => ⟨S145x1, .i32⟩
  | .hbm, ⟨14, _⟩ => ⟨S145x4096, .f32⟩
  | .hbm, ⟨15, _⟩ => ⟨S145x1x4096, .f32⟩
  | .hbm, ⟨16, _⟩ => ⟨S145x1152x4096, .f32⟩
  | .hbm, ⟨17, _⟩ => ⟨S145x1152x4096, .f32⟩
  | .hbm, ⟨18, _⟩ => ⟨S145x1152x2048, .f32⟩
  | .hbm, ⟨19, _⟩ => ⟨S_, .f32⟩
  | .hbm, ⟨20, _⟩ => ⟨S145x1152x2048, .f32⟩
  | .hbm, ⟨21, _⟩ => ⟨S145x1152x2048, .f32⟩
  | .hbm, ⟨22, _⟩ => ⟨S145x1152x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S145x1152x2048, .f32⟩
  | .hbm, ⟨27, _⟩ => ⟨S145x1152x2048, .f32⟩
  | .hbm, ⟨28, _⟩ => ⟨S_, .f32⟩
  | .hbm, ⟨29, _⟩ => ⟨S145x1152x2048, .f32⟩
  | .hbm, ⟨30, _⟩ => ⟨S145x1152x2048, .f32⟩
  | .hbm, ⟨31, _⟩ => ⟨S_, .f32⟩
  | .hbm, ⟨32, _⟩ => ⟨S145x1152x2048, .f32⟩
  | .hbm, ⟨33, _⟩ => ⟨S145x1152x2048, .f32⟩
  | .hbm, ⟨34, _⟩ => ⟨S145x1152x2048, .f32⟩
  | .hbm, ⟨35, _⟩ => ⟨S145x1152x2048, .f32⟩
  | .hbm, ⟨36, _⟩ => ⟨S_, .f32⟩
  | .hbm, ⟨37, _⟩ => ⟨S145x1152x2048, .f32⟩
  | .hbm, ⟨38, _⟩ => ⟨S145x1152x2048, .f32⟩
  | .hbm, ⟨39, _⟩ => ⟨S_, .f32⟩
  | .hbm, ⟨40, _⟩ => ⟨S145x1152x2048, .f32⟩
  | .hbm, ⟨41, _⟩ => ⟨S145x1152x2048, .f32⟩
  | .hbm, ⟨42, _⟩ => ⟨S145x1152x2048, .f32⟩
  | .hbm, ⟨43, _⟩ => ⟨S_, .f32⟩
  | .hbm, ⟨44, _⟩ => ⟨S145x1152x2048, .f32⟩
  | .hbm, ⟨45, _⟩ => ⟨S145x1152x2048, .f32⟩
  | .hbm, ⟨46, _⟩ => ⟨S145x1152x2048, .f32⟩
  | .hbm, ⟨47, _⟩ => ⟨S145x1152x2048, .bf16⟩
  | .hbm, ⟨48, _⟩ => ⟨S145x1, .i32⟩
  | .hbm, ⟨49, _⟩ => ⟨S145x2048x2048, .f32⟩
  | .hbm, ⟨50, _⟩ => ⟨S145x2048x2048, .bf16⟩
  | .hbm, ⟨51, _⟩ => ⟨S145x1152x2048, .f32⟩
  | .hbm, ⟨52, _⟩ => ⟨S145x1, .i32⟩
  | .hbm, ⟨53, _⟩ => ⟨S145x2048, .f32⟩
  | .hbm, ⟨54, _⟩ => ⟨S145x1x2048, .f32⟩
  | .hbm, ⟨55, _⟩ => ⟨S145x1152x2048, .f32⟩
  | .hbm, ⟨56, _⟩ => ⟨S145x1152x2048, .f32⟩
  | .hbm, ⟨57, _⟩ => ⟨S145x1152x2048, .i32⟩
  | .hbm, ⟨58, _⟩ => ⟨S_, .i32⟩
  | .hbm, ⟨59, _⟩ => ⟨S145x1152x2048, .i32⟩
  | .hbm, ⟨60, _⟩ => ⟨S145x1152x2048, .i32⟩
  | .hbm, ⟨61, _⟩ => ⟨S_, .i32⟩
  | .hbm, ⟨62, _⟩ => ⟨S145x1152x2048, .i32⟩
  | .hbm, ⟨63, _⟩ => ⟨S145x1152x2048, .i32⟩
  | .hbm, ⟨64, _⟩ => ⟨S145x1x1, .i32⟩
  | .hbm, ⟨65, _⟩ => ⟨S145x1152x2048, .i32⟩
  | .hbm, ⟨66, _⟩ => ⟨S145x1152x2048, .i1⟩
  | .hbm, ⟨67, _⟩ => ⟨S_, .f32⟩
  | .hbm, ⟨68, _⟩ => ⟨S_, .f32⟩
  | .hbm, ⟨69, _⟩ => ⟨S145x1152x2048, .f32⟩
  | .hbm, ⟨70, _⟩ => ⟨S145x1152x2048, .f32⟩
  | .hbm, ⟨71, _⟩ => ⟨S145x1152x2048, .bf16⟩
  | .hbm, ⟨72, _⟩ => ⟨S145x1152x2048, .f32⟩
  | .hbm, ⟨73, _⟩ => ⟨S167040x2048, .f32⟩
  | .hbm, ⟨74, _⟩ => ⟨S167040x1024, .f32⟩
  | .hbm, ⟨75, _⟩ => ⟨S1336320x128, .f32⟩
  | .hbm, ⟨76, _⟩ => ⟨S167040x1024, .f32⟩
  | .hbm, ⟨77, _⟩ => ⟨S1336320x128, .f32⟩
  | _, _ => ⟨S167040x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_cst_1 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call3_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call4_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_call5_v0 : Ref sig .tc := ⟨.hbm, 68, rfl⟩
abbrev main_call5_v1 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Proof.Softmax.lean ====
/-
  Attention over one row with a sink, on the extended reals: dividing the weighted sum of the values by the
  total weight once gives what dividing every weight first gives, as long as no score is `⊤`, one score is a
  number, and the sink is not `⊤`. The values may be anything, and at a masked key (score `⊥`, weight 0) the two
  sides may even have different values.
-/
module

public import Idealize.ShloMosaic.PureOps.Ideal
public import Idealize.ShloMosaic.PureOps.Ideal.Laws
public import Idealize.ShloMosaic.Lib.IdealHost

@[expose] public section

noncomputable section

namespace Cert.Softmax

open Idealize.ShloMosaic

/-- The greatest score of a row, the sink included, started from `⊥`. -/
def rowMax (s : Fin 256 → EReal) (σ : EReal) : EReal := max (Finset.univ.fold max ⊥ s) σ

/-- The row's result: the weighted sum of the values over the total weight, the sink's weight added to the total. -/
def row (s v : Fin 256 → EReal) (σ : EReal) : EReal :=
  Ideal.div (∑ j, Ideal.exp (s j - rowMax s σ) * v j)
    ((∑ j, Ideal.exp (s j - rowMax s σ)) + Ideal.exp (σ - rowMax s σ))

theorem rowMax_ne_top {s : Fin 256 → EReal} {σ : EReal} (hs : ∀ j, s j ≠ ⊤) (hσ : σ ≠ ⊤) : rowMax s σ ≠ ⊤ := by
  have h : Finset.univ.fold max ⊥ s < ⊤ :=
    (Finset.fold_max_lt _).2 ⟨bot_lt_top, fun j _ => lt_top_iff_ne_top.2 (hs j)⟩
  exact (max_lt h (lt_top_iff_ne_top.2 hσ)).ne

theorem le_rowMax (s : Fin 256 → EReal) (σ : EReal) (j : Fin 256) : s j ≤ rowMax s σ :=
  le_max_of_le_left ((Finset.le_fold_max _).2 (.inr ⟨j, Finset.mem_univ _, le_rfl⟩))

/-- The exponential of a difference of a score that is not `⊤` and a number is a number, at least zero. -/
theorem exp_sub_coe {x : EReal} (hx : x ≠ ⊤) (r : ℝ) : ∃ p : ℝ, 0 ≤ p ∧ Ideal.exp (x - (r : EReal)) = (p : EReal) := by
  induction x with
  | bot => exact ⟨0, le_rfl, by rw [EReal.bot_sub]; simp⟩
  | top => exact absurd rfl hx
  | coe y => exact ⟨Real.exp (y - r), (Real.exp_pos _).le, by rw [← EReal.coe_sub, Ideal.exp_coe]⟩

theorem exp_sub_coe_pos (y r : ℝ) : Ideal.exp ((y : EReal) - (r : EReal)) = ((Real.exp (y - r) : ℝ) : EReal) := by
  rw [← EReal.coe_sub, Ideal.exp_coe]

/-- A number at least zero moves into a sum of extended reals. -/
theorem sum_mul_coe {ι : Type} (S : Finset ι) (f : ι → EReal) {c : ℝ} (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha, ← ih,
      EReal.right_distrib_of_nonneg_of_ne_top (by exact_mod_cast hc) (EReal.coe_ne_top c)]

theorem coe_sum {ι : Type} (S : Finset ι) (f : ι → ℝ) : (∑ j ∈ S, (f j : EReal)) = ((∑ j ∈ S, f j : ℝ) : EReal) := by
  classical
  induction S using Finset.induction_on with
  | empty => simp
  | insert a S ha ih => rw [Finset.sum_insert ha, Finset.sum_insert ha, ih, EReal.coe_add]

/-- Dividing once is dividing every weight. -/
theorem row_eq (s v v' : Fin 256 → EReal) (σ : EReal) (hs : ∀ j, s j ≠ ⊤) (hσ : σ ≠ ⊤) (j0 : Fin 256) (hj0 : s j0 ≠ ⊥)
    (hv : ∀ j, s j ≠ ⊥ → v j = v' j) :
    row s v σ = ∑ j, v' j * Ideal.div (Ideal.exp (s j - rowMax s σ))
      ((∑ j, Ideal.exp (s j - rowMax s σ)) + Ideal.exp (σ - rowMax s σ)) := by
  have ht := rowMax_ne_top hs hσ
  have hb : rowMax s σ ≠ ⊥ := fun h => hj0 (le_bot_iff.1 (h ▸ le_rowMax s σ j0))
  obtain ⟨r, hr⟩ : ∃ r : ℝ, rowMax s σ = (r : EReal) := ⟨_, (EReal.coe_toReal ht hb).symm⟩
  unfold row
  rw [hr]
  choose p hp0 hp using fun j => exp_sub_coe (hs j) r
  obtain ⟨q, hq0, hq⟩ := exp_sub_coe hσ r
  have hpos : 0 < p j0 := by
    obtain ⟨y, hy⟩ : ∃ y : ℝ, s j0 = (y : EReal) := ⟨_, (EReal.coe_toReal (hs j0) hj0).symm⟩
    have h := hp j0
    rw [hy, exp_sub_coe_pos] at h
    rw [← EReal.coe_eq_coe_iff.1 h]
    exact Real.exp_pos _
  have hsum : 0 < (∑ j, p j) + q :=
    add_pos_of_pos_of_nonneg (Finset.sum_pos' (fun j _ => hp0 j) ⟨j0, Finset.mem_univ _, hpos⟩) hq0
  simp only [hp, hq]
  rw [coe_sum, ← EReal.coe_add, Ideal.div_coe hsum.ne', sum_mul_coe _ _ (by positivity)]
  refine Finset.sum_congr rfl fun j _ => ?_
  rw [Ideal.div_coe hsum.ne']
  by_cases hj : s j = ⊥
  · have h0 : p j = 0 := by
      have h := hp j
      rw [hj, EReal.bot_sub, Ideal.exp_bot] at h
      exact (EReal.coe_eq_zero.1 h.symm)
    rw [h0]; simp
  · rw [hv j hj, mul_comm ((p j : EReal)) (v' j), mul_assoc]

/-- The scale of the scores is one eighth. -/
theorem ofBits_eighth : Ideal.ofBits .f32 0x3E000000#32 = (((1 : ℝ) / 8 : ℝ) : EReal) := by
  simp [Ideal.ofBits, Ideal.ieee, -EReal.coe_mul]; norm_num

theorem ofBits_negInf : Ideal.ofBits .f32 0xFF800000#32 = ⊥ := by simp [Ideal.ofBits, Ideal.ieee]

theorem ofBits_posInf : Ideal.ofBits .f32 0x7F800000#32 = ⊤ := by simp [Ideal.ofBits, Ideal.ieee]

theorem ofBits_posInf_bf16 : Ideal.ofBits .bf16 0x7F80#16 = ⊤ := by simp [Ideal.ofBits, Ideal.ieee]

theorem ofBits_negInf_bf16 : Ideal.ofBits .bf16 0xFF80#16 = ⊥ := by simp [Ideal.ofBits, Ideal.ieee]

/-- A sum of products of numbers is a number. -/
theorem sum_mul_finite {n : Nat} (f g : Fin n → EReal) (hf : ∀ d, f d ≠ ⊤ ∧ f d ≠ ⊥) (hg : ∀ d, g d ≠ ⊤ ∧ g d ≠ ⊥) :
    ∃ r : ℝ, ∑ d, f d * g d = (r : EReal) := by
  refine ⟨∑ d, (f d).toReal * (g d).toReal, ?_⟩
  rw [← coe_sum]
  refine Finset.sum_congr rfl fun d _ => ?_
  rw [EReal.coe_mul, EReal.coe_toReal (hf d).1 (hf d).2, EReal.coe_toReal (hg d).1 (hg d).2]

end Cert.Softmax

end
-- ==== Proof.Words.lean ====
/- Comparisons of small 32-bit words, as comparisons of numbers, and selection by such a comparison. -/
module

public import Idealize.ShloMosaic.PureOps

@[expose] public section

namespace Cert.Words

open Idealize.ShloMosaic

theorem toInt_small (a : Nat) (h : a < 2147483648) : (BitVec.ofNat 32 a).toInt = (a : Int) := by
  have e : (BitVec.ofNat 32 a).toNat = a := by rw [BitVec.toNat_ofNat]; exact Nat.mod_eq_of_lt (by omega)
  rw [BitVec.toInt_eq_toNat_of_lt (by rw [e]; omega), e]

theorem sgt_small (a b : Nat) (ha : a < 2147483648) (hb : b < 2147483648) :
    IntOp.cmpi .sgt (BitVec.ofNat 32 a) (BitVec.ofNat 32 b) = BitVec.ofBool (decide (b < a)) := by
  unfold IntOp.cmpi
  dsimp only
  rw [BitVec.slt_eq_decide, toInt_small a ha, toInt_small b hb]
  simp

theorem slt_small (a b : Nat) (ha : a < 2147483648) (hb : b < 2147483648) :
    IntOp.cmpi .slt (BitVec.ofNat 32 a) (BitVec.ofNat 32 b) = BitVec.ofBool (decide (a < b)) := by
  unfold IntOp.cmpi
  dsimp only
  rw [BitVec.slt_eq_decide, toInt_small a ha, toInt_small b hb]
  simp

theorem sle_small (a b : Nat) (ha : a < 2147483648) (hb : b < 2147483648) :
    IntOp.cmpi .sle (BitVec.ofNat 32 a) (BitVec.ofNat 32 b) = BitVec.ofBool (decide (a ≤ b)) := by
  unfold IntOp.cmpi
  dsimp only
  rw [BitVec.sle_eq_decide, toInt_small a ha, toInt_small b hb]
  simp

theorem eq_small (a b : Nat) (ha : a < 2147483648) (hb : b < 2147483648) :
    IntOp.cmpi .eq (BitVec.ofNat 32 a) (BitVec.ofNat 32 b) = BitVec.ofBool (decide (a = b)) := by
  unfold IntOp.cmpi
  dsimp only
  congr 1
  rw [Bool.eq_iff_iff, beq_iff_eq, decide_eq_true_iff]
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

theorem and_ofBool (a b : Bool) : IntOp.andi (BitVec.ofBool a) (BitVec.ofBool b) = BitVec.ofBool (a && b) := by
  cases a <;> cases b <;> rfl

theorem not_ofBool (a : Bool) : ~~~(BitVec.ofBool a) = BitVec.ofBool (!a) := by cases a <;> rfl

theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

end Cert.Words
-- ==== Proof.KernelHead.lean ====
/- One group of heads of the attention kernel's body as a function of the vectors it reads, and its value at an
   index: a row of the softmax with a sink. -/
module

public import proofs.«01_k».proof.Proof.Softmax
public import proofs.«01_k».proof.Proof.Words
public import proofs.«01_k».proof.Proof.Gen.KernelIdeal.Skeleton
public import Idealize.ShloMosaic.Lib.Pipeline.Value
public import Idealize.ShloMosaic.Lib.ValueIdx
public import Idealize.ShloMosaic.PureOps.Ideal.Laws

@[expose] public section

noncomputable section

namespace Cert.KernelHead

open Idealize.ShloMosaic Idealize.ShloMosaic.ValueIdx Cert.KernelIdeal Cert.KernelIdeal.Gen Cert.Softmax Cert.Words

/-! ## The body's pieces, named -/

/-- The masked, scaled scores of the 512 stacked queries against the 256 keys. -/
def scores (valid : IVec S512x256 1) (kc : FVec Ideal S256x64 .bf16) (qg : FVec Ideal S512x64 .bf16) : FVec Ideal S512x256 .f32 :=
  select valid
    (mulf (matmul dot_S512x64_S256x64_S512x256_1_1_0_0_n_n none qg kc (constant S512x256 .f32 0x00000000#32))
      (broadcast S512x256 (Scalar.ofBits .f32 0x3E000000#32)))
    (broadcast S512x256 (Named.named κ "mask" 0xF149F2CA#32))

/-- The row maxima, over the scores and the sink. -/
def maxima (s : FVec Ideal S512x256 .f32) (sk : FVec Ideal S512x1 .f32) : FVec Ideal S512x1 .f32 :=
  maximumf (shapeCast S512x1 (multiReduction .maximumf [1] S512 s 0xFF800000#32 reduces_S512x256_S512 (.inl rfl) rfl)
    shapeCasts_S512_S512x1) sk

/-- The exponentials of the scores less their row's maximum. -/
def weights (s : FVec Ideal S512x256 .f32) (sk : FVec Ideal S512x1 .f32) : FVec Ideal S512x256 .bf16 :=
  truncf .bf16 (exp (subf s (broadcastTo S512x256 (maxima s sk) broadcasts_S512x1_S512x256))) bitsLt_bf16_f32

/-- The weighted values over the weights' sum with the sink's term. -/
def head (valid : IVec S512x256 1) (kc vc : FVec Ideal S256x64 .bf16) (qg : FVec Ideal S512x64 .bf16)
    (sk : FVec Ideal S512x1 .f32) : FVec Ideal S512x64 .f32 :=
  divf
    (matmul dot_S512x256_S256x64_S512x64_1_0_0_1_n_n none (weights (scores valid kc qg) sk) vc (constant S512x64 .f32 0x00000000#32))
    (addf
      (matmul dot_S512x256_S256x64_S512x64_1_0_0_1_n_n none (weights (scores valid kc qg) sk)
        (broadcast S256x64 (Scalar.ofBits .bf16 0x3F80#16)) (constant S512x64 .f32 0x00000000#32))
      (broadcastTo S512x64 (exp (subf sk (maxima (scores valid kc qg) sk))) broadcasts_S512x1_S512x64))

/-- The sinks of four heads, each over its 128 stacked rows. -/
def sinkColumn (g : IVec S512x1 32) (s0 s1 s2 s3 : Vec Ideal S1x1 .f32) : FVec Ideal S512x1 .f32 :=
  select (cmpi .eq g (broadcast S512x1 3#32))
    (broadcastTo S512x1 (shapeCast S1x1 (shapeCast S1x1 s3 shapeCasts_S1x1_S1x1) shapeCasts_S1x1_S1x1) broadcasts_S1x1_S512x1)
    (select (cmpi .eq g (broadcast S512x1 2#32))
      (broadcastTo S512x1 (shapeCast S1x1 (shapeCast S1x1 s2 shapeCasts_S1x1_S1x1) shapeCasts_S1x1_S1x1) broadcasts_S1x1_S512x1)
      (select (cmpi .eq g (broadcast S512x1 1#32))
        (broadcastTo S512x1 (shapeCast S1x1 (shapeCast S1x1 s1 shapeCasts_S1x1_S1x1) shapeCasts_S1x1_S1x1) broadcasts_S1x1_S512x1)
        (select (cmpi .eq g (broadcast S512x1 0#32))
          (broadcastTo S512x1 (shapeCast S1x1 (shapeCast S1x1 s0 shapeCasts_S1x1_S1x1) shapeCasts_S1x1_S1x1) broadcasts_S1x1_S512x1)
          (broadcast S512x1 (Scalar.ofBits .f32 0x00000000#32)))))

/-- Four heads' queries, one under the other. -/
def stack (f : Fin 4 → FVec Ideal S128x64 .bf16) : FVec Ideal S512x64 .bf16 :=
  concatenate S512x64 0 [⟨S128x64, f 0⟩, ⟨S128x64, f 1⟩, ⟨S128x64, f 2⟩, ⟨S128x64, f 3⟩]
    concatenates_S128x64_S128x64_S128x64_S128x64_S512x64_d0

/-- Two blocks of keys or values, one under the other. -/
def join (u v : Vec Ideal S1x128x64 .bf16) : FVec Ideal S256x64 .bf16 :=
  concatenate S256x64 0 [⟨S128x64, shapeCast S128x64 u shapeCasts_S1x128x64_S128x64⟩,
    ⟨S128x64, shapeCast S128x64 v shapeCasts_S1x128x64_S128x64⟩] concatenates_S128x64_S128x64_S256x64_d0

/-- Sixteen heads' results, side by side. -/
def spread (f : Fin 16 → FVec Ideal S128x64 .f32) : FVec Ideal S1x128x1024 .bf16 :=
  shapeCast S1x128x1024 (truncf .bf16 (concatenate S128x1024 1 [⟨S128x64, f 0⟩, ⟨S128x64, f 1⟩, ⟨S128x64, f 2⟩, ⟨S128x64, f 3⟩,
    ⟨S128x64, f 4⟩, ⟨S128x64, f 5⟩, ⟨S128x64, f 6⟩, ⟨S128x64, f 7⟩, ⟨S128x64, f 8⟩, ⟨S128x64, f 9⟩, ⟨S128x64, f 10⟩, ⟨S128x64, f 11⟩,
    ⟨S128x64, f 12⟩, ⟨S128x64, f 13⟩, ⟨S128x64, f 14⟩, ⟨S128x64, f 15⟩]
    concatenates_S128x64_S128x64_S128x64_S128x64_S128x64_S128x64_S128x64_S128x64_S128x64_S128x64_S128x64_S128x64_S128x64_S128x64_S128x64_S128x64_S128x1024_d1)
    bitsLt_bf16_f32) shapeCasts_S128x1024_S1x128x1024

/-! ## Their values at an index -/

theorem lhs_qk_0 (i : S512x256.Idx) (q : dot_S512x64_S256x64_S512x256_1_1_0_0_n_n.contr.Idx) :
    (dot_S512x64_S256x64_S512x256_1_1_0_0_n_n.lhsIdx i q 0).val = (i 0).val := by
  unfold DotDims.lhsIdx
  rw [dif_neg (show ¬(0 : Fin S512x64.rank) ∈ dot_S512x64_S256x64_S512x256_1_1_0_0_n_n.lhsBatch by decide),
    dif_pos (show (0 : Fin S512x64.rank) ∈ dot_S512x64_S256x64_S512x256_1_1_0_0_n_n.lhsNonContracting by decide)]
  rfl

theorem rhs_qk_0 (i : S512x256.Idx) (q : dot_S512x64_S256x64_S512x256_1_1_0_0_n_n.contr.Idx) :
    (dot_S512x64_S256x64_S512x256_1_1_0_0_n_n.rhsIdx i q 0).val = (i 1).val := by
  unfold DotDims.rhsIdx
  rw [dif_neg (show ¬(0 : Fin S256x64.rank) ∈ dot_S512x64_S256x64_S512x256_1_1_0_0_n_n.rhsBatch by decide),
    dif_pos (show (0 : Fin S256x64.rank) ∈ dot_S512x64_S256x64_S512x256_1_1_0_0_n_n.rhsNonContracting by decide)]
  rfl

theorem lhs_pv_0 (i : S512x64.Idx) (q : dot_S512x256_S256x64_S512x64_1_0_0_1_n_n.contr.Idx) :
    (dot_S512x256_S256x64_S512x64_1_0_0_1_n_n.lhsIdx i q 0).val = (i 0).val := by
  unfold DotDims.lhsIdx
  rw [dif_neg (show ¬(0 : Fin S512x256.rank) ∈ dot_S512x256_S256x64_S512x64_1_0_0_1_n_n.lhsBatch by decide),
    dif_pos (show (0 : Fin S512x256.rank) ∈ dot_S512x256_S256x64_S512x64_1_0_0_1_n_n.lhsNonContracting by decide)]
  rfl

theorem rhs_pv_1 (i : S512x64.Idx) (q : dot_S512x256_S256x64_S512x64_1_0_0_1_n_n.contr.Idx) :
    (dot_S512x256_S256x64_S512x64_1_0_0_1_n_n.rhsIdx i q 1).val = (i 1).val := by
  unfold DotDims.rhsIdx
  rw [dif_neg (show ¬(1 : Fin S256x64.rank) ∈ dot_S512x256_S256x64_S512x64_1_0_0_1_n_n.rhsBatch by decide),
    dif_pos (show (1 : Fin S256x64.rank) ∈ dot_S512x256_S256x64_S512x64_1_0_0_1_n_n.rhsNonContracting by decide)]
  rfl

/-- The product of the stacked queries with the keys. -/
theorem qk_at (u : FVec Ideal S512x64 .bf16) (v : FVec Ideal S256x64 .bf16) (r : Fin 512) (j : Fin 256) :
    matmul dot_S512x64_S256x64_S512x256_1_1_0_0_n_n none u v (constant S512x256 .f32 0x00000000#32) (ix2 r j)
      = ∑ d : Fin 64, u (ix2 r d) * v (ix2 j d) := by
  refine (Ideal.matmul_constant_zero_apply _ none _ _ _).trans ?_
  rw [← Equiv.sum_comp (contrEquiv1 dot_S512x64_S256x64_S512x256_1_1_0_0_n_n 64 rfl rfl).symm]
  refine Finset.sum_congr rfl fun d _ => ?_
  have hk := contrEquiv1_symm_val dot_S512x64_S256x64_S512x256_1_1_0_0_n_n 64 rfl rfl d
  refine congrArg₂ (· * ·) (congrArg u (funext fun a => Fin.ext ?_)) (congrArg v (funext fun a => Fin.ext ?_))
  · match a with
    | ⟨0, _⟩ => exact lhs_qk_0 _ _
    | ⟨1, _⟩ => exact (dot_S512x64_S256x64_S512x256_1_1_0_0_n_n.lhsIdx_val_of_single rfl _ _).trans hk
  · match a with
    | ⟨0, _⟩ => exact rhs_qk_0 _ _
    | ⟨1, _⟩ => exact (dot_S512x64_S256x64_S512x256_1_1_0_0_n_n.rhsIdx_val_of_single rfl _ _).trans hk

/-- The product of the weights with the values. -/
theorem pv_at (u : FVec Ideal S512x256 .bf16) (v : FVec Ideal S256x64 .bf16) (r : Fin 512) (d : Fin 64) :
    matmul dot_S512x256_S256x64_S512x64_1_0_0_1_n_n none u v (constant S512x64 .f32 0x00000000#32) (ix2 r d)
      = ∑ j : Fin 256, u (ix2 r j) * v (ix2 j d) := by
  refine (Ideal.matmul_constant_zero_apply _ none _ _ _).trans ?_
  rw [← Equiv.sum_comp (contrEquiv1 dot_S512x256_S256x64_S512x64_1_0_0_1_n_n 256 rfl rfl).symm]
  refine Finset.sum_congr rfl fun j _ => ?_
  have hk := contrEquiv1_symm_val dot_S512x256_S256x64_S512x64_1_0_0_1_n_n 256 rfl rfl j
  refine congrArg₂ (· * ·) (congrArg u (funext fun a => Fin.ext ?_)) (congrArg v (funext fun a => Fin.ext ?_))
  · match a with
    | ⟨0, _⟩ => exact lhs_pv_0 _ _
    | ⟨1, _⟩ => exact (dot_S512x256_S256x64_S512x64_1_0_0_1_n_n.lhsIdx_val_of_single rfl _ _).trans hk
  · match a with
    | ⟨0, _⟩ => exact (dot_S512x256_S256x64_S512x64_1_0_0_1_n_n.rhsIdx_val_of_single rfl _ _).trans hk
    | ⟨1, _⟩ => exact rhs_pv_1 _ _

theorem scores_at (valid : IVec S512x256 1) (kc : FVec Ideal S256x64 .bf16) (qg : FVec Ideal S512x64 .bf16) (r : Fin 512) (j : Fin 256)
    (p : Prop) [Decidable p] (hp : valid (ix2 r j) = BitVec.ofBool (decide p)) :
    scores valid kc qg (ix2 r j)
      = if p then (∑ d : Fin 64, qg (ix2 r d) * kc (ix2 j d)) * Ideal.ofBits .f32 0x3E000000#32 else ⊥ := by
  show Scalar.select (valid (ix2 r j)) (_ * _) (Named.named (F := Ideal) κ "mask" (φ := .f32) 0xF149F2CA#32) = _
  rw [hp, select_ofBool, qk_at, IdealRules.named_const.ideal_named_scalar κ "mask" _ ⊥ rfl]
  rfl

theorem maxima_at (s : FVec Ideal S512x256 .f32) (sk : FVec Ideal S512x1 .f32) (r : Fin 512) :
    maxima s sk (ix2 r 0) = rowMax (fun j => s (ix2 r j)) (sk (ix2 r 0)) := by
  show max (shapeCast S512x1 _ _ (ix2 r 0)) _ = _
  unfold rowMax
  have e : shapeCast S512x1 (multiReduction .maximumf [1] S512 s 0xFF800000#32 reduces_S512x256_S512 (.inl rfl) rfl)
      shapeCasts_S512_S512x1 (ix2 r 0) = Finset.univ.fold max ⊥ (fun j : Fin 256 => s (ix2 r j)) := by
    refine (shapeCast_apply _ _ _ (ix1 r) ?_).trans ?_
    · rw [Shape.rowMajor_val_two, Shape.rowMajor_val_one]
      show r.val = r.val * 1 + 0
      omega
    · refine (Ideal.multiReduction_maximumf_single _ _ _ _ _ _).trans ?_
      have hx : s ∘ Shape.Reduces.lift reduces_S512x256_S512 (ix1 r) = fun j : Fin 256 => s (ix2 r j) :=
        funext fun j => congrArg s (funext fun a => Fin.ext (by match a with | ⟨0, _⟩ => rfl | ⟨1, _⟩ => rfl))
      have hc : (FloatOps.ofBits (F := Ideal) .f32 0xFF800000#32 : EReal) = ⊥ := ofBits_negInf
      rw [hx, hc]
      rfl
  rw [e]

theorem weights_at (s : FVec Ideal S512x256 .f32) (sk : FVec Ideal S512x1 .f32) (r : Fin 512) (j : Fin 256) :
    weights s sk (ix2 r j) = Ideal.exp (s (ix2 r j) - rowMax (fun j => s (ix2 r j)) (sk (ix2 r 0))) := by
  rw [← maxima_at]
  show Ideal.exp (s (ix2 r j) - broadcastTo S512x256 (maxima s sk) broadcasts_S512x1_S512x256 (ix2 r j)) = _
  rw [broadcastTo_apply _ _ (ix2 r j) (ix2 r 0) (fun a => by match a with | ⟨0, _⟩ => rfl | ⟨1, _⟩ => rfl)]

/-- A group's value: the softmax row of its scores, values and sink. -/
theorem head_at (valid : IVec S512x256 1) (kc vc : FVec Ideal S256x64 .bf16) (qg : FVec Ideal S512x64 .bf16)
    (sk : FVec Ideal S512x1 .f32) (r : Fin 512) (d : Fin 64) :
    head valid kc vc qg sk (ix2 r d) = row (fun j => scores valid kc qg (ix2 r j)) (fun j => vc (ix2 j d)) (sk (ix2 r 0)) := by
  have e : head valid kc vc qg sk (ix2 r d) = Ideal.div
      (matmul dot_S512x256_S256x64_S512x64_1_0_0_1_n_n none (weights (scores valid kc qg) sk) vc (constant S512x64 .f32 0x00000000#32)
        (ix2 r d))
      (matmul dot_S512x256_S256x64_S512x64_1_0_0_1_n_n none (weights (scores valid kc qg) sk)
          (broadcast S256x64 (Scalar.ofBits .bf16 0x3F80#16)) (constant S512x64 .f32 0x00000000#32) (ix2 r d)
        + broadcastTo S512x64 (exp (subf sk (maxima (scores valid kc qg) sk))) broadcasts_S512x1_S512x64 (ix2 r d)) := rfl
  rw [e, pv_at, pv_at, broadcastTo_apply _ _ (ix2 r d) (ix2 r 0) (fun a => by match a with | ⟨0, _⟩ => rfl | ⟨1, _⟩ => rfl)]
  unfold row
  simp only [weights_at]
  have h1 : ∀ j : Fin 256, (broadcast S256x64 (Scalar.ofBits (F := Ideal) .bf16 0x3F80#16)) (ix2 j d) = (1 : EReal) :=
    fun _ => Ideal.ofBits_one_bf16
  have hs : exp (subf sk (maxima (scores valid kc qg) sk)) (ix2 r 0)
      = Ideal.exp (sk (ix2 r 0) - rowMax (fun j => scores valid kc qg (ix2 r j)) (sk (ix2 r 0))) := by
    rw [← maxima_at]; rfl
  rw [hs]
  simp only [h1, mul_one]

theorem group_at (r : Fin 512) : (k0_pay7 (ix2 r 0) : BitVec 32) = BitVec.ofNat 32 (r.val / 128) := by
  revert r
  decide +kernel

theorem sinkColumn_at (s0 s1 s2 s3 : Vec Ideal S1x1 .f32) (r : Fin 512) (s : Fin 4 → Vec Ideal S1x1 .f32)
    (h0 : s 0 = s0) (h1 : s 1 = s1) (h2 : s 2 = s2) (h3 : s 3 = s3) :
    sinkColumn k0_pay7 s0 s1 s2 s3 (ix2 r 0) = s ⟨r.val / 128, by omega⟩ (ix2 0 0) := by
  have hb : ∀ u : Vec Ideal S1x1 .f32,
      broadcastTo S512x1 (shapeCast S1x1 (shapeCast S1x1 u shapeCasts_S1x1_S1x1) shapeCasts_S1x1_S1x1) broadcasts_S1x1_S512x1 (ix2 r 0)
        = u (ix2 0 0) := by
    intro u
    rw [broadcastTo_apply _ _ (ix2 r 0) (ix2 0 0) (fun a => by match a with | ⟨0, _⟩ => rfl | ⟨1, _⟩ => rfl),
      shapeCast_apply _ _ _ (ix2 0 0) rfl, shapeCast_apply _ _ _ (ix2 0 0) rfl]
  show Scalar.select (IntOp.cmpi .eq (k0_pay7 (ix2 r 0)) 3#32) (broadcastTo S512x1 _ _ (ix2 r 0))
    (Scalar.select (IntOp.cmpi .eq (k0_pay7 (ix2 r 0)) 2#32) (broadcastTo S512x1 _ _ (ix2 r 0))
      (Scalar.select (IntOp.cmpi .eq (k0_pay7 (ix2 r 0)) 1#32) (broadcastTo S512x1 _ _ (ix2 r 0))
        (Scalar.select (IntOp.cmpi .eq (k0_pay7 (ix2 r 0)) 0#32) (broadcastTo S512x1 _ _ (ix2 r 0)) _))) = _
  rw [hb, hb, hb, hb, group_at, eq_small _ 3 (by omega) (by omega), eq_small _ 2 (by omega) (by omega),
    eq_small _ 1 (by omega) (by omega), eq_small _ 0 (by omega) (by omega), select_ofBool, select_ofBool, select_ofBool, select_ofBool]
  have hr : r.val / 128 < 4 := by omega
  rcases (by omega : r.val / 128 = 0 ∨ r.val / 128 = 1 ∨ r.val / 128 = 2 ∨ r.val / 128 = 3) with h | h | h | h
  · have e : (⟨r.val / 128, hr⟩ : Fin 4) = 0 := Fin.ext h
    rw [e, h0, h]; rfl
  · have e : (⟨r.val / 128, hr⟩ : Fin 4) = 1 := Fin.ext h
    rw [e, h1, h]; rfl
  · have e : (⟨r.val / 128, hr⟩ : Fin 4) = 2 := Fin.ext h
    rw [e, h2, h]; rfl
  · have e : (⟨r.val / 128, hr⟩ : Fin 4) = 3 := Fin.ext h
    rw [e, h3, h]; rfl

theorem stack_at (f : Fin 4 → FVec Ideal S128x64 .bf16) (r : Fin 512) (d : Fin 64) :
    stack f (ix2 r d) = f ⟨r.val / 128, by omega⟩ (ix2 ⟨r.val % 128, by omega⟩ d) := by
  unfold stack
  refine concatenate_ofFn_apply (t := S512x64) (s₁ := S128x64) (0 : Fin 2) f concatenates_S128x64_S128x64_S128x64_S128x64_S512x64_d0 rfl 128 rfl (ix2 r d)
    ⟨r.val / 128, by omega⟩ rfl (ix2 ⟨r.val % 128, by omega⟩ d) rfl (fun b hb => ?_)
  match b with
  | ⟨0, _⟩ => exact absurd rfl hb
  | ⟨1, _⟩ => rfl

theorem spread_at (f : Fin 16 → FVec Ideal S128x64 .f32) (q : Fin 128) (c : Fin 1024) :
    spread f (ix3 0 q c) = f ⟨c.val / 64, by omega⟩ (ix2 q ⟨c.val % 64, by omega⟩) := by
  unfold spread
  refine (shapeCast_apply _ _ _ (ix2 q c) ?_).trans ?_
  · rw [Shape.rowMajor_val_three, Shape.rowMajor_val_two]
    show q.val * 1024 + c.val = (0 * 128 + q.val) * 1024 + c.val
    omega
  · refine concatenate_ofFn_apply (t := S128x1024) (s₁ := S128x64) (1 : Fin 2) f
      concatenates_S128x64_S128x64_S128x64_S128x64_S128x64_S128x64_S128x64_S128x64_S128x64_S128x64_S128x64_S128x64_S128x64_S128x64_S128x64_S128x64_S128x1024_d1
      rfl 64 rfl (ix2 q c) ⟨c.val / 64, by omega⟩ rfl (ix2 q ⟨c.val % 64, by omega⟩) rfl (fun b hb => ?_)
    match b with
    | ⟨0, _⟩ => rfl
    | ⟨1, _⟩ => exact absurd rfl hb

theorem join_low (u v : Vec Ideal S1x128x64 .bf16) (j : Fin 256) (d : Fin 64) (h : j.val < 128) :
    join u v (ix2 j d) = u (ix3 0 ⟨j.val, h⟩ d) := by
  unfold join
  refine (concatenate_pair_apply_left (t := S256x64) (s₁ := S128x64) (s₂ := S128x64) (0 : Fin 2) _ _ _ (ix2 j d) rfl (ix2 (⟨j.val, h⟩ : Fin 128) d)
    (fun b => by match b with | ⟨0, _⟩ => rfl | ⟨1, _⟩ => rfl)).trans ?_
  refine shapeCast_apply _ _ _ _ ?_
  rw [Shape.rowMajor_val_three, Shape.rowMajor_val_two]
  show (0 * 128 + j.val) * 64 + d.val = j.val * 64 + d.val
  omega

theorem join_high (u v : Vec Ideal S1x128x64 .bf16) (j : Fin 256) (d : Fin 64) (h : 128 ≤ j.val) :
    join u v (ix2 j d) = v (ix3 0 ⟨j.val - 128, by omega⟩ d) := by
  unfold join
  refine (concatenate_pair_apply_right (t := S256x64) (s₁ := S128x64) (s₂ := S128x64) (0 : Fin 2) _ _ _ (ix2 j d) rfl rfl (ix2 (⟨j.val - 128, by omega⟩ : Fin 128) d)
    (fun b hb => by match b with | ⟨0, _⟩ => exact absurd rfl hb | ⟨1, _⟩ => rfl)
    (by show j.val - 128 + 128 = j.val; omega)).trans ?_
  refine shapeCast_apply _ _ _ _ ?_
  rw [Shape.rowMajor_val_three, Shape.rowMajor_val_two]
  show (0 * 128 + (j.val - 128)) * 64 + d.val = (j.val - 128) * 64 + d.val
  omega

end Cert.KernelHead
-- ==== Proof.Attention.lean ====
/-
  The attention both programs compute, as one function of the two argument arrays: query row `q` of block `n` of
  sequence `b`, in head `h`, looks at the block before its own and at its own block.
-/
module

public import proofs.«01_k».proof.Proof.Softmax
public import Idealize.ShloMosaic.Lib.ValueIdx

@[expose] public section

noncomputable section

namespace Cert.Attention

open Idealize.ShloMosaic Idealize.ShloMosaic.ValueIdx Cert.Softmax

/-- The packed queries, keys and values, and the sinks. -/
abbrev QKV : Type := (⟨2, ![32768, 1536]⟩ : Shape).Idx → EReal
abbrev Sinks : Type := (⟨1, ![16]⟩ : Shape).Idx → EReal

/-- Row of the packed array that query `q` of block `n` of sequence `b` is in. -/
def qrow (b : Fin 2) (n q : Fin 128) : Fin 32768 := ⟨b.val * 16384 + n.val * 128 + q.val, by omega⟩

/-- Row of key `j` of the 256 that block `n` looks at: the block before (or, in the first block, its own), then its own. -/
def krow (b : Fin 2) (n : Fin 128) (j : Fin 256) : Fin 32768 :=
  ⟨if j.val < 128 then b.val * 16384 + (n.val - 1) * 128 + j.val else b.val * 16384 + n.val * 128 + (j.val - 128), by
    split <;> omega⟩

/-- Key `j` is one of the 128 that query `q` may look at: in its window, and inside the sequence. -/
def visible (n q : Fin 128) (j : Fin 256) : Prop :=
  q.val < j.val ∧ j.val ≤ q.val + 128 ∧ ¬(n.val = 0 ∧ j.val < 128)

instance (n q : Fin 128) (j : Fin 256) : Decidable (visible n q j) := by unfold visible; infer_instance

def qcol (h : Fin 16) (d : Fin 64) : Fin 1536 := ⟨h.val * 64 + d.val, by omega⟩
def kcol (h : Fin 16) (d : Fin 64) : Fin 1536 := ⟨1024 + h.val / 4 * 64 + d.val, by omega⟩
def vcol (h : Fin 16) (d : Fin 64) : Fin 1536 := ⟨1280 + h.val / 4 * 64 + d.val, by omega⟩

/-- The scaled score of key `j`, `⊥` where the query may not look. -/
def score (x : QKV) (b : Fin 2) (n q : Fin 128) (h : Fin 16) (j : Fin 256) : EReal :=
  if visible n q j then
    (∑ d : Fin 64, x (ix2 (qrow b n q) (qcol h d)) * x (ix2 (krow b n j) (kcol h d))) * Ideal.ofBits .f32 0x3E000000#32
  else ⊥

def value (x : QKV) (b : Fin 2) (n : Fin 128) (h : Fin 16) (d : Fin 64) (j : Fin 256) : EReal :=
  x (ix2 (krow b n j) (vcol h d))

/-- The attention, at a block's query, a head and a column of it. -/
def attend (x : QKV) (s : Sinks) (b : Fin 2) (n q : Fin 128) (h : Fin 16) (d : Fin 64) : EReal :=
  row (score x b n q h) (value x b n h d) (s (ix1 h))

/-- The attention, at an index of the result. -/
def out (x : QKV) (s : Sinks) (i : (⟨3, ![2, 16384, 1024]⟩ : Shape).Idx) : EReal :=
  attend x s (i 0) ⟨(i 1).val / 128, by have h : (i 1).val < 16384 := (i 1).isLt; omega⟩
    ⟨(i 1).val % 128, by omega⟩ ⟨(i 2).val / 64, by have h : (i 2).val < 1024 := (i 2).isLt; omega⟩
    ⟨(i 2).val % 64, by omega⟩

/-- Queries and keys are numbers, and no sink is `⊤`. -/
structure Finite (x : QKV) (s : Sinks) : Prop where
  qk : ∀ (r : Fin 32768) (c : Fin 1536), c.val < 1280 → x (ix2 r c) ≠ ⊤ ∧ x (ix2 r c) ≠ ⊥
  sink : ∀ h : Fin 16, s (ix1 h) ≠ ⊤

variable {x : QKV} {s : Sinks}

theorem score_visible (H : Finite x s) (b : Fin 2) (n q : Fin 128) (h : Fin 16) (j : Fin 256) (hv : visible n q j) :
    score x b n q h j ≠ ⊤ ∧ score x b n q h j ≠ ⊥ := by
  obtain ⟨r, hr⟩ := sum_mul_finite (fun d => x (ix2 (qrow b n q) (qcol h d))) (fun d => x (ix2 (krow b n j) (kcol h d)))
    (fun d => H.qk _ _ (by show h.val * 64 + d.val < 1280; omega))
    (fun d => H.qk _ _ (by show 1024 + h.val / 4 * 64 + d.val < 1280; omega))
  unfold score
  rw [if_pos hv, hr, ofBits_eighth, ← EReal.coe_mul]
  exact ⟨EReal.coe_ne_top _, EReal.coe_ne_bot _⟩

theorem score_ne_top (H : Finite x s) (b : Fin 2) (n q : Fin 128) (h : Fin 16) (j : Fin 256) : score x b n q h j ≠ ⊤ := by
  by_cases hv : visible n q j
  · exact (score_visible H b n q h j hv).1
  · unfold score; rw [if_neg hv]; exact bot_ne_top

theorem visible_of_ne_bot {b : Fin 2} {n q : Fin 128} {h : Fin 16} {j : Fin 256} (hs : score x b n q h j ≠ ⊥) :
    visible n q j := by
  by_contra hv; exact hs (by unfold score; rw [if_neg hv])

/-- The same with every weight divided: the values need to agree only where the query may look. -/
theorem attend_eq (H : Finite x s) (b : Fin 2) (n q : Fin 128) (h : Fin 16) (d : Fin 64) (v' : Fin 256 → EReal)
    (hv : ∀ j, visible n q j → v' j = value x b n h d j) :
    attend x s b n q h d = ∑ j, v' j * Ideal.div (Ideal.exp (score x b n q h j - rowMax (score x b n q h) (s (ix1 h))))
      ((∑ j, Ideal.exp (score x b n q h j - rowMax (score x b n q h) (s (ix1 h))))
        + Ideal.exp (s (ix1 h) - rowMax (score x b n q h) (s (ix1 h)))) := by
  have hown : visible n q ⟨q.val + 128, by omega⟩ := by unfold visible; dsimp only; omega
  exact row_eq _ _ v' _ (score_ne_top H b n q h) (H.sink h) _ (score_visible H b n q h _ hown).2
    fun j hj => (hv j (visible_of_ne_bot hj)).symm

end Cert.Attention

end
-- ==== Proof.KernelBlock.lean ====
/- The block of the result the attention kernel's body leaves at a grid point, as the four groups of heads, and its
   value at an index. -/
module

public import proofs.«01_k».proof.Proof.KernelHead
public import proofs.«01_k».proof.Proof.Attention
public import proofs.«01_k».proof.Proof.Gen.KernelIdeal.Value

@[expose] public section

noncomputable section

namespace Cert.KernelBlock

open Idealize.ShloMosaic Idealize.ShloMosaic.ValueIdx Cert.KernelIdeal Cert.KernelIdeal.Gen Cert.KernelHead Cert.Softmax Cert.Words Cert.Attention

/-- Group `k`'s 64 columns of a block of keys or values. -/
def cols (x : Vec Ideal S1x128x256 .bf16) (k : Fin 4) : Vec Ideal S1x128x64 .bf16 :=
  View.ld x (Rect.unit (s := S1x128x256) ![0, 0, k.val * 64] S1x128x64.size (fun a => by
    match a with
    | ⟨0, _⟩ => exact Nat.le_refl _
    | ⟨1, _⟩ => exact Nat.le_refl _
    | ⟨2, _⟩ => show k.val * 64 + 64 ≤ 256; omega))

/-- Head `h`'s sink. -/
def sink (x : Vec Ideal S16x128 .f32) (h : Fin 16) : Vec Ideal S1x1 .f32 :=
  View.ld x (Rect.unit (s := S16x128) ![h.val, 0] S1x1.size (fun a => by
    match a with
    | ⟨0, _⟩ => show h.val + 1 ≤ 16; omega
    | ⟨1, _⟩ => show 0 + 1 ≤ 128; omega))

/-- Head `h`'s 64 columns of a block of queries. -/
def query (x : Vec Ideal S1x128x1024 .bf16) (h : Fin 16) : FVec Ideal S128x64 .bf16 :=
  extractStridedSlice S128x64 ![0, h.val * 64]
    (shapeCast S128x1024 (View.ld x r0_0 : Vec Ideal S1x128x1024 .bf16) shapeCasts_S1x128x1024_S128x1024 : FVec Ideal S128x1024 .bf16)
    ⟨rfl, fun a => by
      match a with
      | ⟨0, _⟩ => exact Nat.le_refl _
      | ⟨1, _⟩ => show h.val * 64 + 64 ≤ 1024; omega⟩

/-- Group `k` of four heads. -/
def group (i : grid0.Coords) (x0 : Vec Ideal S1x128x1024 .bf16) (x1 x2 x3 x4 : Vec Ideal S1x128x256 .bf16) (x5 : Vec Ideal S16x128 .f32)
    (k : Fin 4) : FVec Ideal S512x64 .f32 :=
  head (k0_pay6 i) (join (cols x2 k) (cols x1 k)) (join (cols x4 k) (cols x3 k))
    (stack fun g => query x0 ⟨k.val * 4 + g.val, by omega⟩)
    (sinkColumn k0_pay7 (sink x5 ⟨k.val * 4 + 0, by omega⟩) (sink x5 ⟨k.val * 4 + 1, by omega⟩) (sink x5 ⟨k.val * 4 + 2, by omega⟩)
      (sink x5 ⟨k.val * 4 + 3, by omega⟩))

/-- Head `h`'s 128 rows of its group. -/
def part (i : grid0.Coords) (x0 : Vec Ideal S1x128x1024 .bf16) (x1 x2 x3 x4 : Vec Ideal S1x128x256 .bf16) (x5 : Vec Ideal S16x128 .f32)
    (h : Fin 16) : FVec Ideal S128x64 .f32 :=
  extractStridedSlice S128x64 ![h.val % 4 * 128, 0] (group i x0 x1 x2 x3 x4 x5 ⟨h.val / 4, by omega⟩) ⟨rfl, fun a => by
    match a with
    | ⟨0, _⟩ => show h.val % 4 * 128 + 128 ≤ 512; omega
    | ⟨1, _⟩ => exact Nat.le_refl _⟩

theorem out_eq (i : grid0.Coords) (x0 : Vec Ideal S1x128x1024 .bf16) (x1 x2 x3 x4 : Vec Ideal S1x128x256 .bf16)
    (x5 : Vec Ideal S16x128 .f32) :
    out0_6 (F := Ideal) i x0 x1 x2 x3 x4 x5 = View.canon [⟨r0_0, spread (part i x0 x1 x2 x3 x4 x5)⟩] := by
  unfold out0_6
  rfl

theorem hz3 : (![0, 0, 0] : Fin 3 → Nat) = fun _ => 0 := funext fun a => by fin_cases a <;> rfl

/-! ## Its parts at an index -/

theorem cols_at (x : Vec Ideal S1x128x256 .bf16) (k : Fin 4) (j : Fin 128) (d : Fin 64) :
    cols x k (ix3 0 j d) = x (ix3 0 j ⟨k.val * 64 + d.val, by omega⟩) := by
  unfold cols
  rw [View.ld_unit]
  refine extractStridedSlice_apply _ _ _ _ _ (fun a => ?_)
  match a with
  | ⟨0, _⟩ => rfl
  | ⟨1, _⟩ => show j.val = 0 + j.val; omega
  | ⟨2, _⟩ => rfl

theorem sink_at (x : Vec Ideal S16x128 .f32) (h : Fin 16) : sink x h (ix2 0 0) = x (ix2 h 0) := by
  unfold sink
  rw [View.ld_unit]
  refine extractStridedSlice_apply _ _ _ _ _ (fun a => ?_)
  match a with
  | ⟨0, _⟩ => rfl
  | ⟨1, _⟩ => rfl

theorem query_at (x : Vec Ideal S1x128x1024 .bf16) (h : Fin 16) (q : Fin 128) (d : Fin 64) :
    query x h (ix2 q d) = x (ix3 0 q ⟨h.val * 64 + d.val, by omega⟩) := by
  unfold query
  rw [View.ld_unit_zero hz3]
  refine (extractStridedSlice_apply _ _ _ _ (ix2 q ⟨h.val * 64 + d.val, by omega⟩) (fun a => ?_)).trans ?_
  · match a with
    | ⟨0, _⟩ => show q.val = 0 + q.val; omega
    | ⟨1, _⟩ => rfl
  · refine shapeCast_apply _ _ _ _ ?_
    rw [Shape.rowMajor_val_three, Shape.rowMajor_val_two]
    show (0 * 128 + q.val) * 1024 + (h.val * 64 + d.val) = q.val * 1024 + (h.val * 64 + d.val)
    omega

theorem and_127 (r : Fin 512) : IntOp.andi (BitVec.ofNat 32 r.val) 127#32 = BitVec.ofNat 32 (r.val % 128) := by
  revert r
  decide +kernel

theorem max_127 (a : Fin 128) : IntOp.maxsi (BitVec.ofNat 32 a.val) 127#32 = BitVec.ofNat 32 127 := by
  revert a
  decide +kernel

theorem select_at {s : Shape} {w : Nat} (c : BitVec 1) (u v : IVec s w) (i : s.Idx) :
    Scalar.select c u v i = Scalar.select c (u i) (v i) := by
  unfold Scalar.select
  split <;> rfl

theorem valid_at (i : grid0.Coords) (n : Fin 128) (hn : (i 1).val = n.val) (r : Fin 512) (j : Fin 256) :
    k0_pay6 i (ix2 r j) = BitVec.ofBool (decide (visible n ⟨r.val % 128, by omega⟩ j)) := by
  have e : k0_pay6 i (ix2 r j) = IntOp.andi
      (IntOp.cmpi .sgt (BitVec.ofNat 32 j.val)
        (Scalar.select (IntOp.cmpi .eq (BitVec.ofNat 32 (i 1).val) 0#32)
          (IntOp.maxsi (IntOp.andi (BitVec.ofNat 32 r.val) 127#32) 127#32) (IntOp.andi (BitVec.ofNat 32 r.val) 127#32)))
      (IntOp.cmpi .sle (BitVec.ofNat 32 j.val) (IntOp.addi (IntOp.andi (BitVec.ofNat 32 r.val) 127#32) 128#32)) := by
    show IntOp.andi (IntOp.cmpi .sgt (iota .tc S512x256 32 [1] iota_S512x256_d1_w32 (ix2 r j))
        (Scalar.select (IntOp.cmpi .eq (BitVec.ofNat 32 (i 1).val) 0#32)
          (maxsi (andi (iota .tc S512x256 32 [0] iota_S512x256_d0_w32) (broadcast S512x256 127#32)) (broadcast S512x256 127#32))
          (andi (iota .tc S512x256 32 [0] iota_S512x256_d0_w32) (broadcast S512x256 127#32)) (ix2 r j)))
      (IntOp.cmpi .sle (iota .tc S512x256 32 [1] iota_S512x256_d1_w32 (ix2 r j))
        (IntOp.addi (IntOp.andi (iota .tc S512x256 32 [0] iota_S512x256_d0_w32 (ix2 r j)) 127#32) 128#32)) = _
    rw [select_at]
    show IntOp.andi (IntOp.cmpi .sgt (iota .tc S512x256 32 [1] iota_S512x256_d1_w32 (ix2 r j))
        (Scalar.select (IntOp.cmpi .eq (BitVec.ofNat 32 (i 1).val) 0#32)
          (IntOp.maxsi (IntOp.andi (iota .tc S512x256 32 [0] iota_S512x256_d0_w32 (ix2 r j)) 127#32) 127#32)
          (IntOp.andi (iota .tc S512x256 32 [0] iota_S512x256_d0_w32 (ix2 r j)) 127#32)))
      (IntOp.cmpi .sle (iota .tc S512x256 32 [1] iota_S512x256_d1_w32 (ix2 r j))
        (IntOp.addi (IntOp.andi (iota .tc S512x256 32 [0] iota_S512x256_d0_w32 (ix2 r j)) 127#32) 128#32)) = _
    rw [iota_single_apply, iota_single_apply]
  have ea : IntOp.addi (BitVec.ofNat 32 (r.val % 128)) 128#32 = BitVec.ofNat 32 (r.val % 128 + 128) := (BitVec.ofNat_add _ _).symm
  rw [e, and_127, max_127 ⟨r.val % 128, by omega⟩, ea, hn, eq_small _ 0 (by omega) (by omega), select_ofBool]
  by_cases h0 : n.val = 0
  · rw [if_pos h0, sgt_small _ _ (by omega) (by omega), sle_small _ _ (by omega) (by omega), and_ofBool, ← Bool.decide_and]
    exact congrArg BitVec.ofBool (decide_eq_decide.mpr (by unfold visible; dsimp only; omega))
  · rw [if_neg h0, sgt_small _ _ (by omega) (by omega), sle_small _ _ (by omega) (by omega), and_ofBool, ← Bool.decide_and]
    exact congrArg BitVec.ofBool (decide_eq_decide.mpr (by unfold visible; dsimp only; omega))

/-- The block at a point is the attention's, where the six input blocks are the packed array's rows and columns. -/
theorem block_at (i : grid0.Coords) (x0 : Vec Ideal S1x128x1024 .bf16) (x1 x2 x3 x4 : Vec Ideal S1x128x256 .bf16)
    (x5 : Vec Ideal S16x128 .f32) (x : QKV) (s : Sinks) (b : Fin 2) (n : Fin 128) (hn : (i 1).val = n.val)
    (h0 : ∀ (q : Fin 128) (c : Fin 1024), x0 (ix3 0 q c) = x (ix2 (qrow b n q) ⟨c.val, by omega⟩))
    (h1 : ∀ (j : Fin 128) (c : Fin 256), x1 (ix3 0 j c) = x (ix2 ⟨b.val * 16384 + n.val * 128 + j.val, by omega⟩ ⟨1024 + c.val, by omega⟩))
    (h2 : ∀ (j : Fin 128) (c : Fin 256), x2 (ix3 0 j c) = x (ix2 ⟨b.val * 16384 + (n.val - 1) * 128 + j.val, by omega⟩ ⟨1024 + c.val, by omega⟩))
    (h3 : ∀ (j : Fin 128) (c : Fin 256), x3 (ix3 0 j c) = x (ix2 ⟨b.val * 16384 + n.val * 128 + j.val, by omega⟩ ⟨1280 + c.val, by omega⟩))
    (h4 : ∀ (j : Fin 128) (c : Fin 256), x4 (ix3 0 j c) = x (ix2 ⟨b.val * 16384 + (n.val - 1) * 128 + j.val, by omega⟩ ⟨1280 + c.val, by omega⟩))
    (h5 : ∀ h : Fin 16, x5 (ix2 h 0) = s (ix1 h))
    (q : Fin 128) (c : Fin 1024) :
    out0_6 (F := Ideal) i x0 x1 x2 x3 x4 x5 (ix3 0 q c)
      = attend x s b n q ⟨c.val / 64, by omega⟩ ⟨c.val % 64, by omega⟩ := by
  have hc4 : c.val / 64 / 4 < 4 := by omega
  have er : (c.val / 64 % 4 * 128 + q.val) / 128 = c.val / 64 % 4 := by omega
  have eq : (c.val / 64 % 4 * 128 + q.val) % 128 = q.val := by omega
  have eh : c.val / 64 / 4 * 4 + c.val / 64 % 4 = c.val / 64 := by omega
  rw [out_eq, View.canon_unit_zero hz3, spread_at]
  unfold part
  refine (extractStridedSlice_apply _ _ _ _ (ix2 (⟨c.val / 64 % 4 * 128 + q.val, by omega⟩ : Fin 512) ⟨c.val % 64, by omega⟩) (fun a => ?_)).trans ?_
  · match a with
    | ⟨0, _⟩ => rfl
    | ⟨1, _⟩ => show c.val % 64 = 0 + c.val % 64; omega
  unfold group
  rw [head_at]
  have hq : (⟨(c.val / 64 % 4 * 128 + q.val) % 128, by omega⟩ : Fin 128) = q := Fin.ext eq
  have hg : (⟨(c.val / 64 % 4 * 128 + q.val) / 128, by omega⟩ : Fin 4) = ⟨c.val / 64 % 4, by omega⟩ := Fin.ext er
  have hh : (⟨c.val / 64 / 4 * 4 + c.val / 64 % 4, by omega⟩ : Fin 16) = ⟨c.val / 64, by omega⟩ := Fin.ext eh
  unfold attend
  congr 1
  · funext j
    rw [scores_at _ _ _ _ j (visible n q j) ((valid_at i n hn _ j).trans (by rw [hq]))]
    unfold score
    by_cases hv : visible n q j
    · rw [if_pos hv, if_pos hv]
      refine congrArg (· * _) (Finset.sum_congr rfl fun d _ => ?_)
      refine congrArg₂ (· * ·) ?_ ?_
      · rw [stack_at, hq, hg]
        dsimp only
        rw [hh, query_at, h0]
        rfl
      · by_cases hj : j.val < 128
        · rw [join_low _ _ _ _ hj, cols_at, h2]
          refine congrArg x (congrArg₂ ix2 (Fin.ext ?_) (Fin.ext ?_))
          · show _ = if j.val < 128 then _ else _
            rw [if_pos hj]
          · show 1024 + (c.val / 64 / 4 * 64 + d.val) = 1024 + c.val / 64 / 4 * 64 + d.val
            omega
        · rw [join_high _ _ _ _ (by omega), cols_at, h1]
          refine congrArg x (congrArg₂ ix2 (Fin.ext ?_) (Fin.ext ?_))
          · show _ = if j.val < 128 then _ else _
            rw [if_neg hj]
          · show 1024 + (c.val / 64 / 4 * 64 + d.val) = 1024 + c.val / 64 / 4 * 64 + d.val
            omega
    · rw [if_neg hv, if_neg hv]
  · funext j
    unfold value
    by_cases hj : j.val < 128
    · rw [join_low _ _ _ _ hj, cols_at, h4]
      refine congrArg x (congrArg₂ ix2 (Fin.ext ?_) (Fin.ext ?_))
      · show _ = if j.val < 128 then _ else _
        rw [if_pos hj]
      · show 1280 + (c.val / 64 / 4 * 64 + c.val % 64) = 1280 + c.val / 64 / 4 * 64 + c.val % 64
        omega
    · rw [join_high _ _ _ _ (by omega), cols_at, h3]
      refine congrArg x (congrArg₂ ix2 (Fin.ext ?_) (Fin.ext ?_))
      · show _ = if j.val < 128 then _ else _
        rw [if_neg hj]
      · show 1280 + (c.val / 64 / 4 * 64 + c.val % 64) = 1280 + c.val / 64 / 4 * 64 + c.val % 64
        omega
  · refine (sinkColumn_at _ _ _ _ _ (fun g : Fin 4 => sink x5 ⟨c.val / 64 / 4 * 4 + g.val, by omega⟩) rfl rfl rfl rfl).trans ?_
    rw [hg]
    dsimp only
    rw [hh, sink_at, h5]

end Cert.KernelBlock
-- ==== Proof.KernelValue.lean ====
/- The attention kernel's result array: every block written back is the attention's block, and the blocks tile it. -/
module

public import proofs.«01_k».proof.Proof.KernelBlock
public import Idealize.ShloMosaic.Lib.Pipeline.ValueKit

@[expose] public section

noncomputable section

namespace Cert.KernelValue

open Idealize.ShloMosaic hiding ix1 ix2 ix3
open Idealize.ShloMosaic.TcCoe Idealize.SL.Sem Idealize.ShloMosaic.ValueIdx
open Cert.KernelIdeal Cert.KernelIdeal.Gen Cert.Attention
open Idealize.ShloMosaic.Pipeline (Dat)

variable (m : (ℓ : Loc nD τ sig) → Buf (Elt Ideal) ℓ) (ρ : Dev nD → PrngReg)

/-- The packed array and the sinks of a device, as launched. -/
abbrev qkv (c : Dev nD) : QKV := m ((c : Thread nD τ).loc main_arg0)
abbrev sinks (c : Dev nD) : Sinks := m ((c : Thread nD τ).loc main_arg1)

/-! ## What the host code before the kernel leaves in the operands -/

theorem queries (c : Dev nD) (b : Fin 2) (r : Fin 16384) (k : Fin 1024) :
    V m c main_v1 (ix3 b r k) = qkv m c (ix2 ⟨b.val * 16384 + r.val, by omega⟩ ⟨0 + k.val, by omega⟩) := by
  have e : V m c main_v1 = shapeCast S2x16384x1024 (extractStridedSlice S32768x1024 ![0, 0] (qkv m c)
      slices_S32768x1536_S32768x1024_0_0) shapeCasts_S32768x1024_S2x16384x1024 := by
    show StableHlo.after hostOps0 _ (Proc.devRef .tc main_v1) = _
    after_results
    rfl
  rw [e]
  refine (shapeCast_apply _ _ _ (ix2 (⟨b.val * 16384 + r.val, by omega⟩ : Fin 32768) k) ?_).trans ?_
  · rw [Shape.rowMajor_val_three, Shape.rowMajor_val_two]
    show (b.val * 16384 + r.val) * 1024 + k.val = (b.val * 16384 + r.val) * 1024 + k.val
    rfl
  · refine extractStridedSlice_apply _ _ _ _ _ (fun a => ?_)
    match a with
    | ⟨0, _⟩ => show b.val * 16384 + r.val = 0 + (b.val * 16384 + r.val); omega
    | ⟨1, _⟩ => rfl

theorem keys (c : Dev nD) (b : Fin 2) (r : Fin 16384) (k : Fin 256) :
    V m c main_v3 (ix3 b r k) = qkv m c (ix2 ⟨b.val * 16384 + r.val, by omega⟩ ⟨1024 + k.val, by omega⟩) := by
  have e : V m c main_v3 = shapeCast S2x16384x256 (extractStridedSlice S32768x256 ![0, 1024] (qkv m c)
      slices_S32768x1536_S32768x256_0_1024) shapeCasts_S32768x256_S2x16384x256 := by
    show StableHlo.after hostOps0 _ (Proc.devRef .tc main_v3) = _
    after_results
    rfl
  rw [e]
  refine (shapeCast_apply _ _ _ (ix2 (⟨b.val * 16384 + r.val, by omega⟩ : Fin 32768) k) ?_).trans ?_
  · rw [Shape.rowMajor_val_three, Shape.rowMajor_val_two]
    show (b.val * 16384 + r.val) * 256 + k.val = (b.val * 16384 + r.val) * 256 + k.val
    rfl
  · refine extractStridedSlice_apply _ _ _ _ _ (fun a => ?_)
    match a with
    | ⟨0, _⟩ => show b.val * 16384 + r.val = 0 + (b.val * 16384 + r.val); omega
    | ⟨1, _⟩ => rfl

theorem values (c : Dev nD) (b : Fin 2) (r : Fin 16384) (k : Fin 256) :
    V m c main_v5 (ix3 b r k) = qkv m c (ix2 ⟨b.val * 16384 + r.val, by omega⟩ ⟨1280 + k.val, by omega⟩) := by
  have e : V m c main_v5 = shapeCast S2x16384x256 (extractStridedSlice S32768x256 ![0, 1280] (qkv m c)
      slices_S32768x1536_S32768x256_0_1280) shapeCasts_S32768x256_S2x16384x256 := by
    show StableHlo.after hostOps0 _ (Proc.devRef .tc main_v5) = _
    after_results
    rfl
  rw [e]
  refine (shapeCast_apply _ _ _ (ix2 (⟨b.val * 16384 + r.val, by omega⟩ : Fin 32768) k) ?_).trans ?_
  · rw [Shape.rowMajor_val_three, Shape.rowMajor_val_two]
    show (b.val * 16384 + r.val) * 256 + k.val = (b.val * 16384 + r.val) * 256 + k.val
    rfl
  · refine extractStridedSlice_apply _ _ _ _ _ (fun a => ?_)
    match a with
    | ⟨0, _⟩ => show b.val * 16384 + r.val = 0 + (b.val * 16384 + r.val); omega
    | ⟨1, _⟩ => rfl

theorem sinkColumn (c : Dev nD) (h : Fin 16) : V m c main_v7 (ix2 h 0) = sinks m c (ix1 h) := by
  have e : V m c main_v7 = broadcastInDim S16x128 ![0, 1] bcast_S16x1_S16x128_0_1
      (shapeCast S16x1 (sinks m c) shapeCasts_S16_S16x1) := by
    show StableHlo.after hostOps0 _ (Proc.devRef .tc main_v7) = _
    after_results
    rfl
  rw [e]
  refine (broadcastInDim_apply _ _ _ _ (ix2 h 0) (fun a => ?_)).trans ?_
  · match a with
    | ⟨0, _⟩ => rfl
    | ⟨1, _⟩ => rfl
  · refine shapeCast_apply _ _ _ _ ?_
    rw [Shape.rowMajor_val_two, Shape.rowMajor_val_one]
    show h.val = h.val * 1 + 0
    omega

/-! ## The blocks -/

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![(grid0.coords t 0).val, (grid0.coords t 1).val, 0] :=
  (by decide +kernel : ∀ t : Fin grid0.N, _)
theorem index2 : ∀ t : Fin cfg0.N, win0_2.index t = ![(grid0.coords t 0).val, (grid0.coords t 1).val - 1, 0] :=
  (by decide +kernel : ∀ t : Fin grid0.N, _)
theorem index3 : ∀ t : Fin cfg0.N, win0_3.index t = ![(grid0.coords t 0).val, (grid0.coords t 1).val, 0] :=
  (by decide +kernel : ∀ t : Fin grid0.N, _)
theorem index4 : ∀ t : Fin cfg0.N, win0_4.index t = ![(grid0.coords t 0).val, (grid0.coords t 1).val - 1, 0] :=
  (by decide +kernel : ∀ t : Fin grid0.N, _)
theorem index6 : ∀ t : Fin cfg0.N, win0_6.index t = ![(grid0.coords t 0).val, (grid0.coords t 1).val, 0] :=
  (by decide +kernel : ∀ t : Fin grid0.N, _)
theorem index5 : ∀ t : Fin cfg0.N, win0_5.index t = ![0, 0] :=
  (by decide +kernel : ∀ t : Fin grid0.N, _)

/-- The sequence and the block of queries of a grid point. -/
def seq (t : Fin cfg0.N) : Fin 2 := ⟨(grid0.coords t 0).val, (grid0.coords t 0).isLt⟩
def blk (t : Fin cfg0.N) : Fin 128 := ⟨(grid0.coords t 1).val, (grid0.coords t 1).isLt⟩

theorem iblk0_at (c : Dev nD) (t : Fin cfg0.N) (j : Fin 128) (k : Fin 1024) :
    iblk m c 0 t (ix3 0 j k) = qkv m c (ix2 ⟨(seq t).val * 16384 + (blk t).val * 128 + j.val, by omega⟩ ⟨0 + k.val, by omega⟩) := by
  have e : iblk m c 0 t (ix3 0 j k) = V m c main_v1 (ix3 (seq t) ⟨(blk t).val * 128 + j.val, by omega⟩ k) := by
    blk_simp [iblk]
    refine congrArg (V m c main_v1) ?_
    blk_ext [index0]
    · rfl
    · rfl
  rw [e, queries]
  exact congrArg (qkv m c) (congrArg₂ ix2 (Fin.ext (Nat.add_assoc _ _ _).symm) rfl)

theorem iblk1_at (c : Dev nD) (t : Fin cfg0.N) (j : Fin 128) (k : Fin 256) :
    iblk m c 1 t (ix3 0 j k) = qkv m c (ix2 ⟨(seq t).val * 16384 + (blk t).val * 128 + j.val, by omega⟩ ⟨1024 + k.val, by omega⟩) := by
  have e : iblk m c 1 t (ix3 0 j k) = V m c main_v3 (ix3 (seq t) ⟨(blk t).val * 128 + j.val, by omega⟩ k) := by
    blk_simp [iblk]
    refine congrArg (V m c main_v3) ?_
    blk_ext [index1]
    · rfl
    · rfl
  rw [e, keys]
  exact congrArg (qkv m c) (congrArg₂ ix2 (Fin.ext (Nat.add_assoc _ _ _).symm) rfl)

theorem iblk2_at (c : Dev nD) (t : Fin cfg0.N) (j : Fin 128) (k : Fin 256) :
    iblk m c 2 t (ix3 0 j k) = qkv m c (ix2 ⟨(seq t).val * 16384 + ((blk t).val - 1) * 128 + j.val, by omega⟩ ⟨1024 + k.val, by omega⟩) := by
  have e : iblk m c 2 t (ix3 0 j k) = V m c main_v3 (ix3 (seq t) ⟨((blk t).val - 1) * 128 + j.val, by omega⟩ k) := by
    blk_simp [iblk]
    refine congrArg (V m c main_v3) ?_
    blk_ext [index2]
    · rfl
    · rfl
  rw [e, keys]
  exact congrArg (qkv m c) (congrArg₂ ix2 (Fin.ext (Nat.add_assoc _ _ _).symm) rfl)

theorem iblk3_at (c : Dev nD) (t : Fin cfg0.N) (j : Fin 128) (k : Fin 256) :
    iblk m c 3 t (ix3 0 j k) = qkv m c (ix2 ⟨(seq t).val * 16384 + (blk t).val * 128 + j.val, by omega⟩ ⟨1280 + k.val, by omega⟩) := by
  have e : iblk m c 3 t (ix3 0 j k) = V m c main_v5 (ix3 (seq t) ⟨(blk t).val * 128 + j.val, by omega⟩ k) := by
    blk_simp [iblk]
    refine congrArg (V m c main_v5) ?_
    blk_ext [index3]
    · rfl
    · rfl
  rw [e, values]
  exact congrArg (qkv m c) (congrArg₂ ix2 (Fin.ext (Nat.add_assoc _ _ _).symm) rfl)

theorem iblk4_at (c : Dev nD) (t : Fin cfg0.N) (j : Fin 128) (k : Fin 256) :
    iblk m c 4 t (ix3 0 j k) = qkv m c (ix2 ⟨(seq t).val * 16384 + ((blk t).val - 1) * 128 + j.val, by omega⟩ ⟨1280 + k.val, by omega⟩) := by
  have e : iblk m c 4 t (ix3 0 j k) = V m c main_v5 (ix3 (seq t) ⟨((blk t).val - 1) * 128 + j.val, by omega⟩ k) := by
    blk_simp [iblk]
    refine congrArg (V m c main_v5) ?_
    blk_ext [index4]
    · rfl
    · rfl
  rw [e, values]
  exact congrArg (qkv m c) (congrArg₂ ix2 (Fin.ext (Nat.add_assoc _ _ _).symm) rfl)

theorem iblk5_at (c : Dev nD) (t : Fin cfg0.N) (h : Fin 16) : iblk m c 5 t (ix2 h 0) = sinks m c (ix1 h) := by
  have e : iblk m c 5 t (ix2 h 0) = V m c main_v7 (ix2 h 0) := by
    blk_simp [iblk]
    refine congrArg (V m c main_v7) ?_
    blk_ext [index5]
  rw [e, sinkColumn]

theorem final (c : Dev nD) : (dats m 0 c).arrAt 6 cfg0.N = out (qkv m c) (sinks m c) := by
  refine (dats m 0 c).arrAt_eq_of_covers 6 _ (by decide +kernel) fun t hf y => ?_
  blk_simp
  rw [after0_6]
  have hy : y = ix3 0 (y 1) (y 2) := by
    funext a
    match a with
    | ⟨0, _⟩ => exact Subsingleton.elim (α := Fin 1) _ _
    | ⟨1, _⟩ => rfl
    | ⟨2, _⟩ => rfl
  have he : (win0_6.blk t).view.emb y = ix3 (seq t) (⟨(blk t).val * 128 + (y 1).val, by
      have h : (y 1).val < 128 := (y 1).isLt
      omega⟩ : Fin 16384) (y 2) := by
    blk_ext [index6]
    · rfl
    · rfl
  rw [he, hy]
  refine (Cert.KernelBlock.block_at (grid0.coords t) _ _ _ _ _ _ (qkv m c) (sinks m c) (seq t) (blk t) rfl
    (fun q k => ?_) (iblk1_at m c t) (iblk2_at m c t) (iblk3_at m c t) (iblk4_at m c t) (iblk5_at m c t) (y 1) (y 2)).trans ?_
  · rw [iblk0_at]
    exact congrArg (qkv m c) (congrArg₂ ix2 rfl (Fin.ext (Nat.zero_add _)))
  · have h : (y 1).val < 128 := (y 1).isLt
    unfold out
    refine congrArg₂ (fun n q => attend (qkv m c) (sinks m c) (seq t) n q _ _) (Fin.ext ?_) (Fin.ext ?_)
    · show (blk t).val = ((blk t).val * 128 + (y 1).val) / 128
      omega
    · show (y 1).val = ((blk t).val * 128 + (y 1).val) % 128
      omega

/-- The run of the kernel: the result is the attention of the arguments, which are as launched. -/
theorem run : θ_run defs (onTc (τ := τ) (main (F := Ideal))) ⟨m, fun _ => 0, ρ⟩ fun r => ∀ c : Dev nD,
      r.2.mem ((c : Thread nD τ).loc main_v8) = out (qkv m c) (sinks m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelValue
-- ==== Proof.RefValue.lean ====
/- The reference's result read at an index: the attention (`Attention.out`). -/
module

public import proofs.«01_k».proof.Proof.Attention
public import proofs.«01_k».proof.Proof.Words
public import proofs.«01_k».proof.Proof.Gen.ReferenceIdeal.Read
public import Idealize.ShloMosaic.Lib.KernelVsHost
public import Idealize.ShloMosaic.Lib.ValueIdxRank6

@[expose] public section

noncomputable section

namespace Cert.RefValue

open Cert.ReferenceIdeal Cert.ReferenceIdeal.Gen Cert.ReferenceIdeal.Read Idealize.ShloMosaic Idealize.ShloMosaic.ValueIdx
open Cert.Attention Cert.Softmax Cert.Words

variable (x : QKV) (s : Sinks)

/-! ## Queries, keys and values -/

theorem v1_at (b : Fin 2) (t : Fin 16384) (c : Fin 1536) :
    val_main_v1 (F := Ideal) x (ix3 b t c) = x (ix2 ⟨b.val * 16384 + t.val, by omega⟩ c) := by
  unfold val_main_v1
  exact shapeCast_apply (val_main_v0 (F := Ideal) x) shapeCasts_S32768x1536_S2x16384x1536 (ix3 b t c)
    (ix2 ⟨b.val * 16384 + t.val, by omega⟩ c)
    (by rewrite [Shape.rowMajor_val_two, Shape.rowMajor_val_three]; rfl)

/-- Head `k`'s column `d` of a quarter of the packed columns, in sequence `b`'s row `t`. -/
theorem v4_at (b : Fin 2) (t : Fin 16384) (k : Fin 4) (d : Fin 64) :
    val_main_v4 (F := Ideal) x (ix4 b t k d) = x (ix2 ⟨b.val * 16384 + t.val, by omega⟩ ⟨1024 + k.val * 64 + d.val, by omega⟩) := by
  have e : val_main_v4 (F := Ideal) x (ix4 b t k d) = val_main_v3 (F := Ideal) x (ix3 b t ⟨k.val * 64 + d.val, by omega⟩) := by
    unfold val_main_v4
    exact shapeCast_apply (val_main_v3 (F := Ideal) x) shapeCasts_S2x16384x256_S2x16384x4x64 (ix4 b t k d)
      (ix3 b t ⟨k.val * 64 + d.val, by omega⟩)
      (by rewrite [Shape.rowMajor_val_three, Shape.rowMajor_val_four]
          show (b.val * 16384 + t.val) * 256 + (k.val * 64 + d.val) = ((b.val * 16384 + t.val) * 4 + k.val) * 64 + d.val
          omega)
  rw [e, val_main_v3_apply, ← v1_at x]
  exact congrArg (val_main_v1 (F := Ideal) x) (funext fun a => Fin.ext (by
    match a with
    | ⟨0, _⟩ => rfl
    | ⟨1, _⟩ => rfl
    | ⟨2, _⟩ => show 1024 + (k.val * 64 + d.val) = 1024 + k.val * 64 + d.val; omega))

theorem v6_at (b : Fin 2) (t : Fin 16384) (k : Fin 4) (d : Fin 64) :
    val_main_v6 (F := Ideal) x (ix4 b t k d) = x (ix2 ⟨b.val * 16384 + t.val, by omega⟩ ⟨1280 + k.val * 64 + d.val, by omega⟩) := by
  have e : val_main_v6 (F := Ideal) x (ix4 b t k d) = val_main_v5 (F := Ideal) x (ix3 b t ⟨k.val * 64 + d.val, by omega⟩) := by
    unfold val_main_v6
    exact shapeCast_apply (val_main_v5 (F := Ideal) x) shapeCasts_S2x16384x256_S2x16384x4x64 (ix4 b t k d)
      (ix3 b t ⟨k.val * 64 + d.val, by omega⟩)
      (by rewrite [Shape.rowMajor_val_three, Shape.rowMajor_val_four]
          show (b.val * 16384 + t.val) * 256 + (k.val * 64 + d.val) = ((b.val * 16384 + t.val) * 4 + k.val) * 64 + d.val
          omega)
  rw [e, val_main_v5_apply, ← v1_at x]
  exact congrArg (val_main_v1 (F := Ideal) x) (funext fun a => Fin.ext (by
    match a with
    | ⟨0, _⟩ => rfl
    | ⟨1, _⟩ => rfl
    | ⟨2, _⟩ => show 1280 + (k.val * 64 + d.val) = 1280 + k.val * 64 + d.val; omega))

theorem v8_at (b : Fin 2) (n q : Fin 128) (k : Fin 4) (d : Fin 64) :
    val_main_v8 (F := Ideal) x (ix5 b n q k d) = x (ix2 (qrow b n q) ⟨1024 + k.val * 64 + d.val, by omega⟩) := by
  have e : val_main_v8 (F := Ideal) x (ix5 b n q k d)
      = val_main_v4 (F := Ideal) x (ix4 b ⟨n.val * 128 + q.val, by omega⟩ k d) := by
    unfold val_main_v8
    exact shapeCast_apply (val_main_v4 (F := Ideal) x) shapeCasts_S2x16384x4x64_S2x128x128x4x64 (ix5 b n q k d)
      (ix4 b ⟨n.val * 128 + q.val, by omega⟩ k d)
      (by rewrite [Shape.rowMajor_val_four, Shape.rowMajor_val_five]
          show ((b.val * 16384 + (n.val * 128 + q.val)) * 4 + k.val) * 64 + d.val
            = (((b.val * 128 + n.val) * 128 + q.val) * 4 + k.val) * 64 + d.val
          omega)
  rw [e, v4_at]
  exact congrArg (fun r => x (ix2 r _)) (Fin.ext (by
    show b.val * 16384 + (n.val * 128 + q.val) = b.val * 16384 + n.val * 128 + q.val; omega))

theorem v12_at (b : Fin 2) (n q : Fin 128) (k : Fin 4) (d : Fin 64) :
    val_main_v12 (F := Ideal) x (ix5 b n q k d) = x (ix2 (qrow b n q) ⟨1280 + k.val * 64 + d.val, by omega⟩) := by
  have e : val_main_v12 (F := Ideal) x (ix5 b n q k d)
      = val_main_v6 (F := Ideal) x (ix4 b ⟨n.val * 128 + q.val, by omega⟩ k d) := by
    unfold val_main_v12
    exact shapeCast_apply (val_main_v6 (F := Ideal) x) shapeCasts_S2x16384x4x64_S2x128x128x4x64 (ix5 b n q k d)
      (ix4 b ⟨n.val * 128 + q.val, by omega⟩ k d)
      (by rewrite [Shape.rowMajor_val_four, Shape.rowMajor_val_five]
          show ((b.val * 16384 + (n.val * 128 + q.val)) * 4 + k.val) * 64 + d.val
            = (((b.val * 128 + n.val) * 128 + q.val) * 4 + k.val) * 64 + d.val
          omega)
  rw [e, v6_at]
  exact congrArg (fun r => x (ix2 r _)) (Fin.ext (by
    show b.val * 16384 + (n.val * 128 + q.val) = b.val * 16384 + n.val * 128 + q.val; omega))

theorem v7_at (b : Fin 2) (n q : Fin 128) (k g : Fin 4) (d : Fin 64) :
    val_main_v7 (F := Ideal) x (ix6 b n q k g d) = x (ix2 (qrow b n q) ⟨(k.val * 4 + g.val) * 64 + d.val, by omega⟩) := by
  have e : val_main_v7 (F := Ideal) x (ix6 b n q k g d)
      = val_main_v2 (F := Ideal) x (ix3 b ⟨n.val * 128 + q.val, by omega⟩ ⟨(k.val * 4 + g.val) * 64 + d.val, by omega⟩) := by
    unfold val_main_v7
    exact shapeCast_apply (val_main_v2 (F := Ideal) x) shapeCasts_S2x16384x1024_S2x128x128x4x4x64 (ix6 b n q k g d)
      (ix3 b ⟨n.val * 128 + q.val, by omega⟩ ⟨(k.val * 4 + g.val) * 64 + d.val, by omega⟩)
      (by rewrite [Shape.rowMajor_val_three, Shape.rowMajor_val_six]
          show (b.val * 16384 + (n.val * 128 + q.val)) * 1024 + ((k.val * 4 + g.val) * 64 + d.val)
            = ((((b.val * 128 + n.val) * 128 + q.val) * 4 + k.val) * 4 + g.val) * 64 + d.val
          omega)
  rw [e, val_main_v2_apply]
  refine (congrArg (val_main_v1 (F := Ideal) x) (a₂ := ix3 b ⟨n.val * 128 + q.val, by omega⟩
    ⟨(k.val * 4 + g.val) * 64 + d.val, by omega⟩) (funext fun a => Fin.ext (by
      match a with
      | ⟨0, _⟩ => rfl
      | ⟨1, _⟩ => rfl
      | ⟨2, _⟩ => rfl))).trans ?_
  rw [v1_at]
  exact congrArg (fun r => x (ix2 r _)) (Fin.ext (by
    show b.val * 16384 + (n.val * 128 + q.val) = b.val * 16384 + n.val * 128 + q.val; omega))

/-- The keys a block looks at; in the first block the half before it is padding, of which nothing is said. -/
theorem v11_at (b : Fin 2) (n : Fin 128) (j : Fin 256) (k : Fin 4) (d : Fin 64) (h : ¬(n.val = 0 ∧ j.val < 128)) :
    val_main_v11 (F := Ideal) x (ix5 b n j k d) = x (ix2 (krow b n j) ⟨1024 + k.val * 64 + d.val, by omega⟩) := by
  unfold val_main_v11
  by_cases hj : j.val < 128
  · have hn : 1 ≤ n.val := by omega
    rw [concatenate_pair_apply_left (2 : Fin 5) (val_main_v10 (F := Ideal) x) (val_main_v8 (F := Ideal) x)
      concatenates_S2x128x128x4x64_S2x128x128x4x64_S2x128x256x4x64_d2 (ix5 b n j k d) rfl
      (ix5 b n ⟨j.val, hj⟩ k d) (fun a => by match a with | ⟨0, _⟩ => rfl | ⟨1, _⟩ => rfl | ⟨2, _⟩ => rfl | ⟨3, _⟩ => rfl | ⟨4, _⟩ => rfl)]
    unfold val_main_v10
    rw [pad_apply_of_inside _ _ _ (val_main_v9 (F := Ideal) x) _ pads_S2x127x128x4x64_S2x128x128x4x64_000_100_000_000_000 h_S_
      (ix5 b n ⟨j.val, hj⟩ k d) (ix5 b ⟨n.val - 1, by omega⟩ ⟨j.val, hj⟩ k d)
      (fun a => by
        match a with
        | ⟨0, _⟩ => show b.val = 0 + b.val * 1; omega
        | ⟨1, _⟩ => show n.val = 1 + (n.val - 1) * 1; omega
        | ⟨2, _⟩ => show j.val = 0 + j.val * 1; omega
        | ⟨3, _⟩ => show k.val = 0 + k.val * 1; omega
        | ⟨4, _⟩ => show d.val = 0 + d.val * 1; omega), val_main_v9_apply]
    refine (congrArg (val_main_v8 (F := Ideal) x) (a₂ := ix5 b ⟨n.val - 1, by omega⟩ ⟨j.val, hj⟩ k d)
      (funext fun a => Fin.ext (by
        match a with | ⟨0, _⟩ => rfl | ⟨1, _⟩ => rfl | ⟨2, _⟩ => rfl | ⟨3, _⟩ => rfl | ⟨4, _⟩ => rfl))).trans ?_
    rw [v8_at]
    refine congrArg (fun r => x (ix2 r _)) (Fin.ext ?_)
    show b.val * 16384 + (n.val - 1) * 128 + j.val = if j.val < 128 then _ else _
    rw [if_pos hj]
  · rw [concatenate_pair_apply_right (2 : Fin 5) (val_main_v10 (F := Ideal) x) (val_main_v8 (F := Ideal) x)
      concatenates_S2x128x128x4x64_S2x128x128x4x64_S2x128x256x4x64_d2 (ix5 b n j k d) rfl rfl
      (ix5 b n ⟨j.val - 128, by omega⟩ k d)
      (fun a ha => by match a with | ⟨0, _⟩ => rfl | ⟨1, _⟩ => rfl | ⟨2, _⟩ => exact absurd rfl ha | ⟨3, _⟩ => rfl | ⟨4, _⟩ => rfl)
      (by show j.val - 128 + 128 = j.val; omega), v8_at]
    refine congrArg (fun r => x (ix2 r _)) (Fin.ext ?_)
    show b.val * 16384 + n.val * 128 + (j.val - 128) = if j.val < 128 then _ else _
    rw [if_neg hj]

theorem v15_at (b : Fin 2) (n : Fin 128) (j : Fin 256) (k : Fin 4) (d : Fin 64) (h : ¬(n.val = 0 ∧ j.val < 128)) :
    val_main_v15 (F := Ideal) x (ix5 b n j k d) = x (ix2 (krow b n j) ⟨1280 + k.val * 64 + d.val, by omega⟩) := by
  unfold val_main_v15
  by_cases hj : j.val < 128
  · have hn : 1 ≤ n.val := by omega
    rw [concatenate_pair_apply_left (2 : Fin 5) (val_main_v14 (F := Ideal) x) (val_main_v12 (F := Ideal) x)
      concatenates_S2x128x128x4x64_S2x128x128x4x64_S2x128x256x4x64_d2 (ix5 b n j k d) rfl
      (ix5 b n ⟨j.val, hj⟩ k d) (fun a => by match a with | ⟨0, _⟩ => rfl | ⟨1, _⟩ => rfl | ⟨2, _⟩ => rfl | ⟨3, _⟩ => rfl | ⟨4, _⟩ => rfl)]
    unfold val_main_v14
    rw [pad_apply_of_inside _ _ _ (val_main_v13 (F := Ideal) x) _ pads_S2x127x128x4x64_S2x128x128x4x64_000_100_000_000_000 h_S_
      (ix5 b n ⟨j.val, hj⟩ k d) (ix5 b ⟨n.val - 1, by omega⟩ ⟨j.val, hj⟩ k d)
      (fun a => by
        match a with
        | ⟨0, _⟩ => show b.val = 0 + b.val * 1; omega
        | ⟨1, _⟩ => show n.val = 1 + (n.val - 1) * 1; omega
        | ⟨2, _⟩ => show j.val = 0 + j.val * 1; omega
        | ⟨3, _⟩ => show k.val = 0 + k.val * 1; omega
        | ⟨4, _⟩ => show d.val = 0 + d.val * 1; omega), val_main_v13_apply]
    refine (congrArg (val_main_v12 (F := Ideal) x) (a₂ := ix5 b ⟨n.val - 1, by omega⟩ ⟨j.val, hj⟩ k d)
      (funext fun a => Fin.ext (by
        match a with | ⟨0, _⟩ => rfl | ⟨1, _⟩ => rfl | ⟨2, _⟩ => rfl | ⟨3, _⟩ => rfl | ⟨4, _⟩ => rfl))).trans ?_
    rw [v12_at]
    refine congrArg (fun r => x (ix2 r _)) (Fin.ext ?_)
    show b.val * 16384 + (n.val - 1) * 128 + j.val = if j.val < 128 then _ else _
    rw [if_pos hj]
  · rw [concatenate_pair_apply_right (2 : Fin 5) (val_main_v14 (F := Ideal) x) (val_main_v12 (F := Ideal) x)
      concatenates_S2x128x128x4x64_S2x128x128x4x64_S2x128x256x4x64_d2 (ix5 b n j k d) rfl rfl
      (ix5 b n ⟨j.val - 128, by omega⟩ k d)
      (fun a ha => by match a with | ⟨0, _⟩ => rfl | ⟨1, _⟩ => rfl | ⟨2, _⟩ => exact absurd rfl ha | ⟨3, _⟩ => rfl | ⟨4, _⟩ => rfl)
      (by show j.val - 128 + 128 = j.val; omega), v12_at]
    refine congrArg (fun r => x (ix2 r _)) (Fin.ext ?_)
    show b.val * 16384 + n.val * 128 + (j.val - 128) = if j.val < 128 then _ else _
    rw [if_neg hj]

/-! ## The mask -/

theorem mask_at (b : Fin 2) (n : Fin 128) (k g : Fin 4) (q : Fin 128) (j : Fin 256) :
    val_main_call2_v1 (F := Ideal) (ix6 b n k g q j) = BitVec.ofBool (decide (visible n q j)) := by
  rw [val_main_call2_v1_apply, val_main_v48_apply, val_main_v47_apply, val_main_v45_apply, val_main_v37_apply,
    val_main_v32_apply, val_main_v26_apply, val_main_v24_apply, val_main_v23_apply, val_main_v25_apply, val_main_v21_apply,
    val_main_v31_apply, val_main_v29_apply, val_main_v23_apply, val_main_v30_apply, val_main_v28_apply, val_main_v21_apply,
    val_main_v27_apply, val_main_v46_apply, val_main_v44_apply, val_main_v43_apply, val_main_v41_apply, val_main_v36_apply,
    val_main_v35_apply, val_main_v34_apply, val_main_v42_apply, val_main_v40_apply, val_main_v39_apply, val_main_v23_apply,
    val_main_v38_apply]
  show IntOp.andi (IntOp.andi (IntOp.cmpi .sgt (BitVec.ofNat 32 j.val) (BitVec.ofNat 32 q.val))
      (IntOp.cmpi .sle (BitVec.ofNat 32 j.val) (IntOp.addi (BitVec.ofNat 32 q.val) 128#32)))
    (~~~(IntOp.andi (IntOp.cmpi .eq (BitVec.ofNat 32 n.val) 0#32) (IntOp.cmpi .slt (BitVec.ofNat 32 j.val) 128#32))) = _
  have e : IntOp.addi (BitVec.ofNat 32 q.val) 128#32 = BitVec.ofNat 32 (q.val + 128) := (BitVec.ofNat_add _ _).symm
  rw [e, sgt_small _ _ (by omega) (by omega), sle_small _ _ (by omega) (by omega), eq_small _ 0 (by omega) (by omega),
    slt_small _ 128 (by omega) (by omega), and_ofBool, and_ofBool, not_ofBool, and_ofBool]
  congr 1
  unfold visible
  rw [Bool.eq_iff_iff]
  simp [and_assoc]

/-! ## Scores, weights and the result -/

theorem v16_at (b : Fin 2) (n : Fin 128) (k g : Fin 4) (q : Fin 128) (j : Fin 256) (h : ¬(n.val = 0 ∧ j.val < 128)) :
    val_main_v16 (F := Ideal) x (ix6 b n k j q g)
      = ∑ d : Fin 64, x (ix2 (qrow b n q) (qcol ⟨k.val * 4 + g.val, by omega⟩ d))
          * x (ix2 (krow b n j) (kcol ⟨k.val * 4 + g.val, by omega⟩ d)) := by
  rw [val_main_v16_apply]
  refine Finset.sum_congr rfl fun d _ => ?_
  have el : val_main_v11 (F := Ideal) x (lidx_main_v16 (ix6 b n k j q g) d) = val_main_v11 (F := Ideal) x (ix5 b n j k d) :=
    congrArg (val_main_v11 (F := Ideal) x) (funext fun a => Fin.ext (by
      match a with | ⟨0, _⟩ => rfl | ⟨1, _⟩ => rfl | ⟨2, _⟩ => rfl | ⟨3, _⟩ => rfl | ⟨4, _⟩ => rfl))
  have er : val_main_v7 (F := Ideal) x (ridx_main_v16 (ix6 b n k j q g) d) = val_main_v7 (F := Ideal) x (ix6 b n q k g d) :=
    congrArg (val_main_v7 (F := Ideal) x) (funext fun a => Fin.ext (by
      match a with | ⟨0, _⟩ => rfl | ⟨1, _⟩ => rfl | ⟨2, _⟩ => rfl | ⟨3, _⟩ => rfl | ⟨4, _⟩ => rfl | ⟨5, _⟩ => rfl))
  rw [el, er, v11_at x b n j k d h, v7_at, mul_comm]
  have ec : (⟨1024 + k.val * 64 + d.val, by omega⟩ : Fin 1536) = kcol ⟨k.val * 4 + g.val, by omega⟩ d := Fin.ext (by
    show 1024 + k.val * 64 + d.val = 1024 + (k.val * 4 + g.val) / 4 * 64 + d.val; omega)
  rw [ec]
  rfl

theorem v49_at (b : Fin 2) (n : Fin 128) (k g : Fin 4) (q : Fin 128) (j : Fin 256) :
    val_main_v49 (F := Ideal) x (ix6 b n k g q j) = score x b n q ⟨k.val * 4 + g.val, by omega⟩ j := by
  rw [val_main_v49_apply, mask_at, select_ofBool]
  unfold score
  by_cases hv : visible n q j
  · rw [if_pos hv, if_pos hv, val_main_v19_apply, val_main_v17_apply]
    have e : idx_main_v17 (ix6 b n k g q j) = ix6 b n k j q g := funext fun a => Fin.ext (by
      match a with | ⟨0, _⟩ => rfl | ⟨1, _⟩ => rfl | ⟨2, _⟩ => rfl | ⟨3, _⟩ => rfl | ⟨4, _⟩ => rfl | ⟨5, _⟩ => rfl)
    rw [e, v16_at x b n k g q j hv.2.2, val_main_v18_apply]
    rfl
  · rw [if_neg hv, if_neg hv, val_main_call2_v2_apply]
    exact ofBits_negInf

theorem sink_at (b : Fin 2) (n : Fin 128) (k g : Fin 4) (q : Fin 128) :
    val_main_v51 (F := Ideal) s (ix6 0 0 k g 0 0) = s (ix1 ⟨k.val * 4 + g.val, by omega⟩) := by
  rw [val_main_v51_apply, val_main_v50_apply]
  exact congrArg s (funext fun a => Fin.ext (by match a with | ⟨0, _⟩ => rfl))

theorem v52_at (b : Fin 2) (n : Fin 128) (k g : Fin 4) (q : Fin 128) :
    val_main_v52 (F := Ideal) x (ix5 b n k g q)
      = Finset.univ.fold max ⊥ (score x b n q ⟨k.val * 4 + g.val, by omega⟩) := by
  unfold val_main_v52
  have hR : S2x128x4x4x128x256.Reduces [5] S2x128x4x4x128 := by decide
  have hx : val_main_v49 (F := Ideal) x ∘ hR.lift (ix5 b n k g q) = score x b n q ⟨k.val * 4 + g.val, by omega⟩ :=
    funext fun j => (congrArg (val_main_v49 (F := Ideal) x) (funext fun a => Fin.ext (by
      match a with | ⟨0, _⟩ => rfl | ⟨1, _⟩ => rfl | ⟨2, _⟩ => rfl | ⟨3, _⟩ => rfl | ⟨4, _⟩ => rfl | ⟨5, _⟩ => rfl))).trans
      (v49_at x b n k g q j)
  have hc : val_main_cst_5 (F := Ideal) (Shape.Idx.first h_S_) = ⊥ := ofBits_negInf
  refine (Host.reduce_eq_fold_single (FloatOps.maximumf (F := Ideal) (φ := .f32)) _ _ _ hR _ _).trans ?_
  rw [hx, hc]
  rfl

theorem v55_at (b : Fin 2) (n : Fin 128) (k g : Fin 4) (q : Fin 128) :
    val_main_v55 (F := Ideal) x s (ix6 b n k g q 0)
      = rowMax (score x b n q ⟨k.val * 4 + g.val, by omega⟩) (s (ix1 ⟨k.val * 4 + g.val, by omega⟩)) := by
  have e5 : idx_main_v53 (ix6 b n k g q 0) = ix5 b n k g q := funext fun a => Fin.ext (by
    match a with | ⟨0, _⟩ => rfl | ⟨1, _⟩ => rfl | ⟨2, _⟩ => rfl | ⟨3, _⟩ => rfl | ⟨4, _⟩ => rfl)
  have e6 : idx_main_v54 (ix6 b n k g q 0) = ix6 0 0 k g 0 0 := funext fun a => Fin.ext (by
    match a with | ⟨0, _⟩ => rfl | ⟨1, _⟩ => rfl | ⟨2, _⟩ => rfl | ⟨3, _⟩ => rfl | ⟨4, _⟩ => rfl | ⟨5, _⟩ => rfl)
  rw [val_main_v55_apply, val_main_v53_apply, val_main_v54_apply, e5, e6, sink_at s b n k g q, v52_at, Ideal.maximumf_def]
  rfl

theorem v58_at (b : Fin 2) (n : Fin 128) (k g : Fin 4) (q : Fin 128) (j : Fin 256) :
    val_main_v58 (F := Ideal) x s (ix6 b n k g q j)
      = Ideal.exp (score x b n q ⟨k.val * 4 + g.val, by omega⟩ j
          - rowMax (score x b n q ⟨k.val * 4 + g.val, by omega⟩) (s (ix1 ⟨k.val * 4 + g.val, by omega⟩))) := by
  have e : idx_main_v56 (ix6 b n k g q j) = ix6 b n k g q 0 := funext fun a => Fin.ext (by
    match a with | ⟨0, _⟩ => rfl | ⟨1, _⟩ => rfl | ⟨2, _⟩ => rfl | ⟨3, _⟩ => rfl | ⟨4, _⟩ => rfl | ⟨5, _⟩ => rfl)
  rw [val_main_v58_apply, val_main_v57_apply, val_main_v56_apply, e, v55_at, v49_at]
  rfl

theorem v64_at (b : Fin 2) (n : Fin 128) (k g : Fin 4) (q : Fin 128) :
    val_main_v64 (F := Ideal) x s (ix6 b n k g q 0)
      = (∑ j, Ideal.exp (score x b n q ⟨k.val * 4 + g.val, by omega⟩ j
          - rowMax (score x b n q ⟨k.val * 4 + g.val, by omega⟩) (s (ix1 ⟨k.val * 4 + g.val, by omega⟩))))
        + Ideal.exp (s (ix1 ⟨k.val * 4 + g.val, by omega⟩)
          - rowMax (score x b n q ⟨k.val * 4 + g.val, by omega⟩) (s (ix1 ⟨k.val * 4 + g.val, by omega⟩))) := by
  have e5 : idx_main_v60 (ix6 b n k g q 0) = ix5 b n k g q := funext fun a => Fin.ext (by
    match a with | ⟨0, _⟩ => rfl | ⟨1, _⟩ => rfl | ⟨2, _⟩ => rfl | ⟨3, _⟩ => rfl | ⟨4, _⟩ => rfl)
  have e6 : idx_main_v61 (ix6 b n k g q 0) = ix6 0 0 k g 0 0 := funext fun a => Fin.ext (by
    match a with | ⟨0, _⟩ => rfl | ⟨1, _⟩ => rfl | ⟨2, _⟩ => rfl | ⟨3, _⟩ => rfl | ⟨4, _⟩ => rfl | ⟨5, _⟩ => rfl)
  have hs : val_main_v59 (F := Ideal) x s (ix5 b n k g q)
      = ∑ j, Ideal.exp (score x b n q ⟨k.val * 4 + g.val, by omega⟩ j
          - rowMax (score x b n q ⟨k.val * 4 + g.val, by omega⟩) (s (ix1 ⟨k.val * 4 + g.val, by omega⟩))) := by
    rw [val_main_v59_apply]
    have hc : val_main_cst_6 (F := Ideal) (Shape.Idx.first h_S_) = 0 := Ideal.ofBits_zero_f32
    rw [hc, zero_add]
    refine Finset.sum_congr rfl fun j _ => ?_
    rw [← v58_at]
    exact congrArg (val_main_v58 (F := Ideal) x s) (funext fun a => Fin.ext (by
      match a with | ⟨0, _⟩ => rfl | ⟨1, _⟩ => rfl | ⟨2, _⟩ => rfl | ⟨3, _⟩ => rfl | ⟨4, _⟩ => rfl | ⟨5, _⟩ => rfl))
  rw [val_main_v64_apply, val_main_v63_apply, val_main_v62_apply, val_main_v60_apply, val_main_v61_apply, e5, e6, hs,
    sink_at s b n k g q, v55_at]
  rfl

theorem v67_at (H : Finite x s) (b : Fin 2) (n : Fin 128) (k g : Fin 4) (q : Fin 128) (d : Fin 64) :
    val_main_v67 (F := Ideal) x s (ix6 b n k d g q) = attend x s b n q ⟨k.val * 4 + g.val, by omega⟩ d := by
  rw [val_main_v67_apply, attend_eq H b n q ⟨k.val * 4 + g.val, by omega⟩ d (fun j => val_main_v15 (F := Ideal) x (ix5 b n j k d))]
  · refine Finset.sum_congr rfl fun j _ => ?_
    have el : lidx_main_v67 (ix6 b n k d g q) j = ix5 b n j k d := funext fun a => Fin.ext (by
      match a with | ⟨0, _⟩ => rfl | ⟨1, _⟩ => rfl | ⟨2, _⟩ => rfl | ⟨3, _⟩ => rfl | ⟨4, _⟩ => rfl)
    have er : ridx_main_v67 (ix6 b n k d g q) j = ix6 b n k g q j := funext fun a => Fin.ext (by
      match a with | ⟨0, _⟩ => rfl | ⟨1, _⟩ => rfl | ⟨2, _⟩ => rfl | ⟨3, _⟩ => rfl | ⟨4, _⟩ => rfl | ⟨5, _⟩ => rfl)
    have e65 : idx_main_v65 (ix6 b n k g q j) = ix6 b n k g q 0 := funext fun a => Fin.ext (by
      match a with | ⟨0, _⟩ => rfl | ⟨1, _⟩ => rfl | ⟨2, _⟩ => rfl | ⟨3, _⟩ => rfl | ⟨4, _⟩ => rfl | ⟨5, _⟩ => rfl)
    rw [el, er, val_main_v66_apply, val_main_v65_apply, e65, v58_at, v64_at]
    rfl
  · intro j hv
    refine (v15_at x b n j k d hv.2.2).trans (congrArg x (congrArg (ix2 (krow b n j)) (Fin.ext ?_)))
    show 1280 + k.val * 64 + d.val = 1280 + (k.val * 4 + g.val) / 4 * 64 + d.val
    omega

theorem result (H : Finite x s) : val_main_v70 (F := Ideal) x s = out x s := by
  funext i
  have hb : (i 0).val < 2 := (i 0).isLt
  have h1 : (i 1).val < 16384 := (i 1).isLt
  have h2 : (i 2).val < 1024 := (i 2).isLt
  rw [val_main_v70_apply]
  show val_main_v69 (F := Ideal) x s i = _
  unfold val_main_v69
  refine (shapeCast_apply _ _ i (ix6 ⟨(i 0).val, hb⟩ ⟨(i 1).val / 128, by omega⟩ ⟨(i 1).val % 128, by omega⟩
    ⟨(i 2).val / 256, by omega⟩ ⟨(i 2).val / 64 % 4, by omega⟩ ⟨(i 2).val % 64, by omega⟩) ?_).trans ?_
  · rw [Shape.rowMajor_val_six, Shape.rowMajor_val_three]
    show (((((i 0).val * 128 + (i 1).val / 128) * 128 + (i 1).val % 128) * 4 + (i 2).val / 256) * 4 + (i 2).val / 64 % 4) * 64
      + (i 2).val % 64 = ((i 0).val * 16384 + (i 1).val) * 1024 + (i 2).val
    omega
  · rw [val_main_v68_apply]
    have e : idx_main_v68 (ix6 (⟨(i 0).val, hb⟩ : Fin 2) (⟨(i 1).val / 128, by omega⟩ : Fin 128) (⟨(i 1).val % 128, by omega⟩ : Fin 128)
        (⟨(i 2).val / 256, by omega⟩ : Fin 4) (⟨(i 2).val / 64 % 4, by omega⟩ : Fin 4) (⟨(i 2).val % 64, by omega⟩ : Fin 64))
        = ix6 ⟨(i 0).val, hb⟩ ⟨(i 1).val / 128, by omega⟩ ⟨(i 2).val / 256, by omega⟩ ⟨(i 2).val % 64, by omega⟩
            ⟨(i 2).val / 64 % 4, by omega⟩ ⟨(i 1).val % 128, by omega⟩ := funext fun a => Fin.ext (by
      match a with | ⟨0, _⟩ => rfl | ⟨1, _⟩ => rfl | ⟨2, _⟩ => rfl | ⟨3, _⟩ => rfl | ⟨4, _⟩ => rfl | ⟨5, _⟩ => rfl)
    rw [e, v67_at x s H]
    unfold out
    have eh : (⟨(i 2).val / 256 * 4 + (i 2).val / 64 % 4, by omega⟩ : Fin 16) = ⟨(i 2).val / 64, by omega⟩ := Fin.ext (by
      show (i 2).val / 256 * 4 + (i 2).val / 64 % 4 = (i 2).val / 64; omega)
    rw [eh]
    rfl

end Cert.RefValue

end
-- ==== Proof.AttentionClaims.lean ====
/- The claims about the attention: its frames, its idealization, and that it computes what the reference computes. -/
module

public import proofs.«01_k».proof.Defs
public import proofs.«01_k».proof.Proof.Gen.Kernel
public import proofs.«01_k».proof.Proof.Gen.Kernel.Frame
public import proofs.«01_k».proof.Proof.KernelValue
public import proofs.«01_k».proof.Proof.RefValue

@[expose] public section

noncomputable section

namespace Cert.AttentionClaims

open Idealize.ShloMosaic hiding ix1 ix2 ix3
open Idealize.ShloMosaic.TcCoe Idealize.SL.Sem Idealize.ShloMosaic.ValueIdx Cert.Attention

theorem kernel : Cert.quiescent_Kernel := fun m ρ _ => Cert.Kernel.Gen.frame m ρ

theorem kernelIdeal : Cert.quiescent_KernelIdeal := fun m ρ _ => Cert.KernelIdeal.Gen.frame m ρ

theorem referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem preserves : Cert.preserves_Kernel_KernelIdeal :=
  IdealRules.named_const.statement Cert.KernelIdeal.κ "mask" .f32 0xF149F2CA#32 ⊥ rfl

/-- The precondition's shape facts. -/
theorem preFacts : Cert.Pre_finite_scores.Facts where
  slices_S32768x1536_S32768x1280_0_0 := by decide
  bcast_S_S32768x1280 := by decide
  bcast_S_S16 := by decide

instance : Cert.Pre_finite_scores.Facts := preFacts

/-- The precondition says that queries and keys are numbers and that no sink is `⊤`. -/
theorem finite_of (x : QKV) (s : Sinks)
    (h : (Cert.Pre_finite_scores.fn (F := Ideal) x s).1 = (fun _ => 1#1) ∧ (Cert.Pre_finite_scores.fn (F := Ideal) x s).2 = (fun _ => 1#1)) :
    Finite x s where
  qk r c hc := by
    have e := congrFun h.1 (ix2 r ⟨c.val, hc⟩)
    have hx : extractStridedSlice Cert.Pre_finite_scores.S32768x1280 ![0, 0] x preFacts.slices_S32768x1536_S32768x1280_0_0
        (ix2 r ⟨c.val, hc⟩) = x (ix2 r c) := by
      refine extractStridedSlice_apply _ _ _ _ _ (fun a => ?_)
      match a with
      | ⟨0, _⟩ => show r.val = 0 + r.val; omega
      | ⟨1, _⟩ => show c.val = 0 + c.val; omega
    replace e : IntOp.andi (Ideal.cmp .ogt (extractStridedSlice Cert.Pre_finite_scores.S32768x1280 ![0, 0] x
          preFacts.slices_S32768x1536_S32768x1280_0_0 (ix2 r ⟨c.val, hc⟩)) (Ideal.ofBits .bf16 0xFF80#16))
        (Ideal.cmp .olt (extractStridedSlice Cert.Pre_finite_scores.S32768x1280 ![0, 0] x
          preFacts.slices_S32768x1536_S32768x1280_0_0 (ix2 r ⟨c.val, hc⟩)) (Ideal.ofBits .bf16 0x7F80#16)) = 1#1 := e
    rw [hx, Softmax.ofBits_posInf_bf16, Softmax.ofBits_negInf_bf16] at e
    replace e : IntOp.andi (BitVec.ofBool (decide (⊥ < x (ix2 r c)))) (BitVec.ofBool (decide (x (ix2 r c) < ⊤))) = 1#1 := e
    constructor
    · intro ht
      rw [ht] at e
      simp [IntOp.andi] at e
    · intro hb
      rw [hb] at e
      simp [IntOp.andi] at e
  sink h' := by
    have e := congrFun h.2 (ix1 h')
    replace e : Ideal.cmp .olt (s (ix1 h')) (Ideal.ofBits .f32 0x7F800000#32) = 1#1 := e
    rw [Softmax.ofBits_posInf] at e
    replace e : BitVec.ofBool (decide (s (ix1 h') < ⊤)) = 1#1 := e
    intro ht
    rw [ht] at e
    simp at e

theorem algebraic : Cert.algebraic_KernelIdeal_ReferenceIdeal_pre_finite_scores := by
  intro m ρ m' ρ' hpre hagree
  refine ⟨fun c => out (KernelValue.qkv m c) (KernelValue.sinks m c), KernelValue.run m ρ, ?_⟩
  refine (θ_run Cert.ReferenceIdeal.defs _ _).mono (fun r h c => ⟨(h c).1.trans ?_, (h c).2⟩) (Cert.ReferenceIdeal.Value.run m' ρ')
  rw [Cert.ReferenceIdeal.Read.val_main_v70_eq, (hagree c).1, (hagree c).2]
  exact Cert.RefValue.result _ _ (finite_of _ _ (hpre c))

end Cert.AttentionClaims

end
-- ==== Proof.NormProj.lean ====
/- A row normalized by the root of its mean square, scaled, and projected onto one column: the function that the
   projections before the attention and before the gates compute at each index. -/
module

public import Idealize.ShloMosaic.PureOps.Ideal.Laws
public import Idealize.ShloMosaic.Lib.ValueIdx

@[expose] public section

noncomputable section

namespace Cert.NormProj

open Idealize.ShloMosaic Idealize.ShloMosaic.ValueIdx

/-- The reciprocal root of a row's mean square, with the literal that keeps it from zero. -/
def scale (x : Fin 2048 → EReal) : EReal :=
  Ideal.rsqrt (Ideal.div (∑ k, x k * x k) (Ideal.ofBits .f32 0x45000000#32) + Ideal.ofBits .f32 0x3727C5AC#32)

/-- The normalized row, scaled by `g`, against the column `w`, and the bias. -/
def proj (x g w : Fin 2048 → EReal) (b : EReal) : EReal := (∑ k, x k * scale x * g k * w k) + b

/-- The arrays of the two projections. -/
abbrev Tokens := FVec Ideal ⟨3, ![2, 16384, 2048]⟩ .f32
abbrev Gain := FVec Ideal ⟨1, ![2048]⟩ .f32
abbrev Weights := FVec Ideal ⟨2, ![2048, 8960]⟩ .f32
abbrev Bias := FVec Ideal ⟨1, ![1536]⟩ .f32

/-- Row `r` of the tokens of both sequences, one sequence after the other. -/
def token (x : Tokens) (r : Fin 32768) (k : Fin 2048) : EReal :=
  x (ix3 ⟨r.val / 16384, by omega⟩ ⟨r.val % 16384, by omega⟩ k)

/-- The gates before their nonlinearity: the last 4096 columns of the projection. -/
def gates (x : Tokens) (g : Gain) (w : Weights) : FVec Ideal ⟨2, ![32768, 4096]⟩ .bf16 := fun i =>
  proj (token x (i 0)) (fun k => g (ix1 k)) (fun k => w (ix2 k ⟨4864 + (i 1).val, by
    have h : (i 1).val < 4096 := (i 1).isLt
    omega⟩)) 0

/-- The packed queries, keys and values: 1536 columns of the projection, and the bias. -/
def packed (x : Tokens) (g : Gain) (w : Weights) (b : Bias) : FVec Ideal ⟨2, ![32768, 1536]⟩ .bf16 := fun i =>
  proj (token x (i 0)) (fun k => g (ix1 k)) (fun k => w (ix2 k ⟨3328 + (i 1).val, by
    have h : (i 1).val < 1536 := (i 1).isLt
    omega⟩)) (b (ix1 (i 1)))

end Cert.NormProj

end
-- ==== Proof.GatesValue.lean ====
/- The gates' projection: what a block of the kernel computes at an index, and the kernel's result array. -/
module

public import proofs.«01_k».proof.Proof.NormProj
public import proofs.«01_k».proof.Proof.Gen.Kernel2Ideal.Value
public import Idealize.ShloMosaic.Lib.Pipeline.ValueKit

@[expose] public section

noncomputable section

namespace Cert.GatesValue

open Idealize.ShloMosaic hiding ix1 ix2 ix3
open Idealize.ShloMosaic.TcCoe Idealize.SL.Sem Idealize.ShloMosaic.ValueIdx
open Cert.Kernel2Ideal Cert.Kernel2Ideal.Gen Cert.NormProj
open Idealize.ShloMosaic.Pipeline (Dat)

/-! ## The body's value at an index -/

theorem lhs_0 (i : S512x4096.Idx) (q : dot_S512x2048_S2048x4096_S512x4096_1_0_0_1_n_n.contr.Idx) :
    (dot_S512x2048_S2048x4096_S512x4096_1_0_0_1_n_n.lhsIdx i q 0).val = (i 0).val := by
  unfold DotDims.lhsIdx
  rw [dif_neg (show ¬(0 : Fin S512x2048.rank) ∈ dot_S512x2048_S2048x4096_S512x4096_1_0_0_1_n_n.lhsBatch by decide),
    dif_pos (show (0 : Fin S512x2048.rank) ∈ dot_S512x2048_S2048x4096_S512x4096_1_0_0_1_n_n.lhsNonContracting by decide)]
  rfl

theorem rhs_1 (i : S512x4096.Idx) (q : dot_S512x2048_S2048x4096_S512x4096_1_0_0_1_n_n.contr.Idx) :
    (dot_S512x2048_S2048x4096_S512x4096_1_0_0_1_n_n.rhsIdx i q 1).val = (i 1).val := by
  unfold DotDims.rhsIdx
  rw [dif_neg (show ¬(1 : Fin S2048x4096.rank) ∈ dot_S512x2048_S2048x4096_S512x4096_1_0_0_1_n_n.rhsBatch by decide),
    dif_pos (show (1 : Fin S2048x4096.rank) ∈ dot_S512x2048_S2048x4096_S512x4096_1_0_0_1_n_n.rhsNonContracting by decide)]
  rfl

theorem product_at (u : FVec Ideal S512x2048 .bf16) (v : FVec Ideal S2048x4096 .bf16) (r : Fin 512) (j : Fin 4096) :
    matmul dot_S512x2048_S2048x4096_S512x4096_1_0_0_1_n_n none u v (constant S512x4096 .f32 0x00000000#32) (ix2 r j)
      = ∑ k : Fin 2048, u (ix2 r k) * v (ix2 k j) := by
  refine (Ideal.matmul_constant_zero_apply _ none _ _ _).trans ?_
  rw [← Equiv.sum_comp (contrEquiv1 dot_S512x2048_S2048x4096_S512x4096_1_0_0_1_n_n 2048 rfl rfl).symm]
  refine Finset.sum_congr rfl fun k _ => ?_
  have hk := contrEquiv1_symm_val dot_S512x2048_S2048x4096_S512x4096_1_0_0_1_n_n 2048 rfl rfl k
  refine congrArg₂ (· * ·) (congrArg u (funext fun a => Fin.ext ?_)) (congrArg v (funext fun a => Fin.ext ?_))
  · match a with
    | ⟨0, _⟩ => exact lhs_0 _ _
    | ⟨1, _⟩ => exact (dot_S512x2048_S2048x4096_S512x4096_1_0_0_1_n_n.lhsIdx_val_of_single rfl _ _).trans hk
  · match a with
    | ⟨0, _⟩ => exact (dot_S512x2048_S2048x4096_S512x4096_1_0_0_1_n_n.rhsIdx_val_of_single rfl _ _).trans hk
    | ⟨1, _⟩ => exact rhs_1 _ _

/-- The column of reciprocal roots. -/
def roots (x : FVec Ideal S512x2048 .f32) : FVec Ideal S512x1 .f32 :=
  rsqrt (addf (divf (shapeCast S512x1 (multiReduction .add [1] S512 (mulf x x) 0x00000000#32 reduces_S512x2048_S512 (.inl rfl) rfl)
    shapeCasts_S512_S512x1) (broadcast S512x1 (Scalar.ofBits .f32 0x45000000#32))) (broadcast S512x1 (Scalar.ofBits .f32 0x3727C5AC#32)))

theorem roots_at (x : FVec Ideal S512x2048 .f32) (r : Fin 512) : roots x (ix2 r 0) = scale (fun k => x (ix2 r k)) := by
  have e : shapeCast S512x1 (multiReduction .add [1] S512 (mulf x x) 0x00000000#32 reduces_S512x2048_S512 (.inl rfl) rfl)
      shapeCasts_S512_S512x1 (ix2 r 0) = ∑ k : Fin 2048, x (ix2 r k) * x (ix2 r k) := by
    refine (shapeCast_apply _ _ _ (ix1 r) ?_).trans ?_
    · rw [Shape.rowMajor_val_two, Shape.rowMajor_val_one]
      show r.val = r.val * 1 + 0
      omega
    · refine (Ideal.multiReduction_add_single _ _ _ _ _ _).trans ?_
      refine Finset.sum_congr rfl fun k _ => ?_
      have hx : Shape.Reduces.lift reduces_S512x2048_S512 (ix1 r) k = ix2 r k :=
        funext fun a => Fin.ext (by match a with | ⟨0, _⟩ => rfl | ⟨1, _⟩ => rfl)
      rw [hx]
      rfl
  show Ideal.rsqrt (Ideal.div (shapeCast S512x1 (multiReduction .add [1] S512 (mulf x x) 0x00000000#32 reduces_S512x2048_S512 (.inl rfl) rfl)
      shapeCasts_S512_S512x1 (ix2 r 0)) _ + _) = _
  rw [e]
  rfl

theorem pay_at (x0 : Vec Ideal S512x2048 .f32) (x1 : Vec Ideal S1x2048 .f32) (x2 : Vec Ideal S2048x4096 .bf16)
    (x3 : Vec Ideal S1x4096 .f32) (r : Fin 512) (j : Fin 4096) :
    k0_pay1 x0 x1 x2 x3 (ix2 r j)
      = proj (fun k => x0 (ix2 r k)) (fun k => x1 (ix2 0 k)) (fun k => x2 (ix2 k j)) (x3 (ix2 0 j)) := by
  have hp : k0_pay1 x0 x1 x2 x3 (ix2 r j)
      = matmul dot_S512x2048_S2048x4096_S512x4096_1_0_0_1_n_n none
          (truncf .bf16 (mulf (mulf (shapeCast S512x2048 x0 shapeCasts_S512x2048_S512x2048)
            (broadcastTo S512x2048 (roots (shapeCast S512x2048 x0 shapeCasts_S512x2048_S512x2048)) broadcasts_S512x1_S512x2048))
            (broadcastTo S512x2048 (shapeCast S1x2048 x1 shapeCasts_S1x2048_S1x2048) broadcasts_S1x2048_S512x2048)) bitsLt_bf16_f32)
          (shapeCast S2048x4096 x2 shapeCasts_S2048x4096_S2048x4096) (constant S512x4096 .f32 0x00000000#32) (ix2 r j)
        + broadcastTo S512x4096 (shapeCast S1x4096 x3 shapeCasts_S1x4096_S1x4096) broadcasts_S1x4096_S512x4096 (ix2 r j) := rfl
  rw [hp, product_at, shapeCast_self, shapeCast_self, shapeCast_self, shapeCast_self]
  unfold proj
  have hb : ∀ (b : Vec Ideal S1x4096 .f32), broadcastTo S512x4096 b broadcasts_S1x4096_S512x4096 (ix2 r j) = b (ix2 0 j) := fun b =>
    broadcastTo_apply _ _ _ _ (fun a => by match a with | ⟨0, _⟩ => rfl | ⟨1, _⟩ => rfl)
  rw [hb]
  refine congrArg (· + _) (Finset.sum_congr rfl fun k _ => congrArg (· * _) ?_)
  have hg : broadcastTo S512x2048 x1 broadcasts_S1x2048_S512x2048 (ix2 r k) = x1 (ix2 0 k) :=
    broadcastTo_apply _ _ _ _ (fun a => by match a with | ⟨0, _⟩ => rfl | ⟨1, _⟩ => rfl)
  have hr : broadcastTo S512x2048 (roots x0) broadcasts_S512x1_S512x2048 (ix2 r k) = roots x0 (ix2 r 0) :=
    broadcastTo_apply _ _ _ _ (fun a => by match a with | ⟨0, _⟩ => rfl | ⟨1, _⟩ => rfl)
  show x0 (ix2 r k) * broadcastTo S512x2048 (roots x0) broadcasts_S512x1_S512x2048 (ix2 r k)
    * broadcastTo S512x2048 x1 broadcasts_S1x2048_S512x2048 (ix2 r k) = _
  rw [hg, hr, roots_at]

/-! ## What the host code before the kernel leaves in the operands -/

variable (m : (ℓ : Loc nD τ sig) → Buf (Elt Ideal) ℓ) (ρ : Dev nD → PrngReg)

/-- The arguments of a device, as launched. -/
abbrev xs (c : Dev nD) : Tokens := m ((c : Thread nD τ).loc main_arg0)
abbrev gain (c : Dev nD) : Gain := m ((c : Thread nD τ).loc main_arg1)
abbrev weights (c : Dev nD) : Weights := m ((c : Thread nD τ).loc main_arg2)

theorem rows (c : Dev nD) (r : Fin 32768) (k : Fin 2048) : V m c main_v0 (ix2 r k) = token (xs m c) r k := by
  have e : V m c main_v0 = shapeCast S32768x2048 (xs m c) shapeCasts_S2x16384x2048_S32768x2048 := by
    show StableHlo.after hostOps0 _ (Proc.devRef .tc main_v0) = _
    after_results
    rfl
  rw [e]
  refine shapeCast_apply _ _ _ _ ?_
  rw [Shape.rowMajor_val_three, Shape.rowMajor_val_two]
  show (r.val / 16384 * 16384 + r.val % 16384) * 2048 + k.val = r.val * 2048 + k.val
  omega

theorem gains (c : Dev nD) (k : Fin 2048) : V m c main_v2 (ix2 0 k) = gain m c (ix1 k) := by
  have e : V m c main_v2 = shapeCast S1x2048 (gain m c) shapeCasts_S2048_S1x2048 := by
    show StableHlo.after hostOps0 _ (Proc.devRef .tc main_v2) = _
    after_results
    rfl
  rw [e]
  refine shapeCast_apply _ _ _ _ ?_
  rw [Shape.rowMajor_val_one, Shape.rowMajor_val_two]
  show k.val = 0 * 2048 + k.val
  omega

theorem columns (c : Dev nD) (k : Fin 2048) (j : Fin 4096) :
    V m c main_v3 (ix2 k j) = weights m c (ix2 k ⟨4864 + j.val, by omega⟩) := by
  have e : V m c main_v3 = extractStridedSlice S2048x4096 ![0, 4864] (truncf .bf16 (weights m c) bitsLt_bf16_f32)
      slices_S2048x8960_S2048x4096_0_4864 := by
    show StableHlo.after hostOps0 _ (Proc.devRef .tc main_v3) = _
    after_results
  rw [e]
  refine (extractStridedSlice_apply _ _ _ _ (ix2 k ⟨4864 + j.val, by omega⟩) (fun a => ?_)).trans rfl
  match a with
  | ⟨0, _⟩ => show k.val = 0 + k.val; omega
  | ⟨1, _⟩ => rfl

theorem bias (c : Dev nD) (j : Fin 4096) : V m c main_v4 (ix2 0 j) = (0 : EReal) := by
  have e : V m c main_v4 = (broadcastInDim S1x4096 ![] bcast_S_S1x4096 (constant (F := Ideal) S_ .f32 0x00000000#32) : FVec Ideal S1x4096 .f32) := by
    show StableHlo.after hostOps0 _ (Proc.devRef .tc main_v4) = _
    after_results
  rw [e]
  exact Ideal.ofBits_zero_f32

/-! ## The blocks -/

theorem index0 : ∀ t : Fin cfg0.N, win0_0.index t = ![(grid0.coords t 0).val, 0] :=
  (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![(grid0.coords t 0).val, 0] :=
  (by decide +kernel : ∀ t : Fin grid0.N, _)

/-- The rows' block of a grid point. -/
def blk (t : Fin cfg0.N) : Fin 64 := ⟨(grid0.coords t 0).val, (grid0.coords t 0).isLt⟩

theorem iblk0_at (c : Dev nD) (t : Fin cfg0.N) (r : Fin 512) (k : Fin 2048) :
    iblk m c 0 t (ix2 r k) = token (xs m c) ⟨(blk t).val * 512 + r.val, by omega⟩ k := by
  have e : iblk m c 0 t (ix2 r k) = V m c main_v0 (ix2 ⟨(blk t).val * 512 + r.val, by omega⟩ k) := by
    blk_simp [iblk]
    refine congrArg (V m c main_v0) ?_
    blk_ext [index0]
    · rfl
  rw [e, rows]

theorem iblk1_at (c : Dev nD) (t : Fin cfg0.N) (k : Fin 2048) : iblk m c 1 t (ix2 0 k) = gain m c (ix1 k) := by
  have e : iblk m c 1 t (ix2 0 k) = V m c main_v2 (ix2 0 k) := by
    blk_simp [iblk]
    refine congrArg (V m c main_v2) ?_
    blk_ext [index1]
  rw [e, gains]

theorem iblk2_at (c : Dev nD) (t : Fin cfg0.N) (k : Fin 2048) (j : Fin 4096) :
    iblk m c 2 t (ix2 k j) = weights m c (ix2 k ⟨4864 + j.val, by omega⟩) := by
  have e : iblk m c 2 t (ix2 k j) = V m c main_v3 (ix2 k j) := by
    blk_simp [iblk]
    refine congrArg (V m c main_v3) ?_
    blk_ext [index2]
  rw [e, columns]

theorem iblk3_at (c : Dev nD) (t : Fin cfg0.N) (j : Fin 4096) : iblk m c 3 t (ix2 0 j) = (0 : EReal) := by
  have e : iblk m c 3 t (ix2 0 j) = V m c main_v4 (ix2 0 j) := by
    blk_simp [iblk]
    refine congrArg (V m c main_v4) ?_
    blk_ext [index3]
  rw [e, bias]

theorem hz : (![0, 0] : Fin 2 → Nat) = fun _ => 0 := by decide

theorem out_at (x0 : Vec Ideal S512x2048 .f32) (x1 : Vec Ideal S1x2048 .f32) (x2 : Vec Ideal S2048x4096 .bf16)
    (x3 : Vec Ideal S1x4096 .f32) (r : Fin 512) (j : Fin 4096) :
    out0_4 x0 x1 x2 x3 (ix2 r j)
      = proj (fun k => x0 (ix2 r k)) (fun k => x1 (ix2 0 k)) (fun k => x2 (ix2 k j)) (x3 (ix2 0 j)) := by
  unfold out0_4
  rw [View.canon_unit_zero hz, pay_at, View.ld_unit_zero hz, View.ld_unit_zero hz, View.ld_unit_zero hz, View.ld_unit_zero hz]

theorem final (c : Dev nD) : (dats m 0 c).arrAt 4 cfg0.N = gates (xs m c) (gain m c) (weights m c) := by
  refine (dats m 0 c).arrAt_eq_of_covers 4 _ (by decide +kernel) fun t hf y => ?_
  blk_simp
  rw [after0_4]
  have hy : y = ix2 (y 0) (y 1) := by
    funext a
    match a with
    | ⟨0, _⟩ => rfl
    | ⟨1, _⟩ => rfl
  have he : (win0_4.blk t).view.emb y = ix2 (⟨(blk t).val * 512 + (y 0).val, by
      have h : (y 0).val < 512 := (y 0).isLt
      omega⟩ : Fin 32768) (y 1) := by
    blk_ext [index4]
    · rfl
  rw [he, hy]
  refine (out_at _ _ _ _ (y 0) (y 1)).trans ?_
  refine congr (congr (congr (congrArg proj ?_) ?_) ?_) (iblk3_at m c t (y 1))
  · funext k; exact iblk0_at m c t (y 0) k
  · funext k; exact iblk1_at m c t k
  · funext k; exact iblk2_at m c t k (y 1)

/-- The run of the kernel: the result is the gates' projection, and the arguments are as launched. -/
theorem run : θ_run defs (onTc (τ := τ) (main (F := Ideal))) ⟨m, fun _ => 0, ρ⟩ fun r => ∀ c : Dev nD,
      r.2.mem ((c : Thread nD τ).loc main_v5) = gates (xs m c) (gain m c) (weights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.GatesValue

end
-- ==== Proof.PackedValue.lean ====
/- The projection onto the packed queries, keys and values: what a block of the kernel computes at an index, and the kernel's result array. -/
module

public import proofs.«01_k».proof.Proof.NormProj
public import proofs.«01_k».proof.Proof.Gen.Kernel3Ideal.Value
public import Idealize.ShloMosaic.Lib.Pipeline.ValueKit

@[expose] public section

noncomputable section

namespace Cert.PackedValue

open Idealize.ShloMosaic hiding ix1 ix2 ix3
open Idealize.ShloMosaic.TcCoe Idealize.SL.Sem Idealize.ShloMosaic.ValueIdx
open Cert.Kernel3Ideal Cert.Kernel3Ideal.Gen Cert.NormProj
open Idealize.ShloMosaic.Pipeline (Dat)

/-! ## The body's value at an index -/

theorem lhs_0 (i : S512x1536.Idx) (q : dot_S512x2048_S2048x1536_S512x1536_1_0_0_1_n_n.contr.Idx) :
    (dot_S512x2048_S2048x1536_S512x1536_1_0_0_1_n_n.lhsIdx i q 0).val = (i 0).val := by
  unfold DotDims.lhsIdx
  rw [dif_neg (show ¬(0 : Fin S512x2048.rank) ∈ dot_S512x2048_S2048x1536_S512x1536_1_0_0_1_n_n.lhsBatch by decide),
    dif_pos (show (0 : Fin S512x2048.rank) ∈ dot_S512x2048_S2048x1536_S512x1536_1_0_0_1_n_n.lhsNonContracting by decide)]
  rfl

theorem rhs_1 (i : S512x1536.Idx) (q : dot_S512x2048_S2048x1536_S512x1536_1_0_0_1_n_n.contr.Idx) :
    (dot_S512x2048_S2048x1536_S512x1536_1_0_0_1_n_n.rhsIdx i q 1).val = (i 1).val := by
  unfold DotDims.rhsIdx
  rw [dif_neg (show ¬(1 : Fin S2048x1536.rank) ∈ dot_S512x2048_S2048x1536_S512x1536_1_0_0_1_n_n.rhsBatch by decide),
    dif_pos (show (1 : Fin S2048x1536.rank) ∈ dot_S512x2048_S2048x1536_S512x1536_1_0_0_1_n_n.rhsNonContracting by decide)]
  rfl

theorem product_at (u : FVec Ideal S512x2048 .bf16) (v : FVec Ideal S2048x1536 .bf16) (r : Fin 512) (j : Fin 1536) :
    matmul dot_S512x2048_S2048x1536_S512x1536_1_0_0_1_n_n none u v (constant S512x1536 .f32 0x00000000#32) (ix2 r j)
      = ∑ k : Fin 2048, u (ix2 r k) * v (ix2 k j) := by
  refine (Ideal.matmul_constant_zero_apply _ none _ _ _).trans ?_
  rw [← Equiv.sum_comp (contrEquiv1 dot_S512x2048_S2048x1536_S512x1536_1_0_0_1_n_n 2048 rfl rfl).symm]
  refine Finset.sum_congr rfl fun k _ => ?_
  have hk := contrEquiv1_symm_val dot_S512x2048_S2048x1536_S512x1536_1_0_0_1_n_n 2048 rfl rfl k
  refine congrArg₂ (· * ·) (congrArg u (funext fun a => Fin.ext ?_)) (congrArg v (funext fun a => Fin.ext ?_))
  · match a with
    | ⟨0, _⟩ => exact lhs_0 _ _
    | ⟨1, _⟩ => exact (dot_S512x2048_S2048x1536_S512x1536_1_0_0_1_n_n.lhsIdx_val_of_single rfl _ _).trans hk
  · match a with
    | ⟨0, _⟩ => exact (dot_S512x2048_S2048x1536_S512x1536_1_0_0_1_n_n.rhsIdx_val_of_single rfl _ _).trans hk
    | ⟨1, _⟩ => exact rhs_1 _ _

/-- The column of reciprocal roots. -/
def roots (x : FVec Ideal S512x2048 .f32) : FVec Ideal S512x1 .f32 :=
  rsqrt (addf (divf (shapeCast S512x1 (multiReduction .add [1] S512 (mulf x x) 0x00000000#32 reduces_S512x2048_S512 (.inl rfl) rfl)
    shapeCasts_S512_S512x1) (broadcast S512x1 (Scalar.ofBits .f32 0x45000000#32))) (broadcast S512x1 (Scalar.ofBits .f32 0x3727C5AC#32)))

theorem roots_at (x : FVec Ideal S512x2048 .f32) (r : Fin 512) : roots x (ix2 r 0) = scale (fun k => x (ix2 r k)) := by
  have e : shapeCast S512x1 (multiReduction .add [1] S512 (mulf x x) 0x00000000#32 reduces_S512x2048_S512 (.inl rfl) rfl)
      shapeCasts_S512_S512x1 (ix2 r 0) = ∑ k : Fin 2048, x (ix2 r k) * x (ix2 r k) := by
    refine (shapeCast_apply _ _ _ (ix1 r) ?_).trans ?_
    · rw [Shape.rowMajor_val_two, Shape.rowMajor_val_one]
      show r.val = r.val * 1 + 0
      omega
    · refine (Ideal.multiReduction_add_single _ _ _ _ _ _).trans ?_
      refine Finset.sum_congr rfl fun k _ => ?_
      have hx : Shape.Reduces.lift reduces_S512x2048_S512 (ix1 r) k = ix2 r k :=
        funext fun a => Fin.ext (by match a with | ⟨0, _⟩ => rfl | ⟨1, _⟩ => rfl)
      rw [hx]
      rfl
  show Ideal.rsqrt (Ideal.div (shapeCast S512x1 (multiReduction .add [1] S512 (mulf x x) 0x00000000#32 reduces_S512x2048_S512 (.inl rfl) rfl)
      shapeCasts_S512_S512x1 (ix2 r 0)) _ + _) = _
  rw [e]
  rfl

theorem pay_at (x0 : Vec Ideal S512x2048 .f32) (x1 : Vec Ideal S1x2048 .f32) (x2 : Vec Ideal S2048x1536 .bf16)
    (x3 : Vec Ideal S1x1536 .f32) (r : Fin 512) (j : Fin 1536) :
    k0_pay1 x0 x1 x2 x3 (ix2 r j)
      = proj (fun k => x0 (ix2 r k)) (fun k => x1 (ix2 0 k)) (fun k => x2 (ix2 k j)) (x3 (ix2 0 j)) := by
  have hp : k0_pay1 x0 x1 x2 x3 (ix2 r j)
      = matmul dot_S512x2048_S2048x1536_S512x1536_1_0_0_1_n_n none
          (truncf .bf16 (mulf (mulf (shapeCast S512x2048 x0 shapeCasts_S512x2048_S512x2048)
            (broadcastTo S512x2048 (roots (shapeCast S512x2048 x0 shapeCasts_S512x2048_S512x2048)) broadcasts_S512x1_S512x2048))
            (broadcastTo S512x2048 (shapeCast S1x2048 x1 shapeCasts_S1x2048_S1x2048) broadcasts_S1x2048_S512x2048)) bitsLt_bf16_f32)
          (shapeCast S2048x1536 x2 shapeCasts_S2048x1536_S2048x1536) (constant S512x1536 .f32 0x00000000#32) (ix2 r j)
        + broadcastTo S512x1536 (shapeCast S1x1536 x3 shapeCasts_S1x1536_S1x1536) broadcasts_S1x1536_S512x1536 (ix2 r j) := rfl
  rw [hp, product_at, shapeCast_self, shapeCast_self, shapeCast_self, shapeCast_self]
  unfold proj
  have hb : ∀ (b : Vec Ideal S1x1536 .f32), broadcastTo S512x1536 b broadcasts_S1x1536_S512x1536 (ix2 r j) = b (ix2 0 j) := fun b =>
    broadcastTo_apply _ _ _ _ (fun a => by match a with | ⟨0, _⟩ => rfl | ⟨1, _⟩ => rfl)
  rw [hb]
  refine congrArg (· + _) (Finset.sum_congr rfl fun k _ => congrArg (· * _) ?_)
  have hg : broadcastTo S512x2048 x1 broadcasts_S1x2048_S512x2048 (ix2 r k) = x1 (ix2 0 k) :=
    broadcastTo_apply _ _ _ _ (fun a => by match a with | ⟨0, _⟩ => rfl | ⟨1, _⟩ => rfl)
  have hr : broadcastTo S512x2048 (roots x0) broadcasts_S512x1_S512x2048 (ix2 r k) = roots x0 (ix2 r 0) :=
    broadcastTo_apply _ _ _ _ (fun a => by match a with | ⟨0, _⟩ => rfl | ⟨1, _⟩ => rfl)
  show x0 (ix2 r k) * broadcastTo S512x2048 (roots x0) broadcasts_S512x1_S512x2048 (ix2 r k)
    * broadcastTo S512x2048 x1 broadcasts_S1x2048_S512x2048 (ix2 r k) = _
  rw [hg, hr, roots_at]

/-! ## What the host code before the kernel leaves in the operands -/

variable (m : (ℓ : Loc nD τ sig) → Buf (Elt Ideal) ℓ) (ρ : Dev nD → PrngReg)

/-- The arguments of a device, as launched. -/
abbrev xs (c : Dev nD) : Tokens := m ((c : Thread nD τ).loc main_arg0)
abbrev gain (c : Dev nD) : Gain := m ((c : Thread nD τ).loc main_arg1)
abbrev weights (c : Dev nD) : Weights := m ((c : Thread nD τ).loc main_arg2)
abbrev biases (c : Dev nD) : Bias := m ((c : Thread nD τ).loc main_arg3)

theorem rows (c : Dev nD) (r : Fin 32768) (k : Fin 2048) : V m c main_v0 (ix2 r k) = token (xs m c) r k := by
  have e : V m c main_v0 = shapeCast S32768x2048 (xs m c) shapeCasts_S2x16384x2048_S32768x2048 := by
    show StableHlo.after hostOps0 _ (Proc.devRef .tc main_v0) = _
    after_results
    rfl
  rw [e]
  refine shapeCast_apply _ _ _ _ ?_
  rw [Shape.rowMajor_val_three, Shape.rowMajor_val_two]
  show (r.val / 16384 * 16384 + r.val % 16384) * 2048 + k.val = r.val * 2048 + k.val
  omega

theorem gains (c : Dev nD) (k : Fin 2048) : V m c main_v2 (ix2 0 k) = gain m c (ix1 k) := by
  have e : V m c main_v2 = shapeCast S1x2048 (gain m c) shapeCasts_S2048_S1x2048 := by
    show StableHlo.after hostOps0 _ (Proc.devRef .tc main_v2) = _
    after_results
    rfl
  rw [e]
  refine shapeCast_apply _ _ _ _ ?_
  rw [Shape.rowMajor_val_one, Shape.rowMajor_val_two]
  show k.val = 0 * 2048 + k.val
  omega

theorem columns (c : Dev nD) (k : Fin 2048) (j : Fin 1536) :
    V m c main_v3 (ix2 k j) = weights m c (ix2 k ⟨3328 + j.val, by omega⟩) := by
  have e : V m c main_v3 = extractStridedSlice S2048x1536 ![0, 3328] (truncf .bf16 (weights m c) bitsLt_bf16_f32)
      slices_S2048x8960_S2048x1536_0_3328 := by
    show StableHlo.after hostOps0 _ (Proc.devRef .tc main_v3) = _
    after_results
  rw [e]
  refine (extractStridedSlice_apply _ _ _ _ (ix2 k ⟨3328 + j.val, by omega⟩) (fun a => ?_)).trans rfl
  match a with
  | ⟨0, _⟩ => show k.val = 0 + k.val; omega
  | ⟨1, _⟩ => rfl

theorem bias (c : Dev nD) (j : Fin 1536) : V m c main_v4 (ix2 0 j) = biases m c (ix1 j) := by
  have e : V m c main_v4 = shapeCast S1x1536 (biases m c) shapeCasts_S1536_S1x1536 := by
    show StableHlo.after hostOps0 _ (Proc.devRef .tc main_v4) = _
    after_results
    rfl
  rw [e]
  refine shapeCast_apply _ _ _ _ ?_
  rw [Shape.rowMajor_val_one, Shape.rowMajor_val_two]
  show j.val = 0 * 1536 + j.val
  omega

/-! ## The blocks -/

theorem index0 : ∀ t : Fin cfg0.N, win0_0.index t = ![(grid0.coords t 0).val, 0] :=
  (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![(grid0.coords t 0).val, 0] :=
  (by decide +kernel : ∀ t : Fin grid0.N, _)

/-- The rows' block of a grid point. -/
def blk (t : Fin cfg0.N) : Fin 64 := ⟨(grid0.coords t 0).val, (grid0.coords t 0).isLt⟩

theorem iblk0_at (c : Dev nD) (t : Fin cfg0.N) (r : Fin 512) (k : Fin 2048) :
    iblk m c 0 t (ix2 r k) = token (xs m c) ⟨(blk t).val * 512 + r.val, by omega⟩ k := by
  have e : iblk m c 0 t (ix2 r k) = V m c main_v0 (ix2 ⟨(blk t).val * 512 + r.val, by omega⟩ k) := by
    blk_simp [iblk]
    refine congrArg (V m c main_v0) ?_
    blk_ext [index0]
    · rfl
  rw [e, rows]

theorem iblk1_at (c : Dev nD) (t : Fin cfg0.N) (k : Fin 2048) : iblk m c 1 t (ix2 0 k) = gain m c (ix1 k) := by
  have e : iblk m c 1 t (ix2 0 k) = V m c main_v2 (ix2 0 k) := by
    blk_simp [iblk]
    refine congrArg (V m c main_v2) ?_
    blk_ext [index1]
  rw [e, gains]

theorem iblk2_at (c : Dev nD) (t : Fin cfg0.N) (k : Fin 2048) (j : Fin 1536) :
    iblk m c 2 t (ix2 k j) = weights m c (ix2 k ⟨3328 + j.val, by omega⟩) := by
  have e : iblk m c 2 t (ix2 k j) = V m c main_v3 (ix2 k j) := by
    blk_simp [iblk]
    refine congrArg (V m c main_v3) ?_
    blk_ext [index2]
  rw [e, columns]

theorem iblk3_at (c : Dev nD) (t : Fin cfg0.N) (j : Fin 1536) : iblk m c 3 t (ix2 0 j) = biases m c (ix1 j) := by
  have e : iblk m c 3 t (ix2 0 j) = V m c main_v4 (ix2 0 j) := by
    blk_simp [iblk]
    refine congrArg (V m c main_v4) ?_
    blk_ext [index3]
  rw [e, bias]

theorem hz : (![0, 0] : Fin 2 → Nat) = fun _ => 0 := by decide

theorem out_at (x0 : Vec Ideal S512x2048 .f32) (x1 : Vec Ideal S1x2048 .f32) (x2 : Vec Ideal S2048x1536 .bf16)
    (x3 : Vec Ideal S1x1536 .f32) (r : Fin 512) (j : Fin 1536) :
    out0_4 x0 x1 x2 x3 (ix2 r j)
      = proj (fun k => x0 (ix2 r k)) (fun k => x1 (ix2 0 k)) (fun k => x2 (ix2 k j)) (x3 (ix2 0 j)) := by
  unfold out0_4
  rw [View.canon_unit_zero hz, pay_at, View.ld_unit_zero hz, View.ld_unit_zero hz, View.ld_unit_zero hz, View.ld_unit_zero hz]

theorem final (c : Dev nD) : (dats m 0 c).arrAt 4 cfg0.N = packed (xs m c) (gain m c) (weights m c) (biases m c) := by
  refine (dats m 0 c).arrAt_eq_of_covers 4 _ (by decide +kernel) fun t hf y => ?_
  blk_simp
  rw [after0_4]
  have hy : y = ix2 (y 0) (y 1) := by
    funext a
    match a with
    | ⟨0, _⟩ => rfl
    | ⟨1, _⟩ => rfl
  have he : (win0_4.blk t).view.emb y = ix2 (⟨(blk t).val * 512 + (y 0).val, by
      have h : (y 0).val < 512 := (y 0).isLt
      omega⟩ : Fin 32768) (y 1) := by
    blk_ext [index4]
    · rfl
  rw [he, hy]
  refine (out_at _ _ _ _ (y 0) (y 1)).trans ?_
  refine congr (congr (congr (congrArg proj ?_) ?_) ?_) (iblk3_at m c t (y 1))
  · funext k; exact iblk0_at m c t (y 0) k
  · funext k; exact iblk1_at m c t k
  · funext k; exact iblk2_at m c t k (y 1)

/-- The run of the kernel: the result is the projection with its bias, and the arguments are as launched. -/
theorem run : θ_run defs (onTc (τ := τ) (main (F := Ideal))) ⟨m, fun _ => 0, ρ⟩ fun r => ∀ c : Dev nD,
      r.2.mem ((c : Thread nD τ).loc main_v5) = packed (xs m c) (gain m c) (weights m c) (biases m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.PackedValue

end
-- ==== Proof.ProjRef.lean ====
/- The references of the two projections at an index. -/
module

public import proofs.«01_k».proof.Proof.NormProj
public import proofs.«01_k».proof.Proof.Gen.Reference2Ideal.Read
public import proofs.«01_k».proof.Proof.Gen.Reference3Ideal.Read

@[expose] public section

noncomputable section

namespace Cert.ProjRef

open Idealize.ShloMosaic Idealize.ShloMosaic.ValueIdx Cert.NormProj

section Gates

open Cert.Reference2Ideal Cert.Reference2Ideal.Gen Cert.Reference2Ideal.Read

variable (x : Tokens) (g : Gain) (w : Weights)

theorem root2_at (b : Fin 2) (t : Fin 16384) :
    val_main_v7 (F := Ideal) x (ix3 b t 0) = scale (fun k => x (ix3 b t k)) := by
  rw [val_main_v7_apply, val_main_v6_apply, val_main_v4_apply, val_main_v2_apply, val_main_v1_apply, val_main_cst_apply,
    val_main_v3_apply, val_main_cst_0_apply, val_main_v5_apply, val_main_cst_1_apply]
  have e : (∑ k : Fin 2048, val_main_v0 (F := Ideal) x (idx_main_v1 (idx_main_v2 (ix3 b t 0)) k)) = ∑ k : Fin 2048, x (ix3 b t k) * x (ix3 b t k) := by
    refine Finset.sum_congr rfl fun k _ => ?_
    rw [val_main_v0_apply]
    have hi : idx_main_v1 (idx_main_v2 (ix3 b t 0)) k = ix3 b t k :=
      funext fun a => Fin.ext (by match a with | ⟨0, _⟩ => rfl | ⟨1, _⟩ => rfl | ⟨2, _⟩ => rfl)
    rw [hi]
    rfl
  have hz : (FloatOps.ofBits (F := Ideal) .f32 0x00000000#32 : EReal) = 0 := Ideal.ofBits_zero_f32
  rw [e, hz, zero_add]
  rfl

theorem normed2_at (b : Fin 2) (t : Fin 16384) (k : Fin 2048) :
    val_main_v12 (F := Ideal) x g (ix3 b t k) = x (ix3 b t k) * scale (fun k => x (ix3 b t k)) * g (ix1 k) := by
  rw [val_main_v12_apply, val_main_v9_apply, val_main_v8_apply, val_main_v11_apply, val_main_v10_apply]
  have hr : idx_main_v8 (ix3 b t k) = ix3 b t 0 :=
    funext fun a => Fin.ext (by match a with | ⟨0, _⟩ => rfl | ⟨1, _⟩ => rfl | ⟨2, _⟩ => rfl)
  have hg : idx_main_v10 (idx_main_v11 (ix3 b t k)) = ix1 k :=
    funext fun a => Fin.ext (by match a with | ⟨0, _⟩ => rfl)
  rw [hr, hg, root2_at]
  rfl

theorem gates_eq : val_main_v16 (F := Ideal) x g w = gates x g w := by
  funext i
  have h0 : (i 0).val < 32768 := (i 0).isLt
  have h1 : (i 1).val < 4096 := (i 1).isLt
  rw [val_main_v16_apply, val_main_v15_apply, val_main_v14_apply, val_main_v13_apply]
  show (∑ k : Fin 2048, _) = _
  unfold gates proj token
  rw [add_zero]
  refine Finset.sum_congr rfl fun k _ => ?_
  have hl : lidx_main_v13 (idx_main_v14 (idx_main_v15 i)) k = ix3 ⟨(i 0).val / 16384, by omega⟩ ⟨(i 0).val % 16384, by omega⟩ k :=
    funext fun a => Fin.ext (by
      match a with
      | ⟨0, _⟩ => show ((i 0).val * 4096 + (i 1).val) / 67108864 = (i 0).val / 16384; omega
      | ⟨1, _⟩ => show ((i 0).val * 4096 + (i 1).val) / 4096 % 16384 = (i 0).val % 16384; omega
      | ⟨2, _⟩ => rfl)
  have hw : ridx_main_v13 (idx_main_v14 (idx_main_v15 i)) k = ix2 k ⟨4864 + (i 1).val, by omega⟩ :=
    funext fun a => Fin.ext (by
      match a with
      | ⟨0, _⟩ => rfl
      | ⟨1, _⟩ => show 4864 + ((i 0).val * 4096 + (i 1).val) % 4096 = 4864 + (i 1).val; omega)
  rw [hl, hw, normed2_at]

end Gates

section Packed

open Cert.Reference3Ideal Cert.Reference3Ideal.Gen Cert.Reference3Ideal.Read

variable (x : Tokens) (g : Gain) (w : Weights) (b' : Bias)

theorem root3_at (b : Fin 2) (t : Fin 16384) :
    val_main_v7 (F := Ideal) x (ix3 b t 0) = scale (fun k => x (ix3 b t k)) := root2_at x b t

theorem normed3_at (b : Fin 2) (t : Fin 16384) (k : Fin 2048) :
    val_main_v12 (F := Ideal) x g (ix3 b t k) = x (ix3 b t k) * scale (fun k => x (ix3 b t k)) * g (ix1 k) := normed2_at x g b t k

theorem packed_eq : val_main_v19 (F := Ideal) x g w b' = packed x g w b' := by
  funext i
  have h0 : (i 0).val < 32768 := (i 0).isLt
  have h1 : (i 1).val < 1536 := (i 1).isLt
  rw [val_main_v19_apply, val_main_v18_apply, val_main_v17_apply, val_main_v14_apply, val_main_v13_apply, val_main_v16_apply,
    val_main_v15_apply]
  show (∑ k : Fin 2048, _) + _ = _
  unfold packed proj token
  have hb : idx_main_v15 (idx_main_v16 (idx_main_v18 i)) = ix1 (i 1) :=
    funext fun a => Fin.ext (by
      match a with
      | ⟨0, _⟩ => show ((i 0).val * 1536 + (i 1).val) % 1536 = (i 1).val; omega)
  rw [hb]
  refine congrArg (· + _) (Finset.sum_congr rfl fun k _ => ?_)
  have hl : lidx_main_v13 (idx_main_v14 (idx_main_v18 i)) k = ix3 ⟨(i 0).val / 16384, by omega⟩ ⟨(i 0).val % 16384, by omega⟩ k :=
    funext fun a => Fin.ext (by
      match a with
      | ⟨0, _⟩ => show ((i 0).val * 1536 + (i 1).val) / 25165824 = (i 0).val / 16384; omega
      | ⟨1, _⟩ => show ((i 0).val * 1536 + (i 1).val) / 1536 % 16384 = (i 0).val % 16384; omega
      | ⟨2, _⟩ => rfl)
  have hw : ridx_main_v13 (idx_main_v14 (idx_main_v18 i)) k = ix2 k ⟨3328 + (i 1).val, by omega⟩ :=
    funext fun a => Fin.ext (by
      match a with
      | ⟨0, _⟩ => rfl
      | ⟨1, _⟩ => show 3328 + ((i 0).val * 1536 + (i 1).val) % 1536 = 3328 + (i 1).val; omega)
  rw [hl, hw, normed3_at]

end Packed

end Cert.ProjRef

end
-- ==== Proof.ProjClaims.lean ====
/- The claims about the two projections: their frames, their idealizations, and that they compute what their references compute. -/
module

public import proofs.«01_k».proof.Defs
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.GatesValue
public import proofs.«01_k».proof.Proof.PackedValue
public import proofs.«01_k».proof.Proof.ProjRef

@[expose] public section

noncomputable section

namespace Cert.ProjClaims

open Idealize.ShloMosaic hiding ix1 ix2 ix3
open Idealize.ShloMosaic.TcCoe Idealize.SL.Sem Idealize.ShloMosaic.ValueIdx Cert.NormProj

theorem kernel2 : Cert.quiescent_Kernel2 := fun m ρ _ => Cert.Kernel2.Gen.frame m ρ
theorem kernel2Ideal : Cert.quiescent_Kernel2Ideal := fun m ρ _ => Cert.Kernel2Ideal.Gen.frame m ρ
theorem kernel3 : Cert.quiescent_Kernel3 := fun m ρ _ => Cert.Kernel3.Gen.frame m ρ
theorem kernel3Ideal : Cert.quiescent_Kernel3Ideal := fun m ρ _ => Cert.Kernel3Ideal.Gen.frame m ρ

theorem reference2Ideal : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem reference3Ideal : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem algebraic2 : Cert.algebraic_Kernel2Ideal_Reference2Ideal := by
  intro m ρ m' ρ' _ hagree
  refine ⟨fun c => gates (GatesValue.xs m c) (GatesValue.gain m c) (GatesValue.weights m c), GatesValue.run m ρ, ?_⟩
  refine (θ_run Cert.Reference2Ideal.defs _ _).mono (fun r h c => ⟨(h c).1.trans ?_, (h c).2⟩) (Cert.Reference2Ideal.Value.run m' ρ')
  rw [Cert.Reference2Ideal.Read.val_main_v16_eq, (hagree c).1, (hagree c).2.1, (hagree c).2.2]
  exact Cert.ProjRef.gates_eq _ _ _

theorem algebraic3 : Cert.algebraic_Kernel3Ideal_Reference3Ideal := by
  intro m ρ m' ρ' _ hagree
  refine ⟨fun c => packed (PackedValue.xs m c) (PackedValue.gain m c) (PackedValue.weights m c) (PackedValue.biases m c),
    PackedValue.run m ρ, ?_⟩
  refine (θ_run Cert.Reference3Ideal.defs _ _).mono (fun r h c => ⟨(h c).1.trans ?_, (h c).2⟩) (Cert.Reference3Ideal.Value.run m' ρ')
  rw [Cert.Reference3Ideal.Read.val_main_v19_eq, (hagree c).1, (hagree c).2.1, (hagree c).2.2.1, (hagree c).2.2.2]
  exact Cert.ProjRef.packed_eq _ _ _ _

end Cert.ProjClaims

end
-- ==== Proof.FfnWords.lean ====
/- The conditions and offsets of the experts' kernel, as numbers. -/
module

public import proofs.«01_k».proof.Proof.Gen.Kernel4Ideal
public import Idealize.ShloMosaic.Lib.WordCmp
public import Mathlib.Tactic.IntervalCases
public import Mathlib.Tactic.FinCases
public import proofs.«01_k».proof.Proof.Words

@[expose] public section

namespace Cert.FfnWords

open Idealize.ShloMosaic Idealize.ShloMosaic.WordCmp Cert.Kernel4Ideal Cert.Kernel4Ideal.Gen

/-- The second coordinate of a grid point. -/
abbrev step (i : grid0.Coords) : Nat := (i 1).val

theorem step_lt (i : grid0.Coords) : step i < 8 := (i 1).isLt

theorem bit_iff (b : Bool) : BitVec.ofBool b = 1#1 ↔ b = true := by cases b <;> decide

theorem ne_zero_extui (b : Bool) :
    Scalar.cmpi .ne (Scalar.extui (BitVec.ofBool b) : BitVec 32) (0#32 : BitVec 32) = BitVec.ofBool b := by
  cases b <;> decide

theorem slt_four (i : grid0.Coords) : Scalar.cmpi .slt (BitVec.ofNat 32 (i 1).val) (4#32 : BitVec 32) = BitVec.ofBool (decide (step i < 4)) :=
  Words.slt_small (i 1).val 4 (by have := step_lt i; unfold step at this; omega) (by omega)

theorem sge_four (i : grid0.Coords) : Scalar.cmpi .sge (BitVec.ofNat 32 (i 1).val) (4#32 : BitVec 32) = BitVec.ofBool (decide (4 ≤ step i)) := by
  have h := step_lt i
  unfold step at h ⊢
  generalize (i 1).val = a at h ⊢
  interval_cases a <;> decide

theorem eq_full (v : BitVec 32) : Scalar.cmpi .eq v (1152#32 : BitVec 32) = BitVec.ofBool (decide (v = 1152#32)) := cmpi_eq_eq v _

theorem xor_true (b : Bool) : Scalar.xori (BitVec.ofBool b) (1#1 : BitVec 1) = BitVec.ofBool (!b) := by cases b <;> decide

theorem and_bool (a b : Bool) : Scalar.andi (BitVec.ofBool a) (BitVec.ofBool b) = BitVec.ofBool (a && b) := by
  cases a <;> cases b <;> decide

theorem cond1_iff (i : grid0.Coords) (v : BitVec 32) : k0_cond1 i v = 1#1 ↔ step i < 4 ∧ v = 1152#32 := by
  unfold k0_cond1; dsimp only
  rw [slt_four, eq_full, and_bool, ne_zero_extui, bit_iff]; simp

theorem cond2_iff (i : grid0.Coords) (v : BitVec 32) : k0_cond2 i v = 1#1 ↔ step i < 4 ∧ v ≠ 1152#32 := by
  unfold k0_cond2; dsimp only
  rw [slt_four, eq_full, xor_true, and_bool, ne_zero_extui, bit_iff]; simp

theorem cond6_iff (i : grid0.Coords) (v : BitVec 32) : k0_cond6 i v = 1#1 ↔ 4 ≤ step i ∧ v = 1152#32 := by
  unfold k0_cond6; dsimp only
  rw [sge_four, eq_full, and_bool, ne_zero_extui, bit_iff]; simp

theorem cond7_iff (i : grid0.Coords) (v : BitVec 32) : k0_cond7 i v = 1#1 ↔ 4 ≤ step i ∧ v ≠ 1152#32 := by
  unfold k0_cond7; dsimp only
  rw [sge_four, eq_full, xor_true, and_bool, ne_zero_extui, bit_iff]; simp

theorem sgt_iff (v k : BitVec 32) :
    Scalar.cmpi .ne (Scalar.extui (Scalar.cmpi .sgt v k) : BitVec 32) (0#32 : BitVec 32) = 1#1 ↔ k.toInt < v.toInt := by
  rw [show Scalar.cmpi .sgt v k = BitVec.ofBool (decide (k.toInt < v.toInt)) from cmpi_sgt_eq v k, ne_zero_extui, bit_iff]
  simp

theorem sle_iff (v k : BitVec 32) :
    Scalar.cmpi .ne (Scalar.extui (Scalar.cmpi .sle v k) : BitVec 32) (0#32 : BitVec 32) = 1#1 ↔ v.toInt ≤ k.toInt := by
  rw [show Scalar.cmpi .sle v k = BitVec.ofBool (decide (v.toInt ≤ k.toInt)) from cmpi_sle_eq v k, ne_zero_extui, bit_iff]
  simp

theorem cond3_iff (v : BitVec 32) : k0_cond3 v = 1#1 ↔ 0 < v.toInt := sgt_iff v 0#32
theorem cond4_iff (v : BitVec 32) : k0_cond4 v = 1#1 ↔ 384 < v.toInt := sgt_iff v 384#32
theorem cond5_iff (v : BitVec 32) : k0_cond5 v = 1#1 ↔ 768 < v.toInt := sgt_iff v 768#32
theorem cond8_iff (v : BitVec 32) : k0_cond8 v = 1#1 ↔ 0 < v.toInt := sgt_iff v 0#32
theorem cond9_iff (v : BitVec 32) : k0_cond9 v = 1#1 ↔ v.toInt ≤ 0 := sle_iff v 0#32
theorem cond10_iff (v : BitVec 32) : k0_cond10 v = 1#1 ↔ 384 < v.toInt := sgt_iff v 384#32
theorem cond11_iff (v : BitVec 32) : k0_cond11 v = 1#1 ↔ v.toInt ≤ 384 := sle_iff v 384#32
theorem cond12_iff (v : BitVec 32) : k0_cond12 v = 1#1 ↔ 768 < v.toInt := sgt_iff v 768#32
theorem cond13_iff (v : BitVec 32) : k0_cond13 v = 1#1 ↔ v.toInt ≤ 768 := sle_iff v 768#32

theorem off3_eq (i : grid0.Coords) : k0_off3 i = ![step i, 0, 0] := by
  unfold k0_off3 step; dsimp only
  have h := step_lt i; unfold step at h
  generalize (i 1).val = a at h ⊢
  interval_cases a <;> decide
theorem off4_eq (i : grid0.Coords) : k0_off4 i = ![step i, 0, 0] := off3_eq i
theorem off5_eq (i : grid0.Coords) : k0_off5 i = ![step i, 384, 0] := by
  unfold k0_off5 step; dsimp only
  have h := step_lt i; unfold step at h
  generalize (i 1).val = a at h ⊢
  interval_cases a <;> decide
theorem off6_eq (i : grid0.Coords) : k0_off6 i = ![step i, 768, 0] := by
  unfold k0_off6 step; dsimp only
  have h := step_lt i; unfold step at h
  generalize (i 1).val = a at h ⊢
  interval_cases a <;> decide
theorem off7_eq (i : grid0.Coords) (h4 : 4 ≤ step i) (r : Fin 2) :
    k0_off7 i (BitVec.ofNat 32 r.val) = ![2 * (step i - 4) + r.val, 0] := by
  unfold k0_off7 step; dsimp only
  have h := step_lt i; unfold step at h h4
  generalize (i 1).val = a at h h4 ⊢
  fin_cases r <;> interval_cases a <;> decide
theorem off8_eq (i : grid0.Coords) (h4 : 4 ≤ step i) (r : Fin 2) :
    k0_off8 i (BitVec.ofNat 32 r.val) = ![2 * (step i - 4) + r.val, 0] := off7_eq i h4 r
theorem off9_eq (i : grid0.Coords) (h4 : 4 ≤ step i) (r : Fin 2) :
    k0_off9 i (BitVec.ofNat 32 r.val) = ![2 * (step i - 4) + r.val, 0] := off7_eq i h4 r
theorem off10_eq (i : grid0.Coords) (h4 : 4 ≤ step i) (r : Fin 2) :
    k0_off10 i (BitVec.ofNat 32 r.val) = ![3072 + (2 * (step i - 4) + r.val), 0] := by
  unfold k0_off10 step; dsimp only
  have h := step_lt i; unfold step at h h4
  generalize (i 1).val = a at h h4 ⊢
  fin_cases r <;> interval_cases a <;> decide
theorem off11_eq (i : grid0.Coords) (h4 : 4 ≤ step i) (r : Fin 2) :
    k0_off11 i (BitVec.ofNat 32 r.val) = ![3072 + (2 * (step i - 4) + r.val), 0] := off10_eq i h4 r
theorem off12_eq (i : grid0.Coords) (h4 : 4 ≤ step i) (r : Fin 2) :
    k0_off12 i (BitVec.ofNat 32 r.val) = ![6144 + (2 * (step i - 4) + r.val), 0] := by
  unfold k0_off12 step; dsimp only
  have h := step_lt i; unfold step at h h4
  generalize (i 1).val = a at h h4 ⊢
  fin_cases r <;> interval_cases a <;> decide
theorem off13_eq (i : grid0.Coords) (h4 : 4 ≤ step i) (r : Fin 2) :
    k0_off13 i (BitVec.ofNat 32 r.val) = ![6144 + (2 * (step i - 4) + r.val), 0] := off12_eq i h4 r

/-- The side condition the kernel assumes of the row count it reads holds of every word. -/
theorem chk (i : grid0.Coords) (v : BitVec 32) : k0_chk1 i v := by
  have h8 := step_lt i
  refine ⟨fun h => ?_, fun h hb => ?_, fun h _ => ?_, fun h _ hb => ?_, fun h _ => ?_, fun h _ hb => ?_, fun h _ => ?_,
    fun h _ hb => ?_, fun h r => ?_, fun h _ r => ?_, fun h _ r => ?_⟩
  · have h4 := ((cond1_iff i v).mp h).1
    rw [off3_eq]
    generalize step i = a at h4
    interval_cases a <;> decide
  · have h4 := ((cond1_iff i v).mp h).1
    have e := off3_eq i
    generalize k0_off3 i = o at e hb ⊢
    subst e
    generalize step i = a at h4 hb ⊢
    refine (Rect.packedRows_iff_at _ _).mpr ?_
    show Shape.PackedRowsAt S4x1152x512 _ ![a, 0, 0] S1x1152x512.size (fun _ => 1)
    clear h hb
    interval_cases a <;> decide
  · have h4 := ((cond2_iff i v).mp h).1
    rw [off4_eq]
    generalize step i = a at h4
    interval_cases a <;> decide
  · have h4 := ((cond2_iff i v).mp h).1
    have e := off4_eq i
    generalize k0_off4 i = o at e hb ⊢
    subst e
    generalize step i = a at h4 hb ⊢
    refine (Rect.packedRows_iff_at _ _).mpr ?_
    show Shape.PackedRowsAt S4x1152x512 _ ![a, 0, 0] S1x384x512.size (fun _ => 1)
    clear h hb
    interval_cases a <;> decide
  · have h4 := ((cond2_iff i v).mp h).1
    rw [off5_eq]
    generalize step i = a at h4
    interval_cases a <;> decide
  · have h4 := ((cond2_iff i v).mp h).1
    have e := off5_eq i
    generalize k0_off5 i = o at e hb ⊢
    subst e
    generalize step i = a at h4 hb ⊢
    refine (Rect.packedRows_iff_at _ _).mpr ?_
    show Shape.PackedRowsAt S4x1152x512 _ ![a, 384, 0] S1x384x512.size (fun _ => 1)
    clear h hb
    interval_cases a <;> decide
  · have h4 := ((cond2_iff i v).mp h).1
    rw [off6_eq]
    generalize step i = a at h4
    interval_cases a <;> decide
  · have h4 := ((cond2_iff i v).mp h).1
    have e := off6_eq i
    generalize k0_off6 i = o at e hb ⊢
    subst e
    generalize step i = a at h4 hb ⊢
    refine (Rect.packedRows_iff_at _ _).mpr ?_
    show Shape.PackedRowsAt S4x1152x512 _ ![a, 768, 0] S1x384x512.size (fun _ => 1)
    clear h hb
    interval_cases a <;> decide
  · have h4 := ((cond6_iff i v).mp h).1
    rw [off7_eq i h4 r]
    generalize step i = a at h4 h8
    fin_cases r <;> interval_cases a <;> decide
  · have h4 := ((cond7_iff i v).mp h).1
    rw [off8_eq i h4 r]
    generalize step i = a at h4 h8
    fin_cases r <;> interval_cases a <;> decide
  · have h4 := ((cond7_iff i v).mp h).1
    rw [off9_eq i h4 r]
    generalize step i = a at h4 h8
    fin_cases r <;> interval_cases a <;> decide

end Cert.FfnWords
-- ==== Proof.FfnRun.lean ====
/- The experts' kernel, run at one grid point: what each of its cases writes. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.FfnWords
public import Idealize.ShloMosaic.Lib.Pipeline.FrameBody
public import Idealize.ShloMosaic.Lib.Tactic
public import Idealize.ShloMosaic.Lib.Pipeline.Value

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The separation-logic propositions of this program. -/
abbrev Res (F : FTy → Type) [FloatOps F] : Type := sProp (MT nD τ sig Unit (Elt F) ℕ (UR sig nD τ) ℕ)

/-! ## What a list of writes leaves -/

/-- The contents a list of writes leaves over `d`, the last write first. -/
def over {s : Shape} {e : EltTy} {Val : EltTy → Type} (d : s.Idx → Val e) : List (View.Piece Val s e) → s.Idx → Val e
  | [] => d
  | p :: L => fun y => open Classical in if h : ∃ x, p.1.emb x = y then p.2 h.choose else over d L y

theorem over_hit {s : Shape} {e : EltTy} {Val : EltTy → Type} (d : s.Idx → Val e) (r : Rect s) (w : r.shape.Idx → Val e)
    (L : List (View.Piece Val s e)) (x : r.shape.Idx) (y : s.Idx) (h : r.emb x = y) :
    over d ((⟨r, w⟩ : View.Piece Val s e) :: L) y = w x := by
  have hx : ∃ x, r.emb x = y := ⟨x, h⟩
  show (open Classical in if h : ∃ x, r.emb x = y then w h.choose else over d L y) = w x
  rw [dif_pos hx, r.emb.injective (hx.choose_spec.trans h.symm)]

theorem over_miss {s : Shape} {e : EltTy} {Val : EltTy → Type} (d : s.Idx → Val e) (r : Rect s) (w : r.shape.Idx → Val e)
    (L : List (View.Piece Val s e)) (y : s.Idx) (h : ∀ x, r.emb x ≠ y) :
    over d ((⟨r, w⟩ : View.Piece Val s e) :: L) y = over d L y :=
  dif_neg fun ⟨x, hx⟩ => h x hx

theorem read_writes_over {κ : Kind} {sp : Space} {s : Shape} {e : EltTy} {Val : EltTy → Type} (v : View sig κ sp s e)
    (f : v.ty.Contents Val) : ∀ L : List (View.Piece Val s e), v.read Val (v.writes Val f L) = over (v.read Val f) L
  | [] => rfl
  | ⟨r, w⟩ :: L => by
    funext y
    by_cases h : ∃ x, r.emb x = y
    · obtain ⟨x, rfl⟩ := h
      rw [over_hit _ r w L x _ rfl]
      exact View.read_writes_cons_emb v f r w L x
    · rw [over_miss _ r w L y fun x hx => h ⟨x, hx⟩, ← read_writes_over v f L, View.writes_cons]
      refine View.read_slice_write_of_not_mem r _ _ _ ?_
      intro hm
      obtain ⟨x, -, hx⟩ := Finset.mem_map.mp hm
      exact h ⟨x, hx⟩

/-! ## The operands and what they hold -/

abbrev tb0 : Memref sig .tc .smem S1 .i32 := Memref.whole main_arg7
abbrev htb0 : tb0.IsWhole := Memref.isWhole_whole _
abbrev tb1 : Memref sig .tc .smem S145 .i32 := Memref.whole main_arg5
abbrev htb1 : tb1.IsWhole := Memref.isWhole_whole _
abbrev tb2 : Memref sig .tc .smem S145 .i32 := Memref.whole main_arg6
abbrev htb2 : tb2.IsWhole := Memref.isWhole_whole _

abbrev TbBuf (F : FTy → Type) (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf F c M) : Res F :=
  M.view.loc (c : Thread nD τ) ↦{fullShare.right} f

/-- The staged operands of the body. -/
structure Ops where
  a5 : Memref sig .tc .vmem S1152x2048 .bf16
  h5 : a5.IsWhole
  a6 : Memref sig .tc .vmem S1x2048x512 .f32
  h6 : a6.IsWhole
  a7 : Memref sig .tc .vmem S1x2048x512 .f32
  h7 : a7.IsWhole
  a8 : Memref sig .tc .vmem S1x1x512 .f32
  h8 : a8.IsWhole
  a9 : Memref sig .tc .vmem S1x1x512 .f32
  h9 : a9.IsWhole
  a10 : Memref sig .tc .vmem S1x2048x256 .f32
  h10 : a10.IsWhole
  a11 : Memref sig .tc .vmem S1x2048x256 .f32
  h11 : a11.IsWhole
  a12 : Memref sig .tc .vmem S1x1x256 .f32
  h12 : a12.IsWhole
  a13 : Memref sig .tc .vmem S1x1x256 .f32
  h13 : a13.IsWhole
  a14 : Memref sig .tc .vmem S9216x128 .f32
  h14 : a14.IsWhole
  a15 : Memref sig .tc .vmem S9216x128 .f32
  h15 : a15.IsWhole
  a16 : Memref sig .tc .vmem S4x1152x512 .bf16
  h16 : a16.IsWhole

/-- The contents of the operands the body only reads. -/
structure Ins (F : FTy → Type) where
  x : Vec F S1152x2048 .bf16
  wg : Vec F S1x2048x512 .f32
  wl : Vec F S1x2048x512 .f32
  bg : Vec F S1x1x512 .f32
  bl : Vec F S1x1x512 .f32
  ul : Vec F S1x2048x256 .f32
  uh : Vec F S1x2048x256 .f32
  cl : Vec F S1x1x256 .f32
  ch : Vec F S1x1x256 .f32

/-- The tables as held. -/
structure Tbs (F : FTy → Type) (c : Dev nD) where
  n : TbBuf F c tb0
  e : TbBuf F c tb1
  r : TbBuf F c tb2

/-- The body at a point. -/
abbrev bodyOf (i : grid0.Coords) (A : Ops) : Prog (TpuEff nD τ sig (Elt F) Λ₀ .tc) PUnit :=
  cc0_moe_ffn i tb0 htb0 tb1 htb1 tb2 htb2 A.a5 A.h5 A.a6 A.h6 A.a7 A.h7 A.a8 A.h8 A.a9 A.h9 A.a10 A.h10 A.a11 A.h11 A.a12 A.h12 A.a13 A.h13 A.a14 A.h14 A.a15 A.h15 A.a16 A.h16

/-- Everything the body works on. -/
def held (c : Dev nD) (A : Ops) (T : Tbs F c) (X : Ins F) (y z : Vec F S9216x128 .f32) (d : Vec F S4x1152x512 .bf16) : Res F :=
  iprop(owns (c : Thread nD τ) A.a5 fullShare X.x ∗ owns (c : Thread nD τ) A.a6 fullShare X.wg ∗ owns (c : Thread nD τ) A.a7 fullShare X.wl
    ∗ owns (c : Thread nD τ) A.a8 fullShare X.bg ∗ owns (c : Thread nD τ) A.a9 fullShare X.bl
    ∗ owns (c : Thread nD τ) A.a10 fullShare X.ul ∗ owns (c : Thread nD τ) A.a11 fullShare X.uh
    ∗ owns (c : Thread nD τ) A.a12 fullShare X.cl ∗ owns (c : Thread nD τ) A.a13 fullShare X.ch
    ∗ owns (c : Thread nD τ) A.a14 fullShare y ∗ owns (c : Thread nD τ) A.a15 fullShare z ∗ owns (c : Thread nD τ) A.a16 fullShare d
    ∗ tbPt c tb0 T.n ∗ tbPt c tb1 T.e ∗ tbPt c tb2 T.r)

/-- The row count the body reads at a point. -/
abbrev rowsOf {c : Dev nD} (i : grid0.Coords) (T : Tbs F c) : BitVec 32 :=
  tb2.view.readAt (Elt F) (Rect.unit (s := S145) (k0_off1 i) S1.size (k0_off1_inb i)).toLoadRect T.r (Shape.Idx.first (Nat.lt_of_lt_of_eq Nat.one_pos (Eq.symm (a := S1.numel) (by decide))))

attribute [local irreducible] k0_cond1 k0_cond2 k0_cond3 k0_cond4 k0_cond5 k0_cond6 k0_cond7 k0_cond8 k0_cond9 k0_cond10 k0_cond11 k0_cond12 k0_cond13

/-! ## What is read, what is written -/

theorem inbF (p : Nat) (hp : p < 4) : ∀ a : Fin 3, (![p, 0, 0] : Fin 3 → Nat) a + S1x1152x512.size a ≤ S4x1152x512.size a := by
  interval_cases p <;> decide
theorem inbS (p s : Nat) (hp : p < 4) (hs : s ∈ [0, 384, 768]) :
    ∀ a : Fin 3, (![p, s, 0] : Fin 3 → Nat) a + S1x384x512.size a ≤ S4x1152x512.size a := by
  simp only [List.mem_cons, List.not_mem_nil, or_false] at hs
  rcases hs with rfl | rfl | rfl <;> interval_cases p <;> decide
theorem inbX (s : Nat) (hs : s ∈ [0, 384, 768]) : ∀ a : Fin 2, (![s, 0] : Fin 2 → Nat) a + S384x2048.size a ≤ S1152x2048.size a := by
  simp only [List.mem_cons, List.not_mem_nil, or_false] at hs
  rcases hs with rfl | rfl | rfl <;> decide

/-- One plane of the hidden activations, all its rows. -/
def planeF (d : Vec F S4x1152x512 .bf16) (p : Nat) (hp : p < 4) : Vec F S1x1152x512 .bf16 :=
  View.ld (Val := Elt F) (e' := .bf16) d (Rect.unit (s := S4x1152x512) ![p, 0, 0] S1x1152x512.size (inbF p hp))
/-- One plane of the hidden activations, the 384 rows from `s`. -/
def planeS (d : Vec F S4x1152x512 .bf16) (s : Nat) (hs : s ∈ [0, 384, 768]) (p : Nat) (hp : p < 4) : Vec F S1x384x512 .bf16 :=
  View.ld (Val := Elt F) (e' := .bf16) d (Rect.unit (s := S4x1152x512) ![p, s, 0] S1x384x512.size (inbS p s hp hs))
/-- The 384 token rows from `s`. -/
def rowsS (x : Vec F S1152x2048 .bf16) (s : Nat) (hs : s ∈ [0, 384, 768]) : Vec F S384x2048 .bf16 :=
  View.ld (Val := Elt F) (e' := .bf16) x (Rect.unit (s := S1152x2048) ![s, 0] S384x2048.size (inbX s hs))

/-- An output tile of a full block. -/
def oF (w : Vec F S1x2048x256 .f32) (d : Vec F S4x1152x512 .bf16) (b : Vec F S1x1x256 .f32) : FVec F S1152x256 .f32 :=
  k0_pay34 w (planeF d 0 (by decide)) (planeF d 1 (by decide)) (planeF d 2 (by decide)) (planeF d 3 (by decide)) b
/-- An output tile of the 384 rows from `s`. -/
def oS (w : Vec F S1x2048x256 .f32) (d : Vec F S4x1152x512 .bf16) (b : Vec F S1x1x256 .f32) (s : Nat) (hs : s ∈ [0, 384, 768]) : FVec F S384x256 .f32 :=
  k0_pay38 (k0_pay9 w) (planeS d s hs 0 (by decide)) (planeS d s hs 1 (by decide)) (planeS d s hs 2 (by decide)) (planeS d s hs 3 (by decide)) b

theorem inb7 (i : grid0.Coords) (hj : 4 ≤ step i) (r : Fin 2) : ∀ a, S1152x128.size a = 0 ∨ (k0_off7 i (BitVec.ofNat 32 r.val)) a + (![8, 1] : Fin 2 → Nat) a * (S1152x128.size a - 1) < S9216x128.size a :=
  k0_off7_inb i 1152#32 (FfnWords.chk _ _) ((FfnWords.cond6_iff i _).mpr ⟨hj, rfl⟩) r
theorem inb8 (i : grid0.Coords) (hj : 4 ≤ step i) (r : Fin 2) : ∀ a, S384x128.size a = 0 ∨ (k0_off8 i (BitVec.ofNat 32 r.val)) a + (![8, 1] : Fin 2 → Nat) a * (S384x128.size a - 1) < S9216x128.size a :=
  k0_off8_inb i 1#32 (FfnWords.chk _ _) ((FfnWords.cond7_iff i _).mpr ⟨hj, by decide⟩) ((FfnWords.cond8_iff _).mpr (by decide)) r

/-- The writes of one output plane at a full block: the tile's two halves. -/
def outF (i : grid0.Coords) (hj : 4 ≤ step i) (o : FVec F S1152x256 .f32) : List (View.Piece (Elt F) S9216x128 .f32) :=
  [⟨⟨⟨k0_off7 i 1#32, S1152x128.size, ![8, 1], inb7 i hj 1⟩, spos_8_1⟩, k0_pay7 o⟩,
   ⟨⟨⟨k0_off7 i 0#32, S1152x128.size, ![8, 1], inb7 i hj 0⟩, spos_8_1⟩, k0_pay36 o⟩]
/-- The writes of one output plane for a group of 384 rows: two halves `a` then `b`. -/
def out0 (i : grid0.Coords) (hj : 4 ≤ step i) (a b : FVec F S384x128 .f32) : List (View.Piece (Elt F) S9216x128 .f32) :=
  [⟨⟨⟨k0_off8 i 1#32, S384x128.size, ![8, 1], inb8 i hj 1⟩, spos_8_1⟩, b⟩,
   ⟨⟨⟨k0_off8 i 0#32, S384x128.size, ![8, 1], inb8 i hj 0⟩, spos_8_1⟩, a⟩]
def out1 (i : grid0.Coords) (a b : FVec F S384x128 .f32) : List (View.Piece (Elt F) S9216x128 .f32) :=
  [⟨⟨⟨k0_off10 i 1#32, S384x128.size, ![8, 1], k0_off10_inb i 1⟩, spos_8_1⟩, b⟩,
   ⟨⟨⟨k0_off10 i 0#32, S384x128.size, ![8, 1], k0_off10_inb i 0⟩, spos_8_1⟩, a⟩]
def out2 (i : grid0.Coords) (a b : FVec F S384x128 .f32) : List (View.Piece (Elt F) S9216x128 .f32) :=
  [⟨⟨⟨k0_off12 i 1#32, S384x128.size, ![8, 1], k0_off12_inb i 1⟩, spos_8_1⟩, b⟩,
   ⟨⟨⟨k0_off12 i 0#32, S384x128.size, ![8, 1], k0_off12_inb i 0⟩, spos_8_1⟩, a⟩]

theorem inb3 (i : grid0.Coords) (hj : step i < 4) : ∀ a, (k0_off3 i) a + S1x1152x512.size a ≤ S4x1152x512.size a :=
  k0_off3_inb i 1152#32 (FfnWords.chk _ _) ((FfnWords.cond1_iff i _).mpr ⟨hj, rfl⟩)
theorem inb4 (i : grid0.Coords) (hj : step i < 4) : ∀ a, (k0_off4 i) a + S1x384x512.size a ≤ S4x1152x512.size a :=

  k0_off4_inb i 1#32 (FfnWords.chk _ _) ((FfnWords.cond2_iff i _).mpr ⟨hj, by decide⟩) ((FfnWords.cond3_iff _).mpr (by decide))
theorem inb5 (i : grid0.Coords) (hj : step i < 4) : ∀ a, (k0_off5 i) a + S1x384x512.size a ≤ S4x1152x512.size a :=

  k0_off5_inb i 385#32 (FfnWords.chk _ _) ((FfnWords.cond2_iff i _).mpr ⟨hj, by decide⟩) ((FfnWords.cond4_iff _).mpr (by decide))
theorem inb6 (i : grid0.Coords) (hj : step i < 4) : ∀ a, (k0_off6 i) a + S1x384x512.size a ≤ S4x1152x512.size a :=

  k0_off6_inb i 769#32 (FfnWords.chk _ _) ((FfnWords.cond2_iff i _).mpr ⟨hj, by decide⟩) ((FfnWords.cond5_iff _).mpr (by decide))

/-- The write of one hidden plane at a full block. -/
def hidF (i : grid0.Coords) (hj : step i < 4) (X : Ins F) : List (View.Piece (Elt F) S4x1152x512 .bf16) :=
  [⟨Rect.unit (s := S4x1152x512) (k0_off3 i) S1x1152x512.size (inb3 i hj), k0_pay1 (k0_pay32 X.wg X.wl X.x X.bg X.bl)⟩]
/-- The hidden activations of the 384 rows from `s`. -/
def hS (X : Ins F) (s : Nat) (hs : s ∈ [0, 384, 768]) : FVec F S1x384x512 .bf16 := k0_pay4 X.wg X.wl (rowsS X.x s hs) X.bg X.bl
def hid0 (i : grid0.Coords) (hj : step i < 4) (X : Ins F) : List (View.Piece (Elt F) S4x1152x512 .bf16) :=
  [⟨Rect.unit (s := S4x1152x512) (k0_off4 i) S1x384x512.size (inb4 i hj), hS X 0 (by decide)⟩]
def hid1 (i : grid0.Coords) (hj : step i < 4) (X : Ins F) : List (View.Piece (Elt F) S4x1152x512 .bf16) :=
  [⟨Rect.unit (s := S4x1152x512) (k0_off5 i) S1x384x512.size (inb5 i hj), hS X 384 (by decide)⟩]
def hid2 (i : grid0.Coords) (hj : step i < 4) (X : Ins F) : List (View.Piece (Elt F) S4x1152x512 .bf16) :=
  [⟨Rect.unit (s := S4x1152x512) (k0_off6 i) S1x384x512.size (inb6 i hj), hS X 768 (by decide)⟩]

/-- A load of a whole operand's part, in terms of what the operand holds. -/
theorem load_whole {sp : Space} {s : Shape} {e : EltTy} {a : Memref sig .tc sp s e} (h : a.IsWhole) (x : s.Idx → Elt F e) (r : Rect s) :
    a.view.readAt (Elt F) r.toLoadRect (h.unread x) = View.ld x r :=
  (View.readAt_eq_ld a.view (h.unread x) r).trans (by rw [h.read_unread])

theorem zero3 : (![0, 0, 0] : Fin 3 → Nat) = fun _ => 0 := by decide
theorem zero2 : (![0, 0] : Fin 2 → Nat) = fun _ => 0 := by decide

theorem all_x (x : Vec F S1152x2048 .bf16) : View.ld (Val := Elt F) (e' := .bf16) x (Rect.unit (s := S1152x2048) ![0, 0] ![1152, 2048] inb_S1152x2048_S1152x2048_0_0) = x := View.ld_unit_zero zero2 _ _
theorem all_w (x : Vec F S1x2048x512 .f32) : View.ld (Val := Elt F) (e' := .f32) x (Rect.unit (s := S1x2048x512) ![0, 0, 0] ![1, 2048, 512] inb_S1x2048x512_S1x2048x512_0_0_0) = x := View.ld_unit_zero zero3 _ _
theorem all_b (x : Vec F S1x1x512 .f32) : View.ld (Val := Elt F) (e' := .f32) x (Rect.unit (s := S1x1x512) ![0, 0, 0] ![1, 1, 512] inb_S1x1x512_S1x1x512_0_0_0) = x := View.ld_unit_zero zero3 _ _
theorem all_u (x : Vec F S1x2048x256 .f32) : View.ld (Val := Elt F) (e' := .f32) x (Rect.unit (s := S1x2048x256) ![0, 0, 0] ![1, 2048, 256] inb_S1x2048x256_S1x2048x256_0_0_0) = x := View.ld_unit_zero zero3 _ _
theorem all_c (x : Vec F S1x1x256 .f32) : View.ld (Val := Elt F) (e' := .f32) x (Rect.unit (s := S1x1x256) ![0, 0, 0] ![1, 1, 256] inb_S1x1x256_S1x1x256_0_0_0) = x := View.ld_unit_zero zero3 _ _

/-! ## The same arithmetic printed more than once -/
section Same
variable (w : Vec F S1x2048x256 .f32) (p0 p1 p2 p3 : Vec F S1x1152x512 .bf16) (q0 q1 q2 q3 : Vec F S1x384x512 .bf16) (b : Vec F S1x1x256 .f32)
theorem same1 : k0_pay8 (k0_pay35 (k0_pay33 w) p0 p1 p2 p3 b) = k0_pay7 (k0_pay34 w p0 p1 p2 p3 b) := rfl
theorem same2 : k0_pay37 (k0_pay33 w) p0 p1 p2 p3 b = k0_pay36 (k0_pay34 w p0 p1 p2 p3 b) := rfl
theorem same3 : k0_pay11 (k0_pay41 (k0_pay10 w) (k0_pay39 (k0_pay10 w) q0) (k0_pay40 (k0_pay10 w) q1) q2 q3 b) = k0_pay44 (k0_pay38 (k0_pay9 w) q0 q1 q2 q3 b) := rfl
theorem same4 : k0_pay43 (k0_pay10 w) (k0_pay39 (k0_pay10 w) q0) (k0_pay40 (k0_pay10 w) q1) q2 q3 b = k0_pay42 (k0_pay38 (k0_pay9 w) q0 q1 q2 q3 b) := rfl
theorem same5 : k0_pay18 (k0_pay48 (k0_pay10 w) (k0_pay46 (k0_pay10 w) q0) (k0_pay47 (k0_pay10 w) q1) q2 q3 b) = k0_pay44 (k0_pay38 (k0_pay9 w) q0 q1 q2 q3 b) := rfl
theorem same6 : k0_pay50 (k0_pay10 w) (k0_pay46 (k0_pay10 w) q0) (k0_pay47 (k0_pay10 w) q1) q2 q3 b = k0_pay42 (k0_pay38 (k0_pay9 w) q0 q1 q2 q3 b) := rfl
theorem same7 : k0_pay25 (k0_pay55 (k0_pay10 w) (k0_pay53 (k0_pay10 w) q0) (k0_pay54 (k0_pay10 w) q1) q2 q3 b) = k0_pay44 (k0_pay38 (k0_pay9 w) q0 q1 q2 q3 b) := rfl
theorem same8 : k0_pay57 (k0_pay10 w) (k0_pay53 (k0_pay10 w) q0) (k0_pay54 (k0_pay10 w) q1) q2 q3 b = k0_pay42 (k0_pay38 (k0_pay9 w) q0 q1 q2 q3 b) := rfl
theorem same9 : k0_pay51 (k0_pay45 (k0_pay9 w) q0 q1 q2 q3 b) = k0_pay44 (k0_pay38 (k0_pay9 w) q0 q1 q2 q3 b) := rfl
theorem same10 : k0_pay49 (k0_pay45 (k0_pay9 w) q0 q1 q2 q3 b) = k0_pay42 (k0_pay38 (k0_pay9 w) q0 q1 q2 q3 b) := rfl
theorem same11 : k0_pay58 (k0_pay52 (k0_pay9 w) q0 q1 q2 q3 b) = k0_pay44 (k0_pay38 (k0_pay9 w) q0 q1 q2 q3 b) := rfl
theorem same12 : k0_pay56 (k0_pay52 (k0_pay9 w) q0 q1 q2 q3 b) = k0_pay42 (k0_pay38 (k0_pay9 w) q0 q1 q2 q3 b) := rfl
theorem sameZ0 : (k0_pay15 : FVec F S384x128 .f32) = k0_pay14 ∧ (k0_pay21 : FVec F S384x128 .f32) = k0_pay14 ∧ (k0_pay22 : FVec F S384x128 .f32) = k0_pay14
    ∧ (k0_pay28 : FVec F S384x128 .f32) = k0_pay14 ∧ (k0_pay29 : FVec F S384x128 .f32) = k0_pay14 := ⟨rfl, rfl, rfl, rfl, rfl⟩
theorem sameZ1 : (k0_pay17 : FVec F S384x128 .f32) = k0_pay16 ∧ (k0_pay23 : FVec F S384x128 .f32) = k0_pay16 ∧ (k0_pay24 : FVec F S384x128 .f32) = k0_pay16
    ∧ (k0_pay30 : FVec F S384x128 .f32) = k0_pay16 ∧ (k0_pay31 : FVec F S384x128 .f32) = k0_pay16 := ⟨rfl, rfl, rfl, rfl, rfl⟩
end Same
theorem same13 (wg wl : Vec F S1x2048x512 .f32) (x : Vec F S384x2048 .bf16) (bg bl : Vec F S1x1x512 .f32) : k0_pay5 wg wl x bg bl = k0_pay4 wg wl x bg bl := rfl
theorem same14 (wg wl : Vec F S1x2048x512 .f32) (x : Vec F S384x2048 .bf16) (bg bl : Vec F S1x1x512 .f32) : k0_pay6 wg wl x bg bl = k0_pay4 wg wl x bg bl := rfl
theorem off9_8 : k0_off9 = k0_off8 := rfl
theorem off11_10 : k0_off11 = k0_off10 := rfl
theorem off13_12 : k0_off13 = k0_off12 := rfl

end Cert.Kernel4Ideal.Ffn

end
-- ==== Proof.FfnTA.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runA (c : Dev nD) (i : grid0.Coords) (A : Ops) (T : Tbs F c) (X : Ins F) (y z : Vec F S9216x128 .f32) (d : Vec F S4x1152x512 .bf16)
    (hj : step i < 4) (hv : rowsOf i T = 1152#32) :
      ∀ (E : Set ℕ) (K : PUnit → Res F),
        iprop(held c A T X y z d ∗ (held c A T X y z (over d (hidF i hj X)) -∗ K ⟨⟩))
          ⊢ wp frame (wpE (defs₀ (F := F)) Variants.none c none) E (bodyOf i A) K := by
    intro E K
    have hc1 : ∀ w : Elt F .i32, w = rowsOf i T → k0_cond1 i w = 1#1 := by
      rintro w rfl; exact (FfnWords.cond1_iff _ _).mpr ⟨hj, hv⟩
    have hc2 : ∀ w : Elt F .i32, w = rowsOf i T → ¬k0_cond2 i w = 1#1 := by
      rintro w rfl; exact fun h => absurd hv ((FfnWords.cond2_iff _ _).mp h).2
    have hc6 : ∀ w : Elt F .i32, w = rowsOf i T → ¬k0_cond6 i w = 1#1 := by
      rintro w rfl; exact fun h => absurd ((FfnWords.cond6_iff _ _).mp h).1 (by omega)
    have hc7 : ∀ w : Elt F .i32, w = rowsOf i T → ¬k0_cond7 i w = 1#1 := by
      rintro w rfl; exact fun h => absurd ((FfnWords.cond7_iff _ _).mp h).1 (by omega)
    clear hv
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    simp only [k0_part1_eq_skeleton, k0_part1_skel]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      exact harg14.read_unread _
    isplitl [H10]
    · iexists _; isplitr; swap; · iexact H10
      ipureintro
      exact harg15.read_unread _
    isplitl [HS]
    · iexists _; isplitr; swap; · iexact HS
      ipureintro
      refine (read_writes_over _ _ _).trans ?_
      rw [harg16.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [HT0]; · iexact HT0
    isplitl [HT1]; · iexact HT1
    iexact HT2

end Cert.Kernel4Ideal.Ffn

end
-- ==== Proof.FfnTB0.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runB0 (c : Dev nD) (i : grid0.Coords) (A : Ops) (T : Tbs F c) (X : Ins F) (y z : Vec F S9216x128 .f32) (d : Vec F S4x1152x512 .bf16)
    (hj : step i < 4) (hv : rowsOf i T ≠ 1152#32) (hhi : (rowsOf i T).toInt ≤ 0) :
      ∀ (E : Set ℕ) (K : PUnit → Res F),
        iprop(held c A T X y z d ∗ (held c A T X y z d -∗ K ⟨⟩))
          ⊢ wp frame (wpE (defs₀ (F := F)) Variants.none c none) E (bodyOf i A) K := by
    intro E K
    have hc1 : ∀ w : Elt F .i32, w = rowsOf i T → ¬k0_cond1 i w = 1#1 := by
      rintro w rfl; exact fun h => absurd ((FfnWords.cond1_iff _ _).mp h).2 hv
    have hc2 : ∀ w : Elt F .i32, w = rowsOf i T → k0_cond2 i w = 1#1 := by
      rintro w rfl; exact (FfnWords.cond2_iff _ _).mpr ⟨hj, hv⟩
    have hc6 : ∀ w : Elt F .i32, w = rowsOf i T → ¬k0_cond6 i w = 1#1 := by
      rintro w rfl; exact fun h => absurd ((FfnWords.cond6_iff _ _).mp h).1 (by omega)
    have hc7 : ∀ w : Elt F .i32, w = rowsOf i T → ¬k0_cond7 i w = 1#1 := by
      rintro w rfl; exact fun h => absurd ((FfnWords.cond7_iff _ _).mp h).1 (by omega)
    have hc3 : ∀ w : Elt F .i32, w = rowsOf i T → ¬k0_cond3 w = 1#1 := by
      rintro w rfl; exact fun h => absurd ((FfnWords.cond3_iff _).mp h) (by omega)
    have hc4 : ∀ w : Elt F .i32, w = rowsOf i T → ¬k0_cond4 w = 1#1 := by
      rintro w rfl; exact fun h => absurd ((FfnWords.cond4_iff _).mp h) (by omega)
    have hc5 : ∀ w : Elt F .i32, w = rowsOf i T → ¬k0_cond5 w = 1#1 := by
      rintro w rfl; exact fun h => absurd ((FfnWords.cond5_iff _).mp h) (by omega)
    clear hv hhi
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact hc3 _ rfl | exact hc4 _ rfl | exact hc5 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      exact harg14.read_unread _
    isplitl [H10]
    · iexists _; isplitr; swap; · iexact H10
      ipureintro
      exact harg15.read_unread _
    isplitl [HS]
    · iexists _; isplitr; swap; · iexact HS
      ipureintro
      exact harg16.read_unread _
    isplitl [HT0]; · iexact HT0
    isplitl [HT1]; · iexact HT1
    iexact HT2

end Cert.Kernel4Ideal.Ffn

end
-- ==== Proof.FfnTB1.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runB1 (c : Dev nD) (i : grid0.Coords) (A : Ops) (T : Tbs F c) (X : Ins F) (y z : Vec F S9216x128 .f32) (d : Vec F S4x1152x512 .bf16)
    (hj : step i < 4) (hv : rowsOf i T ≠ 1152#32) (hlo : 0 < (rowsOf i T).toInt) (hhi : (rowsOf i T).toInt ≤ 384) :
      ∀ (E : Set ℕ) (K : PUnit → Res F),
        iprop(held c A T X y z d ∗ (held c A T X y z (over d (hid0 i hj X)) -∗ K ⟨⟩))
          ⊢ wp frame (wpE (defs₀ (F := F)) Variants.none c none) E (bodyOf i A) K := by
    intro E K
    have hc1 : ∀ w : Elt F .i32, w = rowsOf i T → ¬k0_cond1 i w = 1#1 := by
      rintro w rfl; exact fun h => absurd ((FfnWords.cond1_iff _ _).mp h).2 hv
    have hc2 : ∀ w : Elt F .i32, w = rowsOf i T → k0_cond2 i w = 1#1 := by
      rintro w rfl; exact (FfnWords.cond2_iff _ _).mpr ⟨hj, hv⟩
    have hc6 : ∀ w : Elt F .i32, w = rowsOf i T → ¬k0_cond6 i w = 1#1 := by
      rintro w rfl; exact fun h => absurd ((FfnWords.cond6_iff _ _).mp h).1 (by omega)
    have hc7 : ∀ w : Elt F .i32, w = rowsOf i T → ¬k0_cond7 i w = 1#1 := by
      rintro w rfl; exact fun h => absurd ((FfnWords.cond7_iff _ _).mp h).1 (by omega)
    have hc3 : ∀ w : Elt F .i32, w = rowsOf i T → k0_cond3 w = 1#1 := by
      rintro w rfl; exact (FfnWords.cond3_iff _).mpr (by omega)
    have hc4 : ∀ w : Elt F .i32, w = rowsOf i T → ¬k0_cond4 w = 1#1 := by
      rintro w rfl; exact fun h => absurd ((FfnWords.cond4_iff _).mp h) (by omega)
    have hc5 : ∀ w : Elt F .i32, w = rowsOf i T → ¬k0_cond5 w = 1#1 := by
      rintro w rfl; exact fun h => absurd ((FfnWords.cond5_iff _).mp h) (by omega)
    clear hv hlo hhi
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact hc3 _ rfl | exact hc4 _ rfl | exact hc5 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      exact harg14.read_unread _
    isplitl [H10]
    · iexists _; isplitr; swap; · iexact H10
      ipureintro
      exact harg15.read_unread _
    isplitl [HS]
    · iexists _; isplitr; swap; · iexact HS
      ipureintro
      refine (read_writes_over _ _ _).trans ?_
      rw [harg16.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [HT0]; · iexact HT0
    isplitl [HT1]; · iexact HT1
    iexact HT2

end Cert.Kernel4Ideal.Ffn

end
-- ==== Proof.FfnTB2.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runB2 (c : Dev nD) (i : grid0.Coords) (A : Ops) (T : Tbs F c) (X : Ins F) (y z : Vec F S9216x128 .f32) (d : Vec F S4x1152x512 .bf16)
    (hj : step i < 4) (hv : rowsOf i T ≠ 1152#32) (hlo : 384 < (rowsOf i T).toInt) (hhi : (rowsOf i T).toInt ≤ 768) :
      ∀ (E : Set ℕ) (K : PUnit → Res F),
        iprop(held c A T X y z d ∗ (held c A T X y z (over d (hid1 i hj X ++ (hid0 i hj X))) -∗ K ⟨⟩))
          ⊢ wp frame (wpE (defs₀ (F := F)) Variants.none c none) E (bodyOf i A) K := by
    intro E K
    have hc1 : ∀ w : Elt F .i32, w = rowsOf i T → ¬k0_cond1 i w = 1#1 := by
      rintro w rfl; exact fun h => absurd ((FfnWords.cond1_iff _ _).mp h).2 hv
    have hc2 : ∀ w : Elt F .i32, w = rowsOf i T → k0_cond2 i w = 1#1 := by
      rintro w rfl; exact (FfnWords.cond2_iff _ _).mpr ⟨hj, hv⟩
    have hc6 : ∀ w : Elt F .i32, w = rowsOf i T → ¬k0_cond6 i w = 1#1 := by
      rintro w rfl; exact fun h => absurd ((FfnWords.cond6_iff _ _).mp h).1 (by omega)
    have hc7 : ∀ w : Elt F .i32, w = rowsOf i T → ¬k0_cond7 i w = 1#1 := by
      rintro w rfl; exact fun h => absurd ((FfnWords.cond7_iff _ _).mp h).1 (by omega)
    have hc3 : ∀ w : Elt F .i32, w = rowsOf i T → k0_cond3 w = 1#1 := by
      rintro w rfl; exact (FfnWords.cond3_iff _).mpr (by omega)
    have hc4 : ∀ w : Elt F .i32, w = rowsOf i T → k0_cond4 w = 1#1 := by
      rintro w rfl; exact (FfnWords.cond4_iff _).mpr (by omega)
    have hc5 : ∀ w : Elt F .i32, w = rowsOf i T → ¬k0_cond5 w = 1#1 := by
      rintro w rfl; exact fun h => absurd ((FfnWords.cond5_iff _).mp h) (by omega)
    clear hv hlo hhi
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact hc3 _ rfl | exact hc4 _ rfl | exact hc5 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      exact harg14.read_unread _
    isplitl [H10]
    · iexists _; isplitr; swap; · iexact H10
      ipureintro
      exact harg15.read_unread _
    isplitl [HS]
    · iexists _; isplitr; swap; · iexact HS
      ipureintro
      refine (read_writes_over _ _ _).trans ?_
      rw [harg16.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [HT0]; · iexact HT0
    isplitl [HT1]; · iexact HT1
    iexact HT2

end Cert.Kernel4Ideal.Ffn

end
-- ==== Proof.FfnTB3.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runB3 (c : Dev nD) (i : grid0.Coords) (A : Ops) (T : Tbs F c) (X : Ins F) (y z : Vec F S9216x128 .f32) (d : Vec F S4x1152x512 .bf16)
    (hj : step i < 4) (hv : rowsOf i T ≠ 1152#32) (hlo : 768 < (rowsOf i T).toInt) :
      ∀ (E : Set ℕ) (K : PUnit → Res F),
        iprop(held c A T X y z d ∗ (held c A T X y z (over d (hid2 i hj X ++ (hid1 i hj X ++ (hid0 i hj X)))) -∗ K ⟨⟩))
          ⊢ wp frame (wpE (defs₀ (F := F)) Variants.none c none) E (bodyOf i A) K := by
    intro E K
    have hc1 : ∀ w : Elt F .i32, w = rowsOf i T → ¬k0_cond1 i w = 1#1 := by
      rintro w rfl; exact fun h => absurd ((FfnWords.cond1_iff _ _).mp h).2 hv
    have hc2 : ∀ w : Elt F .i32, w = rowsOf i T → k0_cond2 i w = 1#1 := by
      rintro w rfl; exact (FfnWords.cond2_iff _ _).mpr ⟨hj, hv⟩
    have hc6 : ∀ w : Elt F .i32, w = rowsOf i T → ¬k0_cond6 i w = 1#1 := by
      rintro w rfl; exact fun h => absurd ((FfnWords.cond6_iff _ _).mp h).1 (by omega)
    have hc7 : ∀ w : Elt F .i32, w = rowsOf i T → ¬k0_cond7 i w = 1#1 := by
      rintro w rfl; exact fun h => absurd ((FfnWords.cond7_iff _ _).mp h).1 (by omega)
    have hc3 : ∀ w : Elt F .i32, w = rowsOf i T → k0_cond3 w = 1#1 := by
      rintro w rfl; exact (FfnWords.cond3_iff _).mpr (by omega)
    have hc4 : ∀ w : Elt F .i32, w = rowsOf i T → k0_cond4 w = 1#1 := by
      rintro w rfl; exact (FfnWords.cond4_iff _).mpr (by omega)
    have hc5 : ∀ w : Elt F .i32, w = rowsOf i T → k0_cond5 w = 1#1 := by
      rintro w rfl; exact (FfnWords.cond5_iff _).mpr (by omega)
    clear hv hlo
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact hc3 _ rfl | exact hc4 _ rfl | exact hc5 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      exact harg14.read_unread _
    isplitl [H10]
    · iexists _; isplitr; swap; · iexact H10
      ipureintro
      exact harg15.read_unread _
    isplitl [HS]
    · iexists _; isplitr; swap; · iexact HS
      ipureintro
      refine (read_writes_over _ _ _).trans ?_
      rw [harg16.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [HT0]; · iexact HT0
    isplitl [HT1]; · iexact HT1
    iexact HT2

end Cert.Kernel4Ideal.Ffn

end
-- ==== Proof.FfnTC.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runC (c : Dev nD) (i : grid0.Coords) (A : Ops) (T : Tbs F c) (X : Ins F) (y z : Vec F S9216x128 .f32) (d : Vec F S4x1152x512 .bf16)
    (hj : 4 ≤ step i) (hv : rowsOf i T = 1152#32) :
      ∀ (E : Set ℕ) (K : PUnit → Res F),
        iprop(held c A T X y z d ∗ (held c A T X (over y (outF i hj (oF X.ul d X.cl))) (over z (outF i hj (oF X.uh d X.ch))) d -∗ K ⟨⟩))
          ⊢ wp frame (wpE (defs₀ (F := F)) Variants.none c none) E (bodyOf i A) K := by
    intro E K
    have hc1 : ∀ w : Elt F .i32, w = rowsOf i T → ¬k0_cond1 i w = 1#1 := by
      rintro w rfl; exact fun h => absurd ((FfnWords.cond1_iff _ _).mp h).1 (by omega)
    have hc2 : ∀ w : Elt F .i32, w = rowsOf i T → ¬k0_cond2 i w = 1#1 := by
      rintro w rfl; exact fun h => absurd ((FfnWords.cond2_iff _ _).mp h).1 (by omega)
    have hc6 : ∀ w : Elt F .i32, w = rowsOf i T → k0_cond6 i w = 1#1 := by
      rintro w rfl; exact (FfnWords.cond6_iff _ _).mpr ⟨hj, hv⟩
    have hc7 : ∀ w : Elt F .i32, w = rowsOf i T → ¬k0_cond7 i w = 1#1 := by
      rintro w rfl; exact fun h => absurd hv ((FfnWords.cond7_iff _ _).mp h).2
    clear hv
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    simp only [k0_part2_eq_skeleton, k0_part2_skel, k0_part3_eq_skeleton, k0_part3_skel]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      refine (read_writes_over _ _ _).trans ?_
      rw [harg14.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [H10]
    · iexists _; isplitr; swap; · iexact H10
      ipureintro
      refine (read_writes_over _ _ _).trans ?_
      rw [harg15.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [HS]
    · iexists _; isplitr; swap; · iexact HS
      ipureintro
      exact harg16.read_unread _
    isplitl [HT0]; · iexact HT0
    isplitl [HT1]; · iexact HT1
    iexact HT2

end Cert.Kernel4Ideal.Ffn

end
-- ==== Proof.FfnTD0.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runD0 (c : Dev nD) (i : grid0.Coords) (A : Ops) (T : Tbs F c) (X : Ins F) (y z : Vec F S9216x128 .f32) (d : Vec F S4x1152x512 .bf16)
    (hj : 4 ≤ step i) (hv : rowsOf i T ≠ 1152#32) (hhi : (rowsOf i T).toInt ≤ 0) :
      ∀ (E : Set ℕ) (K : PUnit → Res F),
        iprop(held c A T X y z d ∗ (held c A T X (over y (out2 i k0_pay14 k0_pay16 ++ (out1 i k0_pay14 k0_pay16 ++ (out0 i hj k0_pay14 k0_pay16)))) (over z (out2 i k0_pay14 k0_pay16 ++ (out1 i k0_pay14 k0_pay16 ++ (out0 i hj k0_pay14 k0_pay16)))) d -∗ K ⟨⟩))
          ⊢ wp frame (wpE (defs₀ (F := F)) Variants.none c none) E (bodyOf i A) K := by
    intro E K
    have hc1 : ∀ w : Elt F .i32, w = rowsOf i T → ¬k0_cond1 i w = 1#1 := by
      rintro w rfl; exact fun h => absurd ((FfnWords.cond1_iff _ _).mp h).1 (by omega)
    have hc2 : ∀ w : Elt F .i32, w = rowsOf i T → ¬k0_cond2 i w = 1#1 := by
      rintro w rfl; exact fun h => absurd ((FfnWords.cond2_iff _ _).mp h).1 (by omega)
    have hc6 : ∀ w : Elt F .i32, w = rowsOf i T → ¬k0_cond6 i w = 1#1 := by
      rintro w rfl; exact fun h => absurd ((FfnWords.cond6_iff _ _).mp h).2 hv
    have hc7 : ∀ w : Elt F .i32, w = rowsOf i T → k0_cond7 i w = 1#1 := by
      rintro w rfl; exact (FfnWords.cond7_iff _ _).mpr ⟨hj, hv⟩
    have hc8 : ∀ w : Elt F .i32, w = rowsOf i T → ¬k0_cond8 w = 1#1 := by
      rintro w rfl; exact fun h => absurd ((FfnWords.cond8_iff _).mp h) (by omega)
    have hc9 : ∀ w : Elt F .i32, w = rowsOf i T → k0_cond9 w = 1#1 := by
      rintro w rfl; exact (FfnWords.cond9_iff _).mpr (by omega)
    have hc10 : ∀ w : Elt F .i32, w = rowsOf i T → ¬k0_cond10 w = 1#1 := by
      rintro w rfl; exact fun h => absurd ((FfnWords.cond10_iff _).mp h) (by omega)
    have hc11 : ∀ w : Elt F .i32, w = rowsOf i T → k0_cond11 w = 1#1 := by
      rintro w rfl; exact (FfnWords.cond11_iff _).mpr (by omega)
    have hc12 : ∀ w : Elt F .i32, w = rowsOf i T → ¬k0_cond12 w = 1#1 := by
      rintro w rfl; exact fun h => absurd ((FfnWords.cond12_iff _).mp h) (by omega)
    have hc13 : ∀ w : Elt F .i32, w = rowsOf i T → k0_cond13 w = 1#1 := by
      rintro w rfl; exact (FfnWords.cond13_iff _).mpr (by omega)
    clear hv hhi
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact hc8 _ rfl | exact hc9 _ rfl | exact hc10 _ rfl | exact hc11 _ rfl | exact hc12 _ rfl | exact hc13 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      refine (read_writes_over _ _ _).trans ?_
      rw [harg14.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [H10]
    · iexists _; isplitr; swap; · iexact H10
      ipureintro
      refine (read_writes_over _ _ _).trans ?_
      rw [harg15.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [HS]
    · iexists _; isplitr; swap; · iexact HS
      ipureintro
      exact harg16.read_unread _
    isplitl [HT0]; · iexact HT0
    isplitl [HT1]; · iexact HT1
    iexact HT2

end Cert.Kernel4Ideal.Ffn

end
-- ==== Proof.FfnTD1.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runD1 (c : Dev nD) (i : grid0.Coords) (A : Ops) (T : Tbs F c) (X : Ins F) (y z : Vec F S9216x128 .f32) (d : Vec F S4x1152x512 .bf16)
    (hj : 4 ≤ step i) (hv : rowsOf i T ≠ 1152#32) (hlo : 0 < (rowsOf i T).toInt) (hhi : (rowsOf i T).toInt ≤ 384) :
      ∀ (E : Set ℕ) (K : PUnit → Res F),
        iprop(held c A T X y z d ∗ (held c A T X (over y (out2 i k0_pay14 k0_pay16 ++ (out1 i k0_pay14 k0_pay16 ++ (out0 i hj (k0_pay42 (oS X.ul d X.cl 0 (by decide))) (k0_pay44 (oS X.ul d X.cl 0 (by decide))))))) (over z (out2 i k0_pay14 k0_pay16 ++ (out1 i k0_pay14 k0_pay16 ++ (out0 i hj (k0_pay42 (oS X.uh d X.ch 0 (by decide))) (k0_pay44 (oS X.uh d X.ch 0 (by decide))))))) d -∗ K ⟨⟩))
          ⊢ wp frame (wpE (defs₀ (F := F)) Variants.none c none) E (bodyOf i A) K := by
    intro E K
    have hc1 : ∀ w : Elt F .i32, w = rowsOf i T → ¬k0_cond1 i w = 1#1 := by
      rintro w rfl; exact fun h => absurd ((FfnWords.cond1_iff _ _).mp h).1 (by omega)
    have hc2 : ∀ w : Elt F .i32, w = rowsOf i T → ¬k0_cond2 i w = 1#1 := by
      rintro w rfl; exact fun h => absurd ((FfnWords.cond2_iff _ _).mp h).1 (by omega)
    have hc6 : ∀ w : Elt F .i32, w = rowsOf i T → ¬k0_cond6 i w = 1#1 := by
      rintro w rfl; exact fun h => absurd ((FfnWords.cond6_iff _ _).mp h).2 hv
    have hc7 : ∀ w : Elt F .i32, w = rowsOf i T → k0_cond7 i w = 1#1 := by
      rintro w rfl; exact (FfnWords.cond7_iff _ _).mpr ⟨hj, hv⟩
    have hc8 : ∀ w : Elt F .i32, w = rowsOf i T → k0_cond8 w = 1#1 := by
      rintro w rfl; exact (FfnWords.cond8_iff _).mpr (by omega)
    have hc9 : ∀ w : Elt F .i32, w = rowsOf i T → ¬k0_cond9 w = 1#1 := by
      rintro w rfl; exact fun h => absurd ((FfnWords.cond9_iff _).mp h) (by omega)
    have hc10 : ∀ w : Elt F .i32, w = rowsOf i T → ¬k0_cond10 w = 1#1 := by
      rintro w rfl; exact fun h => absurd ((FfnWords.cond10_iff _).mp h) (by omega)
    have hc11 : ∀ w : Elt F .i32, w = rowsOf i T → k0_cond11 w = 1#1 := by
      rintro w rfl; exact (FfnWords.cond11_iff _).mpr (by omega)
    have hc12 : ∀ w : Elt F .i32, w = rowsOf i T → ¬k0_cond12 w = 1#1 := by
      rintro w rfl; exact fun h => absurd ((FfnWords.cond12_iff _).mp h) (by omega)
    have hc13 : ∀ w : Elt F .i32, w = rowsOf i T → k0_cond13 w = 1#1 := by
      rintro w rfl; exact (FfnWords.cond13_iff _).mpr (by omega)
    clear hv hlo hhi
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    simp only [k0_part4_eq_skeleton, k0_part4_skel, k0_part5_eq_skeleton, k0_part5_skel]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact hc8 _ rfl | exact hc9 _ rfl | exact hc10 _ rfl | exact hc11 _ rfl | exact hc12 _ rfl | exact hc13 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      refine (read_writes_over _ _ _).trans ?_
      rw [harg14.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [H10]
    · iexists _; isplitr; swap; · iexact H10
      ipureintro
      refine (read_writes_over _ _ _).trans ?_
      rw [harg15.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [HS]
    · iexists _; isplitr; swap; · iexact HS
      ipureintro
      exact harg16.read_unread _
    isplitl [HT0]; · iexact HT0
    isplitl [HT1]; · iexact HT1
    iexact HT2

end Cert.Kernel4Ideal.Ffn

end
-- ==== Proof.FfnTD2.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runD2 (c : Dev nD) (i : grid0.Coords) (A : Ops) (T : Tbs F c) (X : Ins F) (y z : Vec F S9216x128 .f32) (d : Vec F S4x1152x512 .bf16)
    (hj : 4 ≤ step i) (hv : rowsOf i T ≠ 1152#32) (hlo : 384 < (rowsOf i T).toInt) (hhi : (rowsOf i T).toInt ≤ 768) :
      ∀ (E : Set ℕ) (K : PUnit → Res F),
        iprop(held c A T X y z d ∗ (held c A T X (over y (out2 i k0_pay14 k0_pay16 ++ (out1 i (k0_pay42 (oS X.ul d X.cl 384 (by decide))) (k0_pay44 (oS X.ul d X.cl 384 (by decide))) ++ (out0 i hj (k0_pay42 (oS X.ul d X.cl 0 (by decide))) (k0_pay44 (oS X.ul d X.cl 0 (by decide))))))) (over z (out2 i k0_pay14 k0_pay16 ++ (out1 i (k0_pay42 (oS X.uh d X.ch 384 (by decide))) (k0_pay44 (oS X.uh d X.ch 384 (by decide))) ++ (out0 i hj (k0_pay42 (oS X.uh d X.ch 0 (by decide))) (k0_pay44 (oS X.uh d X.ch 0 (by decide))))))) d -∗ K ⟨⟩))
          ⊢ wp frame (wpE (defs₀ (F := F)) Variants.none c none) E (bodyOf i A) K := by
    intro E K
    have hc1 : ∀ w : Elt F .i32, w = rowsOf i T → ¬k0_cond1 i w = 1#1 := by
      rintro w rfl; exact fun h => absurd ((FfnWords.cond1_iff _ _).mp h).1 (by omega)
    have hc2 : ∀ w : Elt F .i32, w = rowsOf i T → ¬k0_cond2 i w = 1#1 := by
      rintro w rfl; exact fun h => absurd ((FfnWords.cond2_iff _ _).mp h).1 (by omega)
    have hc6 : ∀ w : Elt F .i32, w = rowsOf i T → ¬k0_cond6 i w = 1#1 := by
      rintro w rfl; exact fun h => absurd ((FfnWords.cond6_iff _ _).mp h).2 hv
    have hc7 : ∀ w : Elt F .i32, w = rowsOf i T → k0_cond7 i w = 1#1 := by
      rintro w rfl; exact (FfnWords.cond7_iff _ _).mpr ⟨hj, hv⟩
    have hc8 : ∀ w : Elt F .i32, w = rowsOf i T → k0_cond8 w = 1#1 := by
      rintro w rfl; exact (FfnWords.cond8_iff _).mpr (by omega)
    have hc9 : ∀ w : Elt F .i32, w = rowsOf i T → ¬k0_cond9 w = 1#1 := by
      rintro w rfl; exact fun h => absurd ((FfnWords.cond9_iff _).mp h) (by omega)
    have hc10 : ∀ w : Elt F .i32, w = rowsOf i T → k0_cond10 w = 1#1 := by
      rintro w rfl; exact (FfnWords.cond10_iff _).mpr (by omega)
    have hc11 : ∀ w : Elt F .i32, w = rowsOf i T → ¬k0_cond11 w = 1#1 := by
      rintro w rfl; exact fun h => absurd ((FfnWords.cond11_iff _).mp h) (by omega)
    have hc12 : ∀ w : Elt F .i32, w = rowsOf i T → ¬k0_cond12 w = 1#1 := by
      rintro w rfl; exact fun h => absurd ((FfnWords.cond12_iff _).mp h) (by omega)
    have hc13 : ∀ w : Elt F .i32, w = rowsOf i T → k0_cond13 w = 1#1 := by
      rintro w rfl; exact (FfnWords.cond13_iff _).mpr (by omega)
    clear hv hlo hhi
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    simp only [k0_part4_eq_skeleton, k0_part4_skel, k0_part5_eq_skeleton, k0_part5_skel, k0_part6_eq_skeleton, k0_part6_skel, k0_part7_eq_skeleton, k0_part7_skel]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact hc8 _ rfl | exact hc9 _ rfl | exact hc10 _ rfl | exact hc11 _ rfl | exact hc12 _ rfl | exact hc13 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      refine (read_writes_over _ _ _).trans ?_
      rw [harg14.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [H10]
    · iexists _; isplitr; swap; · iexact H10
      ipureintro
      refine (read_writes_over _ _ _).trans ?_
      rw [harg15.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [HS]
    · iexists _; isplitr; swap; · iexact HS
      ipureintro
      exact harg16.read_unread _
    isplitl [HT0]; · iexact HT0
    isplitl [HT1]; · iexact HT1
    iexact HT2

end Cert.Kernel4Ideal.Ffn

end
-- ==== Proof.FfnTD3.lean ====
/- One case of the experts' kernel: what it writes. -/
module

public import proofs.«01_k».proof.Proof.FfnRun

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

set_option maxHeartbeats 8000000 in
theorem runD3 (c : Dev nD) (i : grid0.Coords) (A : Ops) (T : Tbs F c) (X : Ins F) (y z : Vec F S9216x128 .f32) (d : Vec F S4x1152x512 .bf16)
    (hj : 4 ≤ step i) (hv : rowsOf i T ≠ 1152#32) (hlo : 768 < (rowsOf i T).toInt) :
      ∀ (E : Set ℕ) (K : PUnit → Res F),
        iprop(held c A T X y z d ∗ (held c A T X (over y (out2 i (k0_pay42 (oS X.ul d X.cl 768 (by decide))) (k0_pay44 (oS X.ul d X.cl 768 (by decide))) ++ (out1 i (k0_pay42 (oS X.ul d X.cl 384 (by decide))) (k0_pay44 (oS X.ul d X.cl 384 (by decide))) ++ (out0 i hj (k0_pay42 (oS X.ul d X.cl 0 (by decide))) (k0_pay44 (oS X.ul d X.cl 0 (by decide))))))) (over z (out2 i (k0_pay42 (oS X.uh d X.ch 768 (by decide))) (k0_pay44 (oS X.uh d X.ch 768 (by decide))) ++ (out1 i (k0_pay42 (oS X.uh d X.ch 384 (by decide))) (k0_pay44 (oS X.uh d X.ch 384 (by decide))) ++ (out0 i hj (k0_pay42 (oS X.uh d X.ch 0 (by decide))) (k0_pay44 (oS X.uh d X.ch 0 (by decide))))))) d -∗ K ⟨⟩))
          ⊢ wp frame (wpE (defs₀ (F := F)) Variants.none c none) E (bodyOf i A) K := by
    intro E K
    have hc1 : ∀ w : Elt F .i32, w = rowsOf i T → ¬k0_cond1 i w = 1#1 := by
      rintro w rfl; exact fun h => absurd ((FfnWords.cond1_iff _ _).mp h).1 (by omega)
    have hc2 : ∀ w : Elt F .i32, w = rowsOf i T → ¬k0_cond2 i w = 1#1 := by
      rintro w rfl; exact fun h => absurd ((FfnWords.cond2_iff _ _).mp h).1 (by omega)
    have hc6 : ∀ w : Elt F .i32, w = rowsOf i T → ¬k0_cond6 i w = 1#1 := by
      rintro w rfl; exact fun h => absurd ((FfnWords.cond6_iff _ _).mp h).2 hv
    have hc7 : ∀ w : Elt F .i32, w = rowsOf i T → k0_cond7 i w = 1#1 := by
      rintro w rfl; exact (FfnWords.cond7_iff _ _).mpr ⟨hj, hv⟩
    have hc8 : ∀ w : Elt F .i32, w = rowsOf i T → k0_cond8 w = 1#1 := by
      rintro w rfl; exact (FfnWords.cond8_iff _).mpr (by omega)
    have hc9 : ∀ w : Elt F .i32, w = rowsOf i T → ¬k0_cond9 w = 1#1 := by
      rintro w rfl; exact fun h => absurd ((FfnWords.cond9_iff _).mp h) (by omega)
    have hc10 : ∀ w : Elt F .i32, w = rowsOf i T → k0_cond10 w = 1#1 := by
      rintro w rfl; exact (FfnWords.cond10_iff _).mpr (by omega)
    have hc11 : ∀ w : Elt F .i32, w = rowsOf i T → ¬k0_cond11 w = 1#1 := by
      rintro w rfl; exact fun h => absurd ((FfnWords.cond11_iff _).mp h) (by omega)
    have hc12 : ∀ w : Elt F .i32, w = rowsOf i T → k0_cond12 w = 1#1 := by
      rintro w rfl; exact (FfnWords.cond12_iff _).mpr (by omega)
    have hc13 : ∀ w : Elt F .i32, w = rowsOf i T → ¬k0_cond13 w = 1#1 := by
      rintro w rfl; exact fun h => absurd ((FfnWords.cond13_iff _).mp h) (by omega)
    clear hv hlo
    obtain ⟨arg5, harg5, arg6, harg6, arg7, harg7, arg8, harg8, arg9, harg9, arg10, harg10, arg11, harg11, arg12, harg12, arg13, harg13, arg14, harg14, arg15, harg15, arg16, harg16⟩ := A
    obtain ⟨x0, x1, x2, x3, x4, x5, x6, x7, x8⟩ := X
    obtain ⟨xt0, xt1, xt2⟩ := T
    unfold held bodyOf
    dsimp only at *
    simp only [cc0_moe_ffn_eq_skeleton]; unfold cc0_moe_ffn_skel
    simp only [k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, HT0, HT1, HT2⟩, Hk⟩
    obtain rfl := harg5.eq_unread hf0; obtain rfl := harg6.eq_unread hf1; obtain rfl := harg7.eq_unread hf2
    obtain rfl := harg8.eq_unread hf3; obtain rfl := harg9.eq_unread hf4; obtain rfl := harg10.eq_unread hf5
    obtain rfl := harg11.eq_unread hf6; obtain rfl := harg12.eq_unread hf7; obtain rfl := harg13.eq_unread hf8
    obtain rfl := harg14.eq_unread hf9; obtain rfl := harg15.eq_unread hf10; obtain rfl := harg16.eq_unread hfs
    sl_exec (disch := first | exact hc1 _ rfl | exact hc2 _ rfl | exact hc6 _ rfl | exact hc7 _ rfl | exact hc8 _ rfl | exact hc9 _ rfl | exact hc10 _ rfl | exact hc11 _ rfl | exact hc12 _ rfl | exact hc13 _ rfl | exact FfnWords.chk _ _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      refine (read_writes_over _ _ _).trans ?_
      rw [harg14.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [H10]
    · iexists _; isplitr; swap; · iexact H10
      ipureintro
      refine (read_writes_over _ _ _).trans ?_
      rw [harg15.read_unread]
      simp only [load_whole, all_x, all_w, all_b, all_u, all_c]
      refine congrArg (over _) ?_
      try simp only [same1, same2, same3, same4, same5, same6, same7, same8, same9, same10, same11, same12, same13, same14, sameZ0.1, sameZ0.2.1, sameZ0.2.2.1, sameZ0.2.2.2.1, sameZ0.2.2.2.2, sameZ1.1, sameZ1.2.1, sameZ1.2.2.1, sameZ1.2.2.2.1, sameZ1.2.2.2.2]
      rfl
    isplitl [HS]
    · iexists _; isplitr; swap; · iexact HS
      ipureintro
      exact harg16.read_unread _
    isplitl [HT0]; · iexact HT0
    isplitl [HT1]; · iexact HT1
    iexact HT2

end Cert.Kernel4Ideal.Ffn

end
-- ==== Proof.FfnBody.lean ====
/- The experts' kernel at one grid point, its cases together. -/
module

public import proofs.«01_k».proof.Proof.FfnTA
public import proofs.«01_k».proof.Proof.FfnTB0
public import proofs.«01_k».proof.Proof.FfnTB1
public import proofs.«01_k».proof.Proof.FfnTB2
public import proofs.«01_k».proof.Proof.FfnTB3
public import proofs.«01_k».proof.Proof.FfnTC
public import proofs.«01_k».proof.Proof.FfnTD0
public import proofs.«01_k».proof.Proof.FfnTD1
public import proofs.«01_k».proof.Proof.FfnTD2
public import proofs.«01_k».proof.Proof.FfnTD3

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k0_cond1 k0_cond2 k0_cond3 k0_cond4 k0_cond5 k0_cond6 k0_cond7 k0_cond8 k0_cond9 k0_cond10 k0_cond11 k0_cond12 k0_cond13

/-- What a point leaves in the scratch buffer: at one of the first four steps, one hidden plane of the block's rows. -/
def hidStep (i : grid0.Coords) (v : BitVec 32) (X : Ins F) (d : Vec F S4x1152x512 .bf16) : Vec F S4x1152x512 .bf16 :=
  if hj : step i < 4 then
    if v = 1152#32 then over d (hidF i hj X)
    else if v.toInt ≤ 0 then d
    else if v.toInt ≤ 384 then over d (hid0 i hj X)
    else if v.toInt ≤ 768 then over d (hid1 i hj X ++ (hid0 i hj X))
    else over d (hid2 i hj X ++ (hid1 i hj X ++ (hid0 i hj X)))
  else d

/-- What a point leaves in an output plane's buffer: at one of the last four steps, two chunks of each row of the block. -/
def outStep (i : grid0.Coords) (v : BitVec 32) (w : Vec F S1x2048x256 .f32) (b : Vec F S1x1x256 .f32) (d : Vec F S4x1152x512 .bf16)
    (y : Vec F S9216x128 .f32) : Vec F S9216x128 .f32 :=
  if hj : 4 ≤ step i then
    if v = 1152#32 then over y (outF i hj (oF w d b))
    else if v.toInt ≤ 0 then over y (out2 i k0_pay14 k0_pay16 ++ (out1 i k0_pay14 k0_pay16 ++ (out0 i hj k0_pay14 k0_pay16)))
    else if v.toInt ≤ 384 then over y (out2 i k0_pay14 k0_pay16 ++ (out1 i k0_pay14 k0_pay16 ++ (out0 i hj (k0_pay42 (oS w d b 0 (by decide))) (k0_pay44 (oS w d b 0 (by decide))))))
    else if v.toInt ≤ 768 then over y (out2 i k0_pay14 k0_pay16 ++ (out1 i (k0_pay42 (oS w d b 384 (by decide))) (k0_pay44 (oS w d b 384 (by decide))) ++ (out0 i hj (k0_pay42 (oS w d b 0 (by decide))) (k0_pay44 (oS w d b 0 (by decide))))))
    else over y (out2 i (k0_pay42 (oS w d b 768 (by decide))) (k0_pay44 (oS w d b 768 (by decide))) ++ (out1 i (k0_pay42 (oS w d b 384 (by decide))) (k0_pay44 (oS w d b 384 (by decide))) ++ (out0 i hj (k0_pay42 (oS w d b 0 (by decide))) (k0_pay44 (oS w d b 0 (by decide))))))
  else y

/-- The kernel's body at a point: the inputs and the tables stay, the outputs and the scratch buffer make their step. -/
theorem run (c : Dev nD) (i : grid0.Coords) (A : Ops) (T : Tbs F c) (X : Ins F) (y z : Vec F S9216x128 .f32) (d : Vec F S4x1152x512 .bf16) :
      ∀ (E : Set ℕ) (K : PUnit → Res F),
        iprop(held c A T X y z d ∗ (held c A T X (outStep i (rowsOf i T) X.ul X.cl d y) (outStep i (rowsOf i T) X.uh X.ch d z) (hidStep i (rowsOf i T) X d) -∗ K ⟨⟩))
          ⊢ wp frame (wpE (defs₀ (F := F)) Variants.none c none) E (bodyOf i A) K := by
  by_cases hj : step i < 4
  · have hn : ¬ 4 ≤ step i := by omega
    unfold outStep hidStep
    simp only [dif_pos hj, dif_neg hn]
    by_cases hv : rowsOf i T = 1152#32
    · simp only [if_pos hv]; exact runA c i A T X y z d hj hv
    simp only [if_neg hv]
    by_cases h0 : (rowsOf i T).toInt ≤ 0
    · simp only [if_pos h0]; exact runB0 c i A T X y z d hj hv h0
    simp only [if_neg h0]
    by_cases h1 : (rowsOf i T).toInt ≤ 384
    · simp only [if_pos h1]; exact runB1 c i A T X y z d hj hv (by omega) h1
    simp only [if_neg h1]
    by_cases h2 : (rowsOf i T).toInt ≤ 768
    · simp only [if_pos h2]; exact runB2 c i A T X y z d hj hv (by omega) h2
    simp only [if_neg h2]; exact runB3 c i A T X y z d hj hv (by omega)
  · have hn : 4 ≤ step i := by omega
    unfold outStep hidStep
    simp only [dif_neg hj, dif_pos hn]
    by_cases hv : rowsOf i T = 1152#32
    · simp only [if_pos hv]; exact runC c i A T X y z d hn hv
    simp only [if_neg hv]
    by_cases h0 : (rowsOf i T).toInt ≤ 0
    · simp only [if_pos h0]; exact runD0 c i A T X y z d hn hv h0
    simp only [if_neg h0]
    by_cases h1 : (rowsOf i T).toInt ≤ 384
    · simp only [if_pos h1]; exact runD1 c i A T X y z d hn hv (by omega) h1
    simp only [if_neg h1]
    by_cases h2 : (rowsOf i T).toInt ≤ 768
    · simp only [if_pos h2]; exact runD2 c i A T X y z d hn hv (by omega) h2
    simp only [if_neg h2]; exact runD3 c i A T X y z d hn hv (by omega)

end Cert.Kernel4Ideal.Ffn

end
-- ==== Proof.FfnLaunch.lean ====
/- The experts' kernel's launch: what a run leaves, of whatever values. -/
module

public import proofs.«01_k».proof.Proof.FfnBody

@[expose] public section

set_option maxRecDepth 16384

noncomputable section

namespace Cert.Kernel4Ideal.Ffn

open Cert.Kernel4Ideal.Gen
open Cert.FfnWords (step)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat RDat Cfg Window cellOf)

variable (m : (ℓ : Loc nD τ sig) → Buf (Elt F) ℓ) (ρ : Dev nD → PrngReg)

/-- A core's buffers when the pipeline starts: after the two reshapes of the biases. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

/-- The three tables as the pipeline finds them. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- The windows' blocks all lie inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body holds them. -/
def tbs (c : Dev nD) : Tbs F c := ⟨tbl m 0, tbl m 1, tbl m 2⟩

theorem PhiT0_eq (c : Dev nD) : (Pipeline.ΦT pre0 (tbl m) c : Res F)
    = iprop(tbPt c tb0 (tbs m c).n ∗ tbPt c tb1 (tbs m c).e ∗ tbPt c tb2 (tbs m c).r) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

abbrev scM : Memref sig .tc .vmem S4x1152x512 .bf16 := Memref.whole cc0_scratch0

theorem PhiA0_eq (c : Dev nD) :
    (Pipeline.ΦA spec0 c : Res F)
      = iprop(iprop((∃ d, owns (c : Thread nD τ) scM fullShare d)) ∗ (∃ r, prngReg c r)) := by
  unfold Pipeline.ΦA; rw [scopedRest0_eq]; simp only [scM, owns_whole]; try rfl

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the body reads at point `t`. -/
def xin (hO : Ok m) (c : Dev nD) (t : Fin (cfgM m hO).N) : Ins F :=
  ⟨iblk m hO c 0 t, iblk m hO c 1 t, iblk m hO c 2 t, iblk m hO c 3 t, iblk m hO c 4 t, iblk m hO c 5 t, iblk m hO c 6 t, iblk m hO c 7 t, iblk m hO c 8 t⟩
/-- The row count of point `t`'s block. -/
def cnt (hO : Ok m) (c : Dev nD) (t : Fin (cfgM m hO).N) : BitVec 32 := rowsOf ((cfgM m hO).grid.coords t) (tbs m c)

/-- What the scratch buffer may hold before point `n`: what the points before it wrote, over anything. -/
def Good (hO : Ok m) (c : Dev nD) : ℕ → Vec F S4x1152x512 .bf16 → Prop
  | 0, _ => True
  | n + 1, d' => ∃ (h : n < (cfgM m hO).N) (d : Vec F S4x1152x512 .bf16),
      Good hO c n d ∧ d' = hidStep ((cfgM m hO).grid.coords ⟨n, h⟩) (cnt m hO c ⟨n, h⟩) (xin m hO c ⟨n, h⟩) d

/-- The staged operands at point `t`. -/
def opsAt (hO : Ok m) (t : Fin (cfgM m hO).N) : Ops :=
  ⟨spec0_0.stage ((cfgM m hO).slots t 0), hstage0_0 (((cfgM m hO).slots t 0).cast nbuf0_0), spec0_1.stage ((cfgM m hO).slots t 1), hstage0_1 (((cfgM m hO).slots t 1).cast nbuf0_1), spec0_2.stage ((cfgM m hO).slots t 2), hstage0_2 (((cfgM m hO).slots t 2).cast nbuf0_2), spec0_3.stage ((cfgM m hO).slots t 3), hstage0_3 (((cfgM m hO).slots t 3).cast nbuf0_3), spec0_4.stage ((cfgM m hO).slots t 4), hstage0_4 (((cfgM m hO).slots t 4).cast nbuf0_4), spec0_5.stage ((cfgM m hO).slots t 5), hstage0_5 (((cfgM m hO).slots t 5).cast nbuf0_5), spec0_6.stage ((cfgM m hO).slots t 6), hstage0_6 (((cfgM m hO).slots t 6).cast nbuf0_6), spec0_7.stage ((cfgM m hO).slots t 7), hstage0_7 (((cfgM m hO).slots t 7).cast nbuf0_7), spec0_8.stage ((cfgM m hO).slots t 8), hstage0_8 (((cfgM m hO).slots t 8).cast nbuf0_8), spec0_9.stage ((cfgM m hO).slots t 9), hstage0_9 (((cfgM m hO).slots t 9).cast nbuf0_9), spec0_10.stage ((cfgM m hO).slots t 10), hstage0_10 (((cfgM m hO).slots t 10).cast nbuf0_10), scM, Memref.isWhole_whole _⟩

/-- The proof data: the inputs stay as found; each output makes its step off some scratch contents the points before may have left. -/
def rdat (hO : Ok m) (c : Dev nD) : RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => ∃ d, Good m hO c t.val d ∧ X = outStep ((cfgM m hO).grid.coords t) (cnt m hO c t) (xin m hO c t).ul (xin m hO c t).cl d Y
    | ⟨10, _⟩ => fun Y X => ∃ d, Good m hO c t.val d ∧ X = outStep ((cfgM m hO).grid.coords t) (cnt m hO c t) (xin m hO c t).uh (xin m hO c t).ch d Y
  Φ n := iprop(∃ d, ⌜Good m hO c n.val d⌝ ∗ owns (c : Thread nD τ) scM fullShare d ∗ (∃ r, prngReg c r) ∗ Pipeline.ΦT pre0 (tbl m) c)
  q w := Pipeline.shareOf spec0 w
  owed _ := 0

theorem A_eq (hO : Ok m) (c : Dev nD) (w : Fin (cfgM m hO).W) : (rdat m hO c).A w = V m c (Pipeline.arrRef spec0 w) := by
  dsimp only [rdat]

theorem finds0 (hO : Ok m) (c : Dev nD) (t : Fin (cfgM m hO).N) (Y) (h : (rdat m hO c).Finds 0 t Y) : Y = iblk m hO c 0 t := by
  obtain ⟨d, hd⟩ := (rdat m hO c).finds_in_eq_fetched 0 rfl (fun _ _ _ => rfl) (fun t Y X h => h) t Y h
  rw [hd]; unfold RDat.fetched RDat.blockOf iblk; rw [A_eq]; try rfl
theorem finds1 (hO : Ok m) (c : Dev nD) (t : Fin (cfgM m hO).N) (Y) (h : (rdat m hO c).Finds 1 t Y) : Y = iblk m hO c 1 t := by
  obtain ⟨d, hd⟩ := (rdat m hO c).finds_in_eq_fetched 1 rfl (fun _ _ _ => rfl) (fun t Y X h => h) t Y h
  rw [hd]; unfold RDat.fetched RDat.blockOf iblk; rw [A_eq]; try rfl
theorem finds2 (hO : Ok m) (c : Dev nD) (t : Fin (cfgM m hO).N) (Y) (h : (rdat m hO c).Finds 2 t Y) : Y = iblk m hO c 2 t := by
  obtain ⟨d, hd⟩ := (rdat m hO c).finds_in_eq_fetched 2 rfl (fun _ _ _ => rfl) (fun t Y X h => h) t Y h
  rw [hd]; unfold RDat.fetched RDat.blockOf iblk; rw [A_eq]; try rfl
theorem finds3 (hO : Ok m) (c : Dev nD) (t : Fin (cfgM m hO).N) (Y) (h : (rdat m hO c).Finds 3 t Y) : Y = iblk m hO c 3 t := by
  obtain ⟨d, hd⟩ := (rdat m hO c).finds_in_eq_fetched 3 rfl (fun _ _ _ => rfl) (fun t Y X h => h) t Y h
  rw [hd]; unfold RDat.fetched RDat.blockOf iblk; rw [A_eq]; try rfl
theorem finds4 (hO : Ok m) (c : Dev nD) (t : Fin (cfgM m hO).N) (Y) (h : (rdat m hO c).Finds 4 t Y) : Y = iblk m hO c 4 t := by
  obtain ⟨d, hd⟩ := (rdat m hO c).finds_in_eq_fetched 4 rfl (fun _ _ _ => rfl) (fun t Y X h => h) t Y h
  rw [hd]; unfold RDat.fetched RDat.blockOf iblk; rw [A_eq]; try rfl
theorem finds5 (hO : Ok m) (c : Dev nD) (t : Fin (cfgM m hO).N) (Y) (h : (rdat m hO c).Finds 5 t Y) : Y = iblk m hO c 5 t := by
  obtain ⟨d, hd⟩ := (rdat m hO c).finds_in_eq_fetched 5 rfl (fun _ _ _ => rfl) (fun t Y X h => h) t Y h
  rw [hd]; unfold RDat.fetched RDat.blockOf iblk; rw [A_eq]; try rfl
theorem finds6 (hO : Ok m) (c : Dev nD) (t : Fin (cfgM m hO).N) (Y) (h : (rdat m hO c).Finds 6 t Y) : Y = iblk m hO c 6 t := by
  obtain ⟨d, hd⟩ := (rdat m hO c).finds_in_eq_fetched 6 rfl (fun _ _ _ => rfl) (fun t Y X h => h) t Y h
  rw [hd]; unfold RDat.fetched RDat.blockOf iblk; rw [A_eq]; try rfl
theorem finds7 (hO : Ok m) (c : Dev nD) (t : Fin (cfgM m hO).N) (Y) (h : (rdat m hO c).Finds 7 t Y) : Y = iblk m hO c 7 t := by
  obtain ⟨d, hd⟩ := (rdat m hO c).finds_in_eq_fetched 7 rfl (fun _ _ _ => rfl) (fun t Y X h => h) t Y h
  rw [hd]; unfold RDat.fetched RDat.blockOf iblk; rw [A_eq]; try rfl
theorem finds8 (hO : Ok m) (c : Dev nD) (t : Fin (cfgM m hO).N) (Y) (h : (rdat m hO c).Finds 8 t Y) : Y = iblk m hO c 8 t := by
  obtain ⟨d, hd⟩ := (rdat m hO c).finds_in_eq_fetched 8 rfl (fun _ _ _ => rfl) (fun t Y X h => h) t Y h
  rw [hd]; unfold RDat.fetched RDat.blockOf iblk; rw [A_eq]; try rfl

def bodyPre (hO : Ok m) (c : Dev nD) (t : Fin (cfgM m hO).N) (y z : Vec F S9216x128 .f32) : Res F :=
  iprop((rdat m hO c).Φ t.castSucc ∗ (rdat m hO c).owesAt () t.castSucc
    ∗ owns (c : Thread nD τ) (spec0_0.stage ((cfgM m hO).slots t 0)) fullShare (iblk m hO c 0 t)
    ∗ owns (c : Thread nD τ) (spec0_1.stage ((cfgM m hO).slots t 1)) fullShare (iblk m hO c 1 t)
    ∗ owns (c : Thread nD τ) (spec0_2.stage ((cfgM m hO).slots t 2)) fullShare (iblk m hO c 2 t)
    ∗ owns (c : Thread nD τ) (spec0_3.stage ((cfgM m hO).slots t 3)) fullShare (iblk m hO c 3 t)
    ∗ owns (c : Thread nD τ) (spec0_4.stage ((cfgM m hO).slots t 4)) fullShare (iblk m hO c 4 t)
    ∗ owns (c : Thread nD τ) (spec0_5.stage ((cfgM m hO).slots t 5)) fullShare (iblk m hO c 5 t)
    ∗ owns (c : Thread nD τ) (spec0_6.stage ((cfgM m hO).slots t 6)) fullShare (iblk m hO c 6 t)
    ∗ owns (c : Thread nD τ) (spec0_7.stage ((cfgM m hO).slots t 7)) fullShare (iblk m hO c 7 t)
    ∗ owns (c : Thread nD τ) (spec0_8.stage ((cfgM m hO).slots t 8)) fullShare (iblk m hO c 8 t)
    ∗ owns (c : Thread nD τ) (spec0_9.stage ((cfgM m hO).slots t 9)) fullShare y
    ∗ owns (c : Thread nD τ) (spec0_10.stage ((cfgM m hO).slots t 10)) fullShare z)

def bodyPost (hO : Ok m) (c : Dev nD) (t : Fin (cfgM m hO).N) (y z : Vec F S9216x128 .f32) : Res F :=
  iprop((rdat m hO c).Φ t.succ ∗ (rdat m hO c).owesAt () t.succ
    ∗ (∃ X, ⌜(rdat m hO c).after 0 t (iblk m hO c 0 t) X⌝ ∗ owns (c : Thread nD τ) (spec0_0.stage ((cfgM m hO).slots t 0)) fullShare X)
    ∗ (∃ X, ⌜(rdat m hO c).after 1 t (iblk m hO c 1 t) X⌝ ∗ owns (c : Thread nD τ) (spec0_1.stage ((cfgM m hO).slots t 1)) fullShare X)
    ∗ (∃ X, ⌜(rdat m hO c).after 2 t (iblk m hO c 2 t) X⌝ ∗ owns (c : Thread nD τ) (spec0_2.stage ((cfgM m hO).slots t 2)) fullShare X)
    ∗ (∃ X, ⌜(rdat m hO c).after 3 t (iblk m hO c 3 t) X⌝ ∗ owns (c : Thread nD τ) (spec0_3.stage ((cfgM m hO).slots t 3)) fullShare X)
    ∗ (∃ X, ⌜(rdat m hO c).after 4 t (iblk m hO c 4 t) X⌝ ∗ owns (c : Thread nD τ) (spec0_4.stage ((cfgM m hO).slots t 4)) fullShare X)
    ∗ (∃ X, ⌜(rdat m hO c).after 5 t (iblk m hO c 5 t) X⌝ ∗ owns (c : Thread nD τ) (spec0_5.stage ((cfgM m hO).slots t 5)) fullShare X)
    ∗ (∃ X, ⌜(rdat m hO c).after 6 t (iblk m hO c 6 t) X⌝ ∗ owns (c : Thread nD τ) (spec0_6.stage ((cfgM m hO).slots t 6)) fullShare X)
    ∗ (∃ X, ⌜(rdat m hO c).after 7 t (iblk m hO c 7 t) X⌝ ∗ owns (c : Thread nD τ) (spec0_7.stage ((cfgM m hO).slots t 7)) fullShare X)
    ∗ (∃ X, ⌜(rdat m hO c).after 8 t (iblk m hO c 8 t) X⌝ ∗ owns (c : Thread nD τ) (spec0_8.stage ((cfgM m hO).slots t 8)) fullShare X)
    ∗ (∃ X, ⌜(rdat m hO c).after 9 t y X⌝ ∗ owns (c : Thread nD τ) (spec0_9.stage ((cfgM m hO).slots t 9)) fullShare X)
    ∗ (∃ X, ⌜(rdat m hO c).after 10 t z X⌝ ∗ owns (c : Thread nD τ) (spec0_10.stage ((cfgM m hO).slots t 10)) fullShare X))

set_option maxHeartbeats 800000 in
theorem sound_body (hO : Ok m) (c : Dev nD) (t : Fin (cfgM m hO).N) (y z : Vec F S9216x128 .f32) :
    bodyPre m hO c t y z ⊢ wp frame (wpE (defs₀ (F := F)) Variants.none c none) Set.univ (bodyOf ((cfgM m hO).grid.coords t) (opsAt m hO t)) (fun _ => bodyPost m hO c t y z) := by
  unfold bodyPre bodyPost
  rw [show (rdat m hO c).owesAt () t.succ = (rdat m hO c).owesAt () t.castSucc from rfl,
    show (rdat m hO c).Φ t.castSucc = iprop(∃ d, ⌜Good m hO c t.val d⌝ ∗ owns (c : Thread nD τ) scM fullShare d ∗ (∃ r, prngReg c r) ∗ Pipeline.ΦT pre0 (tbl m) c) from rfl,
    show (rdat m hO c).Φ t.succ = iprop(∃ d, ⌜Good m hO c (t.val + 1) d⌝ ∗ owns (c : Thread nD τ) scM fullShare d ∗ (∃ r, prngReg c r) ∗ Pipeline.ΦT pre0 (tbl m) c) from rfl,
    PhiT0_eq]
  iintro ⟨⟨%d, %hd, HS, Hg, HT0, HT1, HT2⟩, Ho, H0, H1, H2, H3, H4, H5, H6, H7, H8, H9, H10⟩
  iapply (run c ((cfgM m hO).grid.coords t) (opsAt m hO t) (tbs m c) (xin m hO c t) y z d Set.univ _)
  unfold held
  isplitl [H0 H1 H2 H3 H4 H5 H6 H7 H8 H9 H10 HS HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [HT0]; · iexact HT0
    isplitl [HT1]; · iexact HT1
    iexact HT2
  iintro ⟨H0, H1, H2, H3, H4, H5, H6, H7, H8, H9, H10, HS, HT0, HT1, HT2⟩
  isplitl [HS Hg HT0 HT1 HT2]
  · iexists _
    isplitr; · ipureintro; exact ⟨t.isLt, d, hd, rfl⟩
    isplitl [HS]; · iexact HS
    isplitl [Hg]; · iexact Hg
    isplitl [HT0]; · iexact HT0
    isplitl [HT1]; · iexact HT1
    iexact HT2
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact ⟨d, hd, rfl⟩
  iexists _; isplitr; swap; · iexact H10
  ipureintro; exact ⟨d, hd, rfl⟩

theorem row (hO : Ok m) (t : Fin (cfgM m hO).N) :
    defs₀ (F := F) .tc (cfgM m hO).body ((cfgM m hO).bodyArgs t ((cfgM m hO).slots t)) = bodyOf ((cfgM m hO).grid.coords t) (opsAt m hO t) := by
  unfold defs₀; rw [Defs.onTc_tc]; try rfl

theorem body_obligation (hO : Ok m) (c : Dev nD) : (rdat m hO c).BodyObligation (defs₀ (F := F)) Variants.none () Set.univ := fun t Y hY => by
  rw [bigSep_W0, bigSep_W0, row m hO]
  rw [finds0 m hO c t (Y 0) (hY 0), finds1 m hO c t (Y 1) (hY 1), finds2 m hO c t (Y 2) (hY 2), finds3 m hO c t (Y 3) (hY 3), finds4 m hO c t (Y 4) (hY 4), finds5 m hO c t (Y 5) (hY 5), finds6 m hO c t (Y 6) (hY 6), finds7 m hO c t (Y 7) (hY 7), finds8 m hO c t (Y 8) (hY 8)]
  exact triple_restated (sound_body m hO c t (Y 9) (Y 10)) rfl .rfl fun _ => .rfl

set_option backward.isDefEq.respectTransparency.types false in
/-- A run ends with the arrays at contents the proof data allow, and every counter at zero. -/
theorem run_main (hO : Ok m) : θ_run defs (onTc (τ := τ) (main (F := F))) (s₀ m ρ)
    (fun r => (RDat.FramePost ((Pipeline.pin pcfgs fun _ => adm m hO) 0) (fun c => rdat m hO c) (V m)) r ∧ r.2.sem = fun _ => 0) :=
  Pipeline.RDat.θ_run_frameP_track_shared (Q' := _) pcfgs (fun _ => adm m hO) (0 : Fin 1) launch₀0 defs₀ Variants.none (fun c => rdat m hO c) m ρ main
    (hbody := fun c => body_obligation m hO c) (hq := fun _ _ _ => rfl)
    (howed := fun _ _ => rfl) (V := V m) (hmain := hmain m Variants.none) (hA := A_eq m hO) (hpf := V_pre m)
    (hin := fun c => by
      rw [PhiA0_eq]
      show _ ⊢ iprop(∃ d, ⌜Good m hO c 0 d⌝ ∗ owns (c : Thread nD τ) scM fullShare d ∗ (∃ r, prngReg c r) ∗ Pipeline.ΦT pre0 (tbl m) c)
      iintro ⟨⟨⟨%d, HS⟩, Hg⟩, HT⟩
      iexists d
      isplitr; · ipureintro; trivial
      isplitl [HS]; · iexact HS
      isplitl [Hg]; · iexact Hg
      iexact HT)
    (hout := fun c => by
      rw [PhiA0_eq]
      show iprop(∃ d, ⌜Good m hO c (cfgM m hO).N d⌝ ∗ owns (c : Thread nD τ) scM fullShare d ∗ (∃ r, prngReg c r) ∗ Pipeline.ΦT pre0 (tbl m) c) ⊢ _
      iintro ⟨%d, -, HS, Hg, -⟩
      isplitl [HS]; · iexists _; iexact HS
      iexact Hg)
    (hQ' := fun _ h => h)

/-- The argument arrays end unchanged, and every counter ends at zero. -/
theorem frame (hO : Ok m) : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(RDat.FramePost.arr_in h.1 c 0 rfl).trans ((A_eq m hO c 0).trans (V_arg0 m c)),
      (RDat.FramePost.arr_in h.1 c 1 rfl).trans ((A_eq m hO c 1).trans (V_arg1 m c)),
      ((h.1 c).2 main_arg2 (by decide : main_arg2 ∈ Pipeline.restRefs sig spec0)).trans (V_arg2 m c),
      (RDat.FramePost.arr_in h.1 c 5 rfl).trans ((A_eq m hO c 5).trans (V_arg3 m c)),
      ((h.1 c).2 main_arg4 (by decide : main_arg4 ∈ Pipeline.restRefs sig spec0)).trans (V_arg4 m c),
      ((h.1 c).2 main_arg5 (by decide : main_arg5 ∈ Pipeline.restRefs sig spec0)).trans (V_arg5 m c),
      ((h.1 c).2 main_arg6 (by decide : main_arg6 ∈ Pipeline.restRefs sig spec0)).trans (V_arg6 m c),
      ((h.1 c).2 main_arg7 (by decide : main_arg7 ∈ Pipeline.restRefs sig spec0)).trans (V_arg7 m c)⟩, h.2⟩) (run_main m ρ hO)

end Cert.Kernel4Ideal.Ffn

end
-- ==== Proof.FfnIndex.lean ====
/- The experts' kernel's index maps as numbers, and that its blocks lie inside their arrays when every block names an expert. -/
module

public import proofs.«01_k».proof.Proof.FfnLaunch
public import Idealize.ShloMosaic.Lib.ValueIdx

@[expose] public section

noncomputable section

namespace Cert.Kernel4Ideal.Ffn

open Cert.Kernel4Ideal.Gen
open Cert.FfnWords (step step_lt slt_four sge_four)
open Idealize.ShloMosaic
open Idealize.ShloMosaic.TcCoe Idealize.ShloMosaic.ValueIdx

variable {F : FTy → Type} [FloatOps F]

/-- The expert a block names. -/
def expertW (pf : pre0.Contents (Elt F)) (b : Fin 145) : BitVec 32 := (pf 1 : S145.Idx → BitVec 32) (ix1 b)
/-- The number of blocks. -/
def countW (pf : pre0.Contents (Elt F)) : BitVec 32 := (pf 0 : S1.Idx → BitVec 32) (ix1 0)

theorem first_val (o : Nat) (x : Fin 1) : o + 1 * x.val = o := by have := x.isLt; omega

theorem at0 (pf : pre0.Contents (Elt F)) (h) (h1) :
    (pf.at 0 (Rect.unit (s := S1) ![0] S1.size h) h1 : BitVec 32) = countW pf := by
  show (pf 0 : S1.Idx → BitVec 32) _ = _
  unfold countW
  refine congrArg (pf 0 : S1.Idx → BitVec 32) ?_
  funext a
  match a with
  | ⟨0, _⟩ => exact Fin.ext (first_val 0 _)

theorem at1 (pf : pre0.Contents (Elt F)) (o : Nat) (ho : o < 145) (h) (h1) :
    (pf.at 1 (Rect.unit (s := S145) ![o] S1.size h) h1 : BitVec 32) = expertW pf ⟨o, ho⟩ := by
  show (pf 1 : S145.Idx → BitVec 32) _ = _
  unfold expertW
  refine congrArg (pf 1 : S145.Idx → BitVec 32) ?_
  funext a
  match a with
  | ⟨0, _⟩ => exact Fin.ext (first_val o _)

theorem block_lt (i : grid0.Coords) : (i 0).val < 145 := (i 0).isLt

theorem cast0 (i : grid0.Coords) : (Scalar.indexCast (BitVec.ofNat 32 (i 0).val) : BitVec 32).toNat = (i 0).val := by
  exact congrFun (k0_off1_eq i) 0

theorem prev_lt (i : grid0.Coords) :
    (Scalar.indexCast (Scalar.maxsi (Scalar.subi (BitVec.ofNat 32 (i 0).val) 1#32) 0#32) : BitVec 32).toNat < 145 := by
  have h := k0_off2_inb i 0
  have e : (k0_off2 i 0) = (Scalar.indexCast (Scalar.maxsi (Scalar.subi (BitVec.ofNat 32 (i 0).val) 1#32) 0#32) : BitVec 32).toNat := rfl
  rw [e] at h
  have h2 : S1.size 0 = 1 := rfl
  have h3 : S145.size 0 = 145 := rfl
  rw [h2, h3] at h
  omega

theorem hid_word (i : grid0.Coords) (p : BitVec 1) :
    (Scalar.select p (Scalar.minsi (BitVec.ofNat 32 (i 1).val) 3#32) (3#32 : BitVec 32)).toNat = if p = 1#1 then min (step i) 3 else 3 := by
  have h := step_lt i
  unfold step at h ⊢
  generalize (i 1).val = a at h ⊢
  obtain rfl | rfl : p = 0#1 ∨ p = 1#1 := by revert p; decide
  · interval_cases a <;> decide
  · interval_cases a <;> decide

theorem hid_word4 (i : grid0.Coords) (p : BitVec 1) :
    (Scalar.addi (4#32) (Scalar.select p (Scalar.minsi (BitVec.ofNat 32 (i 1).val) 3#32) (3#32 : BitVec 32)) : BitVec 32).toNat
      = 4 + if p = 1#1 then min (step i) 3 else 3 := by
  have h := step_lt i
  unfold step at h ⊢
  generalize (i 1).val = a at h ⊢
  obtain rfl | rfl : p = 0#1 ∨ p = 1#1 := by revert p; decide
  · interval_cases a <;> decide
  · interval_cases a <;> decide

theorem out_word (i : grid0.Coords) (p : BitVec 1) :
    (Scalar.select (Scalar.andi p (Scalar.cmpi .sge (BitVec.ofNat 32 (i 1).val) (4#32 : BitVec 32)))
      (Scalar.subi (BitVec.ofNat 32 (i 1).val) 4#32) (3#32 : BitVec 32)).toNat = if p = 1#1 ∧ 4 ≤ step i then step i - 4 else 3 := by
  have h := step_lt i
  unfold step at h ⊢
  generalize (i 1).val = a at h ⊢
  obtain rfl | rfl : p = 0#1 ∨ p = 1#1 := by revert p; decide
  · interval_cases a <;> decide
  · interval_cases a <;> decide

theorem out_word4 (i : grid0.Coords) (p : BitVec 1) :
    (Scalar.addi (4#32) (Scalar.select (Scalar.andi p (Scalar.cmpi .sge (BitVec.ofNat 32 (i 1).val) (4#32 : BitVec 32)))
      (Scalar.subi (BitVec.ofNat 32 (i 1).val) 4#32) (3#32 : BitVec 32)) : BitVec 32).toNat
      = 4 + if p = 1#1 ∧ 4 ≤ step i then step i - 4 else 3 := by
  have h := step_lt i
  unfold step at h ⊢
  generalize (i 1).val = a at h ⊢
  obtain rfl | rfl : p = 0#1 ∨ p = 1#1 := by revert p; decide
  · interval_cases a <;> decide
  · interval_cases a <;> decide

/-- Whether a point's block is one of the blocks in use, as the kernel tests it. -/
def usedW (pf : pre0.Contents (Elt F)) (i : grid0.Coords) : BitVec 1 := Scalar.cmpi .slt (BitVec.ofNat 32 (i 0).val) (countW pf)
/-- The hidden tile of a point. -/
def hidT (pf : pre0.Contents (Elt F)) (i : grid0.Coords) : Nat := if usedW pf i = 1#1 then min (step i) 3 else 3
/-- The output tile of a point. -/
def outT (pf : pre0.Contents (Elt F)) (i : grid0.Coords) : Nat := if usedW pf i = 1#1 ∧ 4 ≤ step i then step i - 4 else 3
/-- The block whose expert's second weights a point reads. -/
def outB (i : grid0.Coords) : Fin 145 :=
  if step i < 4 then ⟨_, prev_lt i⟩ else ⟨(i 0).val, block_lt i⟩

theorem vec3 {a a' b b' c c' : Nat} (h : a = a') (h' : b = b') (h'' : c = c') : ![a, b, c] = ![a', b', c'] := by rw [h, h', h'']

theorem expert_word (pf : pre0.Contents (Elt F)) (i : grid0.Coords) (h) (h1) :
    (pf.at 1 (Rect.unit (s := S145) ![(Scalar.indexCast (BitVec.ofNat 32 (i 0).val) : BitVec 32).toNat] S1.size h) h1 : BitVec 32)
      = expertW pf ⟨(i 0).val, block_lt i⟩ := by
  rw [at1 pf _ (by rw [cast0]; exact block_lt i)]
  exact congrArg (expertW pf) (Fin.ext (cast0 i))

theorem sel_word (p : Prop) [Decidable p] {a b x y : BitVec 32} (ha : a = x) (hb : b = y) :
    Scalar.select (BitVec.ofBool (decide p)) a b = if p then x else y := by rw [Words.select_ofBool, ha, hb]

theorem expert_word2 (pf : pre0.Contents (Elt F)) (i : grid0.Coords) (h) (h1) (h') (h1') :
    (Scalar.select (Scalar.cmpi .slt (BitVec.ofNat 32 (i 1).val) (4#32 : BitVec 32))
      (pf.at 1 (Rect.unit (s := S145) ![(Scalar.indexCast (Scalar.maxsi (Scalar.subi (BitVec.ofNat 32 (i 0).val) 1#32) 0#32) : BitVec 32).toNat] S1.size h) h1 : BitVec 32)
      (pf.at 1 (Rect.unit (s := S145) ![(Scalar.indexCast (BitVec.ofNat 32 (i 0).val) : BitVec 32).toNat] S1.size h') h1' : BitVec 32))
      = expertW pf (outB i) := by
  rw [slt_four]
  exact (sel_word _ (at1 pf _ (prev_lt i) h h1) (expert_word pf i h' h1')).trans (apply_ite (expertW pf) _ _ _).symm

theorem index1 (pf : pre0.Contents (Elt F)) (i : grid0.Coords) :
    cc0_transform_1 k0_off1_inb numel1_S1 inb_S1_S1_0 pf i = ![(expertW pf ⟨(i 0).val, block_lt i⟩).toNat, 0, hidT pf i] := by
  unfold cc0_transform_1; dsimp only
  refine vec3 (congrArg BitVec.toNat (expert_word pf i _ _)) rfl ?_
  rw [at0 pf _ numel1_S1]; exact hid_word i _

theorem index2 (pf : pre0.Contents (Elt F)) (i : grid0.Coords) :
    cc0_transform_2 k0_off1_inb numel1_S1 inb_S1_S1_0 pf i = ![(expertW pf ⟨(i 0).val, block_lt i⟩).toNat, 0, 4 + hidT pf i] := by
  unfold cc0_transform_2; dsimp only
  refine vec3 (congrArg BitVec.toNat (expert_word pf i _ _)) rfl ?_
  rw [at0 pf _ numel1_S1]; exact hid_word4 i _

theorem index3 (pf : pre0.Contents (Elt F)) (i : grid0.Coords) :
    cc0_transform_3 k0_off1_inb numel1_S1 inb_S1_S1_0 pf i = ![(expertW pf ⟨(i 0).val, block_lt i⟩).toNat, 0, hidT pf i] := index1 pf i
theorem index4 (pf : pre0.Contents (Elt F)) (i : grid0.Coords) :
    cc0_transform_4 k0_off1_inb numel1_S1 inb_S1_S1_0 pf i = ![(expertW pf ⟨(i 0).val, block_lt i⟩).toNat, 0, 4 + hidT pf i] := index2 pf i

theorem index5 (pf : pre0.Contents (Elt F)) (i : grid0.Coords) :
    cc0_transform_5 k0_off2_inb numel1_S1 k0_off1_inb inb_S1_S1_0 pf i = ![(expertW pf (outB i)).toNat, 0, outT pf i] := by
  unfold cc0_transform_5; dsimp only
  refine vec3 (congrArg BitVec.toNat (expert_word2 pf i _ _ _ _)) rfl ?_
  rw [at0 pf _ numel1_S1]; exact out_word i _

theorem index6 (pf : pre0.Contents (Elt F)) (i : grid0.Coords) :
    cc0_transform_6 k0_off2_inb numel1_S1 k0_off1_inb inb_S1_S1_0 pf i = ![(expertW pf (outB i)).toNat, 0, 4 + outT pf i] := by
  unfold cc0_transform_6; dsimp only
  refine vec3 (congrArg BitVec.toNat (expert_word2 pf i _ _ _ _)) rfl ?_
  rw [at0 pf _ numel1_S1]; exact out_word4 i _

theorem index7 (pf : pre0.Contents (Elt F)) (i : grid0.Coords) :
    cc0_transform_7 k0_off2_inb numel1_S1 k0_off1_inb inb_S1_S1_0 pf i = ![(expertW pf (outB i)).toNat, 0, outT pf i] := index5 pf i
theorem index8 (pf : pre0.Contents (Elt F)) (i : grid0.Coords) :
    cc0_transform_8 k0_off2_inb numel1_S1 k0_off1_inb inb_S1_S1_0 pf i = ![(expertW pf (outB i)).toNat, 0, 4 + outT pf i] := index6 pf i

theorem hidT_lt (pf : pre0.Contents (Elt F)) (i : grid0.Coords) : hidT pf i < 4 := by unfold hidT; split <;> omega
theorem outT_lt (pf : pre0.Contents (Elt F)) (i : grid0.Coords) : outT pf i < 4 := by
  have := step_lt i; unfold outT; split <;> omega

theorem inside {n s t e k x l : Nat} (he : e < n) (hk : (k + 1) * s ≤ t) (hx : (l + 1) * x ≤ x) :
    ∀ a : Fin 3, ((![e, l, k] : Fin 3 → Nat) a + 1) * (![1, x, s] : Fin 3 → Nat) a ≤ (![n, x, t] : Fin 3 → Nat) a := by
  intro a
  match a with
  | ⟨0, _⟩ => show (e + 1) * 1 ≤ n; omega
  | ⟨1, _⟩ => exact hx
  | ⟨2, _⟩ => exact hk

/-- Every block of the launch lies inside its array when every block names one of the experts. -/
theorem ok_of (pf : pre0.Contents (Elt F)) (h : ∀ b, (expertW pf b).toNat < 32) : ok0 (F := F) pf := by
  refine ⟨fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩, fun i => ⟨?_, .inl rfl⟩, fun i => ⟨?_, .inl rfl⟩⟩
  · rw [index1]; exact inside (h _) (by have := hidT_lt pf i; omega) (by omega)
  · rw [index2]; exact inside (h _) (by have := hidT_lt pf i; omega) (by omega)
  · rw [index3]; exact inside (h _) (by have := hidT_lt pf i; omega) (by omega)
  · rw [index4]; exact inside (h _) (by have := hidT_lt pf i; omega) (by omega)
  · rw [index5]; exact inside (h _) (by have := outT_lt pf i; omega) (by omega)
  · rw [index6]; exact inside (h _) (by have := outT_lt pf i; omega) (by omega)
  · rw [index7]; exact inside (h _) (by have := outT_lt pf i; omega) (by omega)
  · rw [index8]; exact inside (h _) (by have := outT_lt pf i; omega) (by omega)

variable (m : (ℓ : Loc nD τ sig) → Buf (Elt F) ℓ)

theorem expertW_tbl (b : Fin 145) : expertW (tbl m) b = (m (((0 : Dev nD) : Thread nD τ).loc main_arg5) : S145.Idx → BitVec 32) (ix1 b) :=
  congrFun (V_arg5 m 0) (ix1 b)
theorem countW_tbl : countW (tbl m) = (m (((0 : Dev nD) : Thread nD τ).loc main_arg7) : S1.Idx → BitVec 32) (ix1 0) :=
  congrFun (V_arg7 m 0) (ix1 0)

end Cert.Kernel4Ideal.Ffn

end
-- ==== Proof.FfnClaims.lean ====
/- The claims about the experts' call: the frames of its ideal program and of its reference. -/
module

public import proofs.«01_k».proof.Defs
public import proofs.«01_k».proof.Proof.FfnIndex
public import proofs.«01_k».proof.Proof.Gen.Reference4Ideal.Run
public import proofs.«01_k».proof.Proof.Gen.Reference4Ideal.Read
public import Idealize.ShloMosaic.Lib.ReduceAll

@[expose] public section

noncomputable section

namespace Cert.FfnClaims

open Idealize.ShloMosaic Idealize.ShloMosaic.TcCoe Idealize.SL.Sem Idealize.ShloMosaic.ValueIdx

/-- The precondition's shape facts. -/
theorem namedFacts : Cert.Pre_experts_named.Facts where
  bcast_S_S145 := by decide
  reducesTo_S145_S_d0 := by decide
  h_S_ := by decide
instance : Cert.Pre_experts_named.Facts := namedFacts
theorem range_word (v : BitVec 32) (h : IntOp.andi (IntOp.cmpi .sge v 0#32) (IntOp.cmpi .slt v 32#32) = 1#1) : v.toNat < 32 := by
  obtain ⟨h0, h1⟩ := IntOp.andi_eq_one.1 h
  have e0 : (0#32).sle v = true := (FfnWords.bit_iff _).mp h0
  have e1 : v.slt 32#32 = true := (FfnWords.bit_iff _).mp h1
  rw [BitVec.sle_eq_decide, decide_eq_true_iff] at e0
  rw [BitVec.slt_eq_decide, decide_eq_true_iff] at e1
  have a0 : (0#32 : BitVec 32).toInt = 0 := by decide
  have a1 : (32#32 : BitVec 32).toInt = 32 := by decide
  rw [a0] at e0; rw [a1] at e1
  have hl := v.isLt
  have hc := BitVec.toInt_eq_toNat_cond v
  split at hc <;> omega

theorem named_of {F : FTy → Type} [FloatOps F] (a0 a1 a2 a3 a4) (e : IVec Cert.Pre_experts_named.S145 32) (a6 a7)
    (h : Cert.Pre_experts_named.fn (F := F) a0 a1 a2 a3 a4 e a6 a7 = fun _ => 1#1) (b : Fin 145) : (e (ix1 b)).toNat < 32 :=
  range_word _ (Host.reduce_andi_eq_one _ _ _ _ _ (congrFun h (fun a => a.elim0)) (ix1 b) (funext fun a => a.elim0))

theorem okIdeal (m : (ℓ : Loc Cert.Kernel4Ideal.nD Cert.Kernel4Ideal.τ Cert.Kernel4Ideal.sig) → Buf (Elt Ideal) ℓ)
    (h : Cert.Pre_Kernel4Ideal m) : Cert.Kernel4Ideal.Ffn.Ok m :=
  Cert.Kernel4Ideal.Ffn.ok_of _ fun b => by
    rw [Cert.Kernel4Ideal.Ffn.expertW_tbl]; exact named_of _ _ _ _ _ _ _ _ (h 0) b

theorem kernel4Ideal : Cert.quiescent_Kernel4Ideal := fun m ρ h => Cert.Kernel4Ideal.Ffn.frame m ρ (okIdeal m h)
theorem reference4Ideal : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run m ρ)

end Cert.FfnClaims

end
-- ==== Proof.FfnCast.lean ====
/- The frame of the experts' call as it is lowered. -/
module

public import proofs.«01_k».proof.Proof.Gen.Kernel4
public import proofs.«01_k».proof.Proof.FfnClaims

@[expose] public section

noncomputable section

namespace Cert.FfnClaims

open Idealize.ShloMosaic Idealize.ShloMosaic.TcCoe Idealize.SL.Sem Idealize.ShloMosaic.ValueIdx

theorem okBits (m : (ℓ : Loc Cert.Kernel4Ideal.nD Cert.Kernel4Ideal.τ Cert.Kernel4Ideal.sig) → Buf (Elt Bits) ℓ)
    (h : Cert.Pre_Kernel4 m) : Cert.Kernel4Ideal.Ffn.Ok (F := Bits) m :=
  Cert.Kernel4Ideal.Ffn.ok_of _ fun b => by
    rw [Cert.Kernel4Ideal.Ffn.expertW_tbl]; exact named_of _ _ _ _ _ _ _ _ (h 0) b

set_option maxHeartbeats 2000000 in
/-- The lowered kernel's table of bodies is its idealization's: the two texts are equal. -/
theorem bodies_eq : @Cert.Kernel4.defs₀ Bits _ _ = @Cert.Kernel4Ideal.defs₀ Bits _ _ := by
  unfold Cert.Kernel4.defs₀ Cert.Kernel4Ideal.defs₀
  refine congrArg Defs.onTc (funext fun l => funext fun a => ?_)
  match l, a with
  | ⟨0, _⟩, (t, s) => rfl
  | ⟨n + 1, h⟩, a => exact absurd h (Nat.not_lt.2 (Nat.le_add_left _ _))

set_option maxHeartbeats 2000000 in
theorem main_eq : @Cert.Kernel4.main Bits _ _ = @Cert.Kernel4Ideal.main Bits _ _ := rfl

set_option maxHeartbeats 2000000 in
theorem calls_eq : @Cert.Kernel4.pcfgs Bits _ _ = @Cert.Kernel4Ideal.pcfgs Bits _ _ := rfl

set_option maxHeartbeats 2000000 in
theorem defs_eq : @Cert.Kernel4.defs Bits _ _ = @Cert.Kernel4Ideal.defs Bits _ _ := by
  unfold Cert.Kernel4.defs Cert.Kernel4Ideal.defs
  rw [bodies_eq]
  rfl

set_option maxHeartbeats 2000000 in
/-- So the one run serves both frames. -/
theorem kernel4 : Cert.quiescent_Kernel4 := fun m ρ h => by
  rw [defs_eq, main_eq]
  exact Cert.Kernel4Ideal.Ffn.frame (F := Bits) m ρ (okBits m h)

end Cert.FfnClaims

end
-- ==== Proof.FfnCounted.lean ====
/- What the precondition on the blocks' row counts says. -/
module

public import proofs.«01_k».proof.Defs
public import proofs.«01_k».proof.Proof.FfnClaims
public import proofs.«01_k».proof.Proof.Gen.Reference4Ideal.Run
public import proofs.«01_k».proof.Proof.Gen.Reference4Ideal.Read
public import Idealize.ShloMosaic.Lib.ReduceAll

@[expose] public section

noncomputable section

namespace Cert.FfnClaims

open Idealize.ShloMosaic Idealize.ShloMosaic.TcCoe Idealize.SL.Sem Idealize.ShloMosaic.ValueIdx

theorem countedFacts : Cert.Pre_blocks_counted.Facts where
  bcast_S_S145 := by decide
  bcast_S1_S145_0 := by decide
  reducesTo_S145_S_d0 := by decide
  h_S_ := by decide

instance : Cert.Pre_blocks_counted.Facts := countedFacts

theorem counted_of {F : FTy → Type} [FloatOps F] (a0 a1 a2 a3 a4) (e r : IVec Cert.Pre_blocks_counted.S145 32) (n : IVec Cert.Pre_blocks_counted.S1 32)
    (h : Cert.Pre_blocks_counted.fn (F := F) a0 a1 a2 a3 a4 e r n = fun _ => 1#1) (b : Fin 145) :
    (e (ix1 b)).toNat < 32 ∧ (0 < (r (ix1 b)).toInt → Scalar.cmpi .slt (BitVec.ofNat 32 b.val) (n (ix1 0)) = 1#1) := by
  have e1 := Host.reduce_andi_eq_one _ _ _ _ _ (congrFun h (fun a => a.elim0)) (ix1 b) (funext fun a => a.elim0)
  obtain ⟨h1, h2⟩ := IntOp.andi_eq_one.1 e1
  refine ⟨range_word _ h1, fun hr => ?_⟩
  have h3 : IntOp.ori (IntOp.cmpi .sle (r (ix1 b)) 0#32) (IntOp.cmpi .slt (BitVec.ofNat 32 b.val) (n (ix1 0))) = 1#1 := by
    refine Eq.trans ?_ h2
    refine congrArg (fun z => IntOp.ori (IntOp.cmpi .sle (r (ix1 b)) 0#32) (IntOp.cmpi .slt (BitVec.ofNat 32 b.val) z)) ?_
    refine congrArg n ?_
    funext a
    match a with
    | ⟨0, _⟩ => rfl
  have h4 : IntOp.cmpi .sle (r (ix1 b)) 0#32 = 0#1 := by
    have : (r (ix1 b)).sle 0#32 = false := by
      rw [BitVec.sle_eq_decide, decide_eq_false_iff_not]
      have a0 : (0#32 : BitVec 32).toInt = 0 := by decide
      rw [a0]; omega
    show BitVec.ofBool ((r (ix1 b)).sle 0#32) = _
    rw [this]; rfl
  rw [h4] at h3
  show IntOp.cmpi .slt (BitVec.ofNat 32 b.val) (n (ix1 0)) = 1#1
  refine Eq.trans ?_ h3
  generalize IntOp.cmpi .slt (BitVec.ofNat 32 b.val) (n (ix1 0)) = p
  revert p; decide

theorem okCounted (m : (ℓ : Loc Cert.Kernel4Ideal.nD Cert.Kernel4Ideal.τ Cert.Kernel4Ideal.sig) → Buf (Elt Ideal) ℓ)
    (h : Cert.Pre_Kernel4Ideal_blocks_counted m) : Cert.Kernel4Ideal.Ffn.Ok m :=
  Cert.Kernel4Ideal.Ffn.ok_of _ fun b => by
    rw [Cert.Kernel4Ideal.Ffn.expertW_tbl]; exact (counted_of _ _ _ _ _ _ _ _ (h 0) b).1

theorem kernel4IdealCounted : Cert.quiescent_Kernel4Ideal_pre_blocks_counted := fun m ρ h => Cert.Kernel4Ideal.Ffn.frame m ρ (okCounted m h)

end Cert.FfnClaims

end
-- ==== Proof.FfnTile.lean ====
/- The experts' kernel's tiles at an index, over the extended reals. -/
module

public import proofs.«01_k».proof.Proof.FfnIndex
public import Idealize.ShloMosaic.PureOps.Ideal.Laws

@[expose] public section

noncomputable section

namespace Cert.Kernel4Ideal.Ffn

open Cert.Kernel4Ideal.Gen
open Idealize.ShloMosaic Idealize.ShloMosaic.TcCoe Idealize.ShloMosaic.ValueIdx

/-! ## The mathematics of one row -/

/-- A constant of the kernel as an extended real. -/
abbrev lit (b : BitVec 32) : EReal := FloatOps.ofBits (F := Ideal) .f32 b
/-- The gated unit of a gate and a linear part, both limited to 7. -/
def act (g l : EReal) : EReal :=
  min g (lit 0x40E00000#32) * Ideal.div (lit 0x3F800000#32) (lit 0x3F800000#32 + Ideal.exp (-(lit 0x3FD9DB23#32 * min g (lit 0x40E00000#32))))
    * (min (lit 0x40E00000#32) (max (lit 0xC0E00000#32) l) + lit 0x3F800000#32)
/-- A hidden activation: of a row, the gate's and the linear part's column of weights and their biases. -/
def hidden (x wg wl : Fin 2048 → EReal) (bg bl : EReal) : EReal :=
  act ((∑ k, x k * wg k) + bg) ((∑ k, x k * wl k) + bl)
/-- An output: of a row of hidden activations, a column of weights and its bias. -/
def outOf (h w : Fin 2048 → EReal) (b : EReal) : EReal := (∑ f, h f * w f) + b

/-- The place of an activation's column: its plane and the column in it. -/
theorem plane_lt (p : Fin 4) (q : Fin 512) : 512 * p.val + q.val < 2048 := by omega

theorem sum_planes (g : Fin 2048 → EReal) :
    ((∑ q : Fin 512, g ⟨512 * 0 + q.val, by omega⟩) + (∑ q : Fin 512, g ⟨512 * 1 + q.val, by omega⟩)
      + (∑ q : Fin 512, g ⟨512 * 2 + q.val, by omega⟩)) + (∑ q : Fin 512, g ⟨512 * 3 + q.val, by omega⟩) = ∑ f, g f := by
  have e : (∑ f : Fin (4 * 512), g f) = ∑ p : Fin 4, ∑ q : Fin 512, g ⟨512 * p.val + q.val, plane_lt p q⟩ := by
    rw [← Equiv.sum_comp finProdFinEquiv, Fintype.sum_prod_type]
    refine Finset.sum_congr rfl fun p _ => Finset.sum_congr rfl fun q _ => congrArg g (Fin.ext ?_)
    show q.val + 512 * p.val = 512 * p.val + q.val
    omega
  refine Eq.trans ?_ e.symm
  rw [Fin.sum_univ_four]
  rfl

theorem lhs_hF (i : S1152x512.Idx) (q : dot_S1152x2048_S2048x512_S1152x512_1_0_0_1_n_n.contr.Idx) : (dot_S1152x2048_S2048x512_S1152x512_1_0_0_1_n_n.lhsIdx i q 0).val = (i 0).val := by
  unfold DotDims.lhsIdx
  rw [dif_neg (show ¬(0 : Fin S1152x2048.rank) ∈ dot_S1152x2048_S2048x512_S1152x512_1_0_0_1_n_n.lhsBatch by decide),
    dif_pos (show (0 : Fin S1152x2048.rank) ∈ dot_S1152x2048_S2048x512_S1152x512_1_0_0_1_n_n.lhsNonContracting by decide)]
  rfl
theorem rhs_hF (i : S1152x512.Idx) (q : dot_S1152x2048_S2048x512_S1152x512_1_0_0_1_n_n.contr.Idx) : (dot_S1152x2048_S2048x512_S1152x512_1_0_0_1_n_n.rhsIdx i q 1).val = (i 1).val := by
  unfold DotDims.rhsIdx
  rw [dif_neg (show ¬(1 : Fin S2048x512.rank) ∈ dot_S1152x2048_S2048x512_S1152x512_1_0_0_1_n_n.rhsBatch by decide),
    dif_pos (show (1 : Fin S2048x512.rank) ∈ dot_S1152x2048_S2048x512_S1152x512_1_0_0_1_n_n.rhsNonContracting by decide)]
  rfl
theorem product_hF (u : FVec Ideal S1152x2048 .bf16) (v : FVec Ideal S2048x512 .bf16) (r : Fin 1152) (j : Fin 512) :
    matmul dot_S1152x2048_S2048x512_S1152x512_1_0_0_1_n_n none u v (constant S1152x512 .f32 0x00000000#32) (ix2 r j) = ∑ k : Fin 2048, u (ix2 r k) * v (ix2 k j) := by
  refine (Ideal.matmul_constant_zero_apply _ none _ _ _).trans ?_
  rw [← Equiv.sum_comp (contrEquiv1 dot_S1152x2048_S2048x512_S1152x512_1_0_0_1_n_n 2048 rfl rfl).symm]
  refine Finset.sum_congr rfl fun k _ => ?_
  have hk := contrEquiv1_symm_val dot_S1152x2048_S2048x512_S1152x512_1_0_0_1_n_n 2048 rfl rfl k
  refine congrArg₂ (· * ·) (congrArg u (funext fun a => Fin.ext ?_)) (congrArg v (funext fun a => Fin.ext ?_))
  · match a with
    | ⟨0, _⟩ => exact lhs_hF _ _
    | ⟨1, _⟩ => exact (dot_S1152x2048_S2048x512_S1152x512_1_0_0_1_n_n.lhsIdx_val_of_single rfl _ _).trans hk
  · match a with
    | ⟨0, _⟩ => exact (dot_S1152x2048_S2048x512_S1152x512_1_0_0_1_n_n.rhsIdx_val_of_single rfl _ _).trans hk
    | ⟨1, _⟩ => exact rhs_hF _ _

theorem lhs_hS (i : S384x512.Idx) (q : dot_S384x2048_S2048x512_S384x512_1_0_0_1_n_n.contr.Idx) : (dot_S384x2048_S2048x512_S384x512_1_0_0_1_n_n.lhsIdx i q 0).val = (i 0).val := by
  unfold DotDims.lhsIdx
  rw [dif_neg (show ¬(0 : Fin S384x2048.rank) ∈ dot_S384x2048_S2048x512_S384x512_1_0_0_1_n_n.lhsBatch by decide),
    dif_pos (show (0 : Fin S384x2048.rank) ∈ dot_S384x2048_S2048x512_S384x512_1_0_0_1_n_n.lhsNonContracting by decide)]
  rfl
theorem rhs_hS (i : S384x512.Idx) (q : dot_S384x2048_S2048x512_S384x512_1_0_0_1_n_n.contr.Idx) : (dot_S384x2048_S2048x512_S384x512_1_0_0_1_n_n.rhsIdx i q 1).val = (i 1).val := by
  unfold DotDims.rhsIdx
  rw [dif_neg (show ¬(1 : Fin S2048x512.rank) ∈ dot_S384x2048_S2048x512_S384x512_1_0_0_1_n_n.rhsBatch by decide),
    dif_pos (show (1 : Fin S2048x512.rank) ∈ dot_S384x2048_S2048x512_S384x512_1_0_0_1_n_n.rhsNonContracting by decide)]
  rfl
theorem product_hS (u : FVec Ideal S384x2048 .bf16) (v : FVec Ideal S2048x512 .bf16) (r : Fin 384) (j : Fin 512) :
    matmul dot_S384x2048_S2048x512_S384x512_1_0_0_1_n_n none u v (constant S384x512 .f32 0x00000000#32) (ix2 r j) = ∑ k : Fin 2048, u (ix2 r k) * v (ix2 k j) := by
  refine (Ideal.matmul_constant_zero_apply _ none _ _ _).trans ?_
  rw [← Equiv.sum_comp (contrEquiv1 dot_S384x2048_S2048x512_S384x512_1_0_0_1_n_n 2048 rfl rfl).symm]
  refine Finset.sum_congr rfl fun k _ => ?_
  have hk := contrEquiv1_symm_val dot_S384x2048_S2048x512_S384x512_1_0_0_1_n_n 2048 rfl rfl k
  refine congrArg₂ (· * ·) (congrArg u (funext fun a => Fin.ext ?_)) (congrArg v (funext fun a => Fin.ext ?_))
  · match a with
    | ⟨0, _⟩ => exact lhs_hS _ _
    | ⟨1, _⟩ => exact (dot_S384x2048_S2048x512_S384x512_1_0_0_1_n_n.lhsIdx_val_of_single rfl _ _).trans hk
  · match a with
    | ⟨0, _⟩ => exact (dot_S384x2048_S2048x512_S384x512_1_0_0_1_n_n.rhsIdx_val_of_single rfl _ _).trans hk
    | ⟨1, _⟩ => exact rhs_hS _ _

theorem lhs_oF (i : S1152x256.Idx) (q : dot_S1152x512_S512x256_S1152x256_1_0_0_1_n_n.contr.Idx) : (dot_S1152x512_S512x256_S1152x256_1_0_0_1_n_n.lhsIdx i q 0).val = (i 0).val := by
  unfold DotDims.lhsIdx
  rw [dif_neg (show ¬(0 : Fin S1152x512.rank) ∈ dot_S1152x512_S512x256_S1152x256_1_0_0_1_n_n.lhsBatch by decide),
    dif_pos (show (0 : Fin S1152x512.rank) ∈ dot_S1152x512_S512x256_S1152x256_1_0_0_1_n_n.lhsNonContracting by decide)]
  rfl
theorem rhs_oF (i : S1152x256.Idx) (q : dot_S1152x512_S512x256_S1152x256_1_0_0_1_n_n.contr.Idx) : (dot_S1152x512_S512x256_S1152x256_1_0_0_1_n_n.rhsIdx i q 1).val = (i 1).val := by
  unfold DotDims.rhsIdx
  rw [dif_neg (show ¬(1 : Fin S512x256.rank) ∈ dot_S1152x512_S512x256_S1152x256_1_0_0_1_n_n.rhsBatch by decide),
    dif_pos (show (1 : Fin S512x256.rank) ∈ dot_S1152x512_S512x256_S1152x256_1_0_0_1_n_n.rhsNonContracting by decide)]
  rfl
theorem product_oF (u : FVec Ideal S1152x512 .bf16) (v : FVec Ideal S512x256 .bf16) (r : Fin 1152) (j : Fin 256) :
    matmul dot_S1152x512_S512x256_S1152x256_1_0_0_1_n_n none u v (constant S1152x256 .f32 0x00000000#32) (ix2 r j) = ∑ k : Fin 512, u (ix2 r k) * v (ix2 k j) := by
  refine (Ideal.matmul_constant_zero_apply _ none _ _ _).trans ?_
  rw [← Equiv.sum_comp (contrEquiv1 dot_S1152x512_S512x256_S1152x256_1_0_0_1_n_n 512 rfl rfl).symm]
  refine Finset.sum_congr rfl fun k _ => ?_
  have hk := contrEquiv1_symm_val dot_S1152x512_S512x256_S1152x256_1_0_0_1_n_n 512 rfl rfl k
  refine congrArg₂ (· * ·) (congrArg u (funext fun a => Fin.ext ?_)) (congrArg v (funext fun a => Fin.ext ?_))
  · match a with
    | ⟨0, _⟩ => exact lhs_oF _ _
    | ⟨1, _⟩ => exact (dot_S1152x512_S512x256_S1152x256_1_0_0_1_n_n.lhsIdx_val_of_single rfl _ _).trans hk
  · match a with
    | ⟨0, _⟩ => exact (dot_S1152x512_S512x256_S1152x256_1_0_0_1_n_n.rhsIdx_val_of_single rfl _ _).trans hk
    | ⟨1, _⟩ => exact rhs_oF _ _

theorem lhs_oS (i : S384x256.Idx) (q : dot_S384x512_S512x256_S384x256_1_0_0_1_n_n.contr.Idx) : (dot_S384x512_S512x256_S384x256_1_0_0_1_n_n.lhsIdx i q 0).val = (i 0).val := by
  unfold DotDims.lhsIdx
  rw [dif_neg (show ¬(0 : Fin S384x512.rank) ∈ dot_S384x512_S512x256_S384x256_1_0_0_1_n_n.lhsBatch by decide),
    dif_pos (show (0 : Fin S384x512.rank) ∈ dot_S384x512_S512x256_S384x256_1_0_0_1_n_n.lhsNonContracting by decide)]
  rfl
theorem rhs_oS (i : S384x256.Idx) (q : dot_S384x512_S512x256_S384x256_1_0_0_1_n_n.contr.Idx) : (dot_S384x512_S512x256_S384x256_1_0_0_1_n_n.rhsIdx i q 1).val = (i 1).val := by
  unfold DotDims.rhsIdx
  rw [dif_neg (show ¬(1 : Fin S512x256.rank) ∈ dot_S384x512_S512x256_S384x256_1_0_0_1_n_n.rhsBatch by decide),
    dif_pos (show (1 : Fin S512x256.rank) ∈ dot_S384x512_S512x256_S384x256_1_0_0_1_n_n.rhsNonContracting by decide)]
  rfl
theorem product_oS (u : FVec Ideal S384x512 .bf16) (v : FVec Ideal S512x256 .bf16) (r : Fin 384) (j : Fin 256) :
    matmul dot_S384x512_S512x256_S384x256_1_0_0_1_n_n none u v (constant S384x256 .f32 0x00000000#32) (ix2 r j) = ∑ k : Fin 512, u (ix2 r k) * v (ix2 k j) := by
  refine (Ideal.matmul_constant_zero_apply _ none _ _ _).trans ?_
  rw [← Equiv.sum_comp (contrEquiv1 dot_S384x512_S512x256_S384x256_1_0_0_1_n_n 512 rfl rfl).symm]
  refine Finset.sum_congr rfl fun k _ => ?_
  have hk := contrEquiv1_symm_val dot_S384x512_S512x256_S384x256_1_0_0_1_n_n 512 rfl rfl k
  refine congrArg₂ (· * ·) (congrArg u (funext fun a => Fin.ext ?_)) (congrArg v (funext fun a => Fin.ext ?_))
  · match a with
    | ⟨0, _⟩ => exact lhs_oS _ _
    | ⟨1, _⟩ => exact (dot_S384x512_S512x256_S384x256_1_0_0_1_n_n.lhsIdx_val_of_single rfl _ _).trans hk
  · match a with
    | ⟨0, _⟩ => exact (dot_S384x512_S512x256_S384x256_1_0_0_1_n_n.rhsIdx_val_of_single rfl _ _).trans hk
    | ⟨1, _⟩ => exact rhs_oS _ _

/-! ## Reshapes, slices and broadcasts at an index -/

theorem drop_w {α : Type} (v : S1x2048x512.Idx → α) (r : Fin 2048) (j : Fin 512) :
    shapeCast S2048x512 v shapeCasts_S1x2048x512_S2048x512 (ix2 r j) = v (ix3 0 r j) := by
  refine shapeCast_apply _ _ _ _ ?_
  rw [Shape.rowMajor_val_three, Shape.rowMajor_val_two]
  show (0 * 2048 + r.val) * 512 + j.val = r.val * 512 + j.val
  omega

theorem drop_u {α : Type} (v : S1x2048x256.Idx → α) (r : Fin 2048) (j : Fin 256) :
    shapeCast S2048x256 v shapeCasts_S1x2048x256_S2048x256 (ix2 r j) = v (ix3 0 r j) := by
  refine shapeCast_apply _ _ _ _ ?_
  rw [Shape.rowMajor_val_three, Shape.rowMajor_val_two]
  show (0 * 2048 + r.val) * 256 + j.val = r.val * 256 + j.val
  omega

theorem drop_b {α : Type} (v : S1x1x512.Idx → α) (r : Fin 1) (j : Fin 512) :
    shapeCast S1x512 v shapeCasts_S1x1x512_S1x512 (ix2 r j) = v (ix3 0 r j) := by
  refine shapeCast_apply _ _ _ _ ?_
  rw [Shape.rowMajor_val_three, Shape.rowMajor_val_two]
  show (0 * 1 + r.val) * 512 + j.val = r.val * 512 + j.val
  omega

theorem drop_c {α : Type} (v : S1x1x256.Idx → α) (r : Fin 1) (j : Fin 256) :
    shapeCast S1x256 v shapeCasts_S1x1x256_S1x256 (ix2 r j) = v (ix3 0 r j) := by
  refine shapeCast_apply _ _ _ _ ?_
  rw [Shape.rowMajor_val_three, Shape.rowMajor_val_two]
  show (0 * 1 + r.val) * 256 + j.val = r.val * 256 + j.val
  omega

theorem drop_F {α : Type} (v : S1x1152x512.Idx → α) (r : Fin 1152) (j : Fin 512) :
    shapeCast S1152x512 v shapeCasts_S1x1152x512_S1152x512 (ix2 r j) = v (ix3 0 r j) := by
  refine shapeCast_apply _ _ _ _ ?_
  rw [Shape.rowMajor_val_three, Shape.rowMajor_val_two]
  show (0 * 1152 + r.val) * 512 + j.val = r.val * 512 + j.val
  omega

theorem drop_S {α : Type} (v : S1x384x512.Idx → α) (r : Fin 384) (j : Fin 512) :
    shapeCast S384x512 v shapeCasts_S1x384x512_S384x512 (ix2 r j) = v (ix3 0 r j) := by
  refine shapeCast_apply _ _ _ _ ?_
  rw [Shape.rowMajor_val_three, Shape.rowMajor_val_two]
  show (0 * 384 + r.val) * 512 + j.val = r.val * 512 + j.val
  omega

theorem lift_F {α : Type} (v : S1152x512.Idx → α) (r : Fin 1152) (j : Fin 512) :
    shapeCast S1x1152x512 v shapeCasts_S1152x512_S1x1152x512 (ix3 0 r j) = v (ix2 r j) := by
  refine shapeCast_apply _ _ _ _ ?_
  rw [Shape.rowMajor_val_three, Shape.rowMajor_val_two]
  show r.val * 512 + j.val = (0 * 1152 + r.val) * 512 + j.val
  omega

theorem lift_S {α : Type} (v : S384x512.Idx → α) (r : Fin 384) (j : Fin 512) :
    shapeCast S1x384x512 v shapeCasts_S384x512_S1x384x512 (ix3 0 r j) = v (ix2 r j) := by
  refine shapeCast_apply _ _ _ _ ?_
  rw [Shape.rowMajor_val_three, Shape.rowMajor_val_two]
  show r.val * 512 + j.val = (0 * 384 + r.val) * 512 + j.val
  omega

theorem spread_bF {α : Type} (b : S1x512.Idx → α) (r : Fin 1152) (j : Fin 512) : broadcastTo S1152x512 b broadcasts_S1x512_S1152x512 (ix2 r j) = b (ix2 0 j) :=
  broadcastTo_apply _ _ _ _ (fun a => by match a with | ⟨0, _⟩ => rfl | ⟨1, _⟩ => rfl)

theorem spread_bS {α : Type} (b : S1x512.Idx → α) (r : Fin 384) (j : Fin 512) : broadcastTo S384x512 b broadcasts_S1x512_S384x512 (ix2 r j) = b (ix2 0 j) :=
  broadcastTo_apply _ _ _ _ (fun a => by match a with | ⟨0, _⟩ => rfl | ⟨1, _⟩ => rfl)

theorem spread_cF {α : Type} (b : S1x256.Idx → α) (r : Fin 1152) (j : Fin 256) : broadcastTo S1152x256 b broadcasts_S1x256_S1152x256 (ix2 r j) = b (ix2 0 j) :=
  broadcastTo_apply _ _ _ _ (fun a => by match a with | ⟨0, _⟩ => rfl | ⟨1, _⟩ => rfl)

theorem spread_cS {α : Type} (b : S1x256.Idx → α) (r : Fin 384) (j : Fin 256) : broadcastTo S384x256 b broadcasts_S1x256_S384x256 (ix2 r j) = b (ix2 0 j) :=
  broadcastTo_apply _ _ _ _ (fun a => by match a with | ⟨0, _⟩ => rfl | ⟨1, _⟩ => rfl)

theorem slice_0 {α : Type} (w : S2048x256.Idx → α) (q : Fin 512) (j : Fin 256) :
    extractStridedSlice S512x256 ![0, 0] w slices_S2048x256_o0_0_S512x256 (ix2 q j) = w (ix2 ⟨512 * 0 + q.val, by omega⟩ j) := by
  refine extractStridedSlice_apply _ _ _ _ _ (fun a => ?_)
  match a with
  | ⟨0, _⟩ => rfl
  | ⟨1, _⟩ => show j.val = 0 + j.val; omega

theorem slice_1 {α : Type} (w : S2048x256.Idx → α) (q : Fin 512) (j : Fin 256) :
    extractStridedSlice S512x256 ![512, 0] w slices_S2048x256_o512_0_S512x256 (ix2 q j) = w (ix2 ⟨512 * 1 + q.val, by omega⟩ j) := by
  refine extractStridedSlice_apply _ _ _ _ _ (fun a => ?_)
  match a with
  | ⟨0, _⟩ => rfl
  | ⟨1, _⟩ => show j.val = 0 + j.val; omega

theorem slice_2 {α : Type} (w : S2048x256.Idx → α) (q : Fin 512) (j : Fin 256) :
    extractStridedSlice S512x256 ![1024, 0] w slices_S2048x256_o1024_0_S512x256 (ix2 q j) = w (ix2 ⟨512 * 2 + q.val, by omega⟩ j) := by
  refine extractStridedSlice_apply _ _ _ _ _ (fun a => ?_)
  match a with
  | ⟨0, _⟩ => rfl
  | ⟨1, _⟩ => show j.val = 0 + j.val; omega

theorem slice_3 {α : Type} (w : S2048x256.Idx → α) (q : Fin 512) (j : Fin 256) :
    extractStridedSlice S512x256 ![1536, 0] w slices_S2048x256_o1536_0_S512x256 (ix2 q j) = w (ix2 ⟨512 * 3 + q.val, by omega⟩ j) := by
  refine extractStridedSlice_apply _ _ _ _ _ (fun a => ?_)
  match a with
  | ⟨0, _⟩ => rfl
  | ⟨1, _⟩ => show j.val = 0 + j.val; omega

theorem half0_F (o : FVec Ideal S1152x256 .f32) (r : Fin 1152) (l : Fin 128) : k0_pay36 o (ix2 r l) = o (ix2 r ⟨0 + l.val, by omega⟩) := by
  show extractStridedSlice S1152x128 ![0, 0] o slices_S1152x256_o0_0_S1152x128 (ix2 r l) = _
  refine extractStridedSlice_apply _ _ _ _ _ (fun a => ?_)
  match a with
  | ⟨0, _⟩ => show r.val = 0 + r.val; omega
  | ⟨1, _⟩ => rfl

theorem half1_F (o : FVec Ideal S1152x256 .f32) (r : Fin 1152) (l : Fin 128) : k0_pay7 o (ix2 r l) = o (ix2 r ⟨128 + l.val, by omega⟩) := by
  show extractStridedSlice S1152x128 ![0, 128] o slices_S1152x256_o0_128_S1152x128 (ix2 r l) = _
  refine extractStridedSlice_apply _ _ _ _ _ (fun a => ?_)
  match a with
  | ⟨0, _⟩ => show r.val = 0 + r.val; omega
  | ⟨1, _⟩ => rfl

theorem half0_S (o : FVec Ideal S384x256 .f32) (r : Fin 384) (l : Fin 128) : k0_pay42 o (ix2 r l) = o (ix2 r ⟨0 + l.val, by omega⟩) := by
  show extractStridedSlice S384x128 ![0, 0] o slices_S384x256_o0_0_S384x128 (ix2 r l) = _
  refine extractStridedSlice_apply _ _ _ _ _ (fun a => ?_)
  match a with
  | ⟨0, _⟩ => show r.val = 0 + r.val; omega
  | ⟨1, _⟩ => rfl

theorem half1_S (o : FVec Ideal S384x256 .f32) (r : Fin 384) (l : Fin 128) : k0_pay44 o (ix2 r l) = o (ix2 r ⟨128 + l.val, by omega⟩) := by
  show extractStridedSlice S384x128 ![0, 128] o slices_S384x256_o0_128_S384x128 (ix2 r l) = _
  refine extractStridedSlice_apply _ _ _ _ _ (fun a => ?_)
  match a with
  | ⟨0, _⟩ => show r.val = 0 + r.val; omega
  | ⟨1, _⟩ => rfl

theorem zero_lo (i : S384x128.Idx) : (k0_pay14 : FVec Ideal S384x128 .f32) i = (0 : EReal) := Ideal.ofBits_zero_f32
theorem zero_hi (i : S384x128.Idx) : (k0_pay16 : FVec Ideal S384x128 .f32) i = (0 : EReal) := Ideal.ofBits_zero_f32

/-! ## The tiles -/

/-- A tile of gates or of linear parts before the nonlinearity. -/
def preF (w : Vec Ideal S1x2048x512 .f32) (x : Vec Ideal S1152x2048 .bf16) (b : Vec Ideal S1x1x512 .f32) : FVec Ideal S1152x512 .f32 :=
  addf (matmul (φ₁ := .bf16) (φ₂ := .bf16) dot_S1152x2048_S2048x512_S1152x512_1_0_0_1_n_n none x (truncf .bf16 (shapeCast S2048x512 w shapeCasts_S1x2048x512_S2048x512) bitsLt_bf16_f32) (constant S1152x512 .f32 0x00000000#32))
    (broadcastTo S1152x512 (shapeCast S1x512 b shapeCasts_S1x1x512_S1x512) broadcasts_S1x512_S1152x512)

theorem preF_at (w : Vec Ideal S1x2048x512 .f32) (x : Vec Ideal S1152x2048 .bf16) (b : Vec Ideal S1x1x512 .f32) (r : Fin 1152) (q : Fin 512) :
    preF w x b (ix2 r q) = (∑ k : Fin 2048, x (ix2 r k) * w (ix3 0 k q)) + b (ix3 0 0 q) := by
  refine congrArg₂ (· + ·) ((product_hF _ _ r q).trans (Finset.sum_congr rfl fun k _ => congrArg (x (ix2 r k) * ·) (drop_w w k q))) ((spread_bF _ r q).trans (drop_b b 0 q))

theorem hiddenF_at (wg wl : Vec Ideal S1x2048x512 .f32) (x : Vec Ideal S1152x2048 .bf16) (bg bl : Vec Ideal S1x1x512 .f32) (r : Fin 1152) (q : Fin 512) :
    k0_pay1 (k0_pay32 wg wl x bg bl) (ix3 0 r q)
      = hidden (fun k => x (ix2 r k)) (fun k => wg (ix3 0 k q)) (fun k => wl (ix3 0 k q)) (bg (ix3 0 0 q)) (bl (ix3 0 0 q)) := by
  have hp : ∀ (g l : EReal), min g (lit 0x40E00000#32) * Ideal.div (lit 0x3F800000#32) (lit 0x3F800000#32 + Ideal.exp (lit 0x00000000#32 - lit 0x3FD9DB23#32 * min g (lit 0x40E00000#32)))
      * (min (lit 0x40E00000#32) (max (lit 0xC0E00000#32) l) + lit 0x3F800000#32) = act g l := fun g l => by
    unfold act
    rw [show lit 0x00000000#32 = (0 : EReal) from Ideal.ofBits_zero_f32, zero_sub]
  have he : k0_pay1 (k0_pay32 wg wl x bg bl) (ix3 0 r q)
      = shapeCast S1x1152x512 (fun z : S1152x512.Idx => min (preF wg x bg z) (lit 0x40E00000#32) * Ideal.div (lit 0x3F800000#32) (lit 0x3F800000#32 + Ideal.exp (lit 0x00000000#32 - lit 0x3FD9DB23#32 * min (preF wg x bg z) (lit 0x40E00000#32)))
        * (min (lit 0x40E00000#32) (max (lit 0xC0E00000#32) (preF wl x bl z)) + lit 0x3F800000#32)) shapeCasts_S1152x512_S1x1152x512 (ix3 0 r q) := rfl
  refine he.trans ((lift_F _ r q).trans ?_)
  refine (hp (preF wg x bg (ix2 r q)) (preF wl x bl (ix2 r q))).trans ?_
  unfold hidden
  rw [preF_at, preF_at]

/-- A tile of gates or of linear parts before the nonlinearity. -/
def preS (w : Vec Ideal S1x2048x512 .f32) (x : Vec Ideal S384x2048 .bf16) (b : Vec Ideal S1x1x512 .f32) : FVec Ideal S384x512 .f32 :=
  addf (matmul (φ₁ := .bf16) (φ₂ := .bf16) dot_S384x2048_S2048x512_S384x512_1_0_0_1_n_n none x (truncf .bf16 (shapeCast S2048x512 w shapeCasts_S1x2048x512_S2048x512) bitsLt_bf16_f32) (constant S384x512 .f32 0x00000000#32))
    (broadcastTo S384x512 (shapeCast S1x512 b shapeCasts_S1x1x512_S1x512) broadcasts_S1x512_S384x512)

theorem preS_at (w : Vec Ideal S1x2048x512 .f32) (x : Vec Ideal S384x2048 .bf16) (b : Vec Ideal S1x1x512 .f32) (r : Fin 384) (q : Fin 512) :
    preS w x b (ix2 r q) = (∑ k : Fin 2048, x (ix2 r k) * w (ix3 0 k q)) + b (ix3 0 0 q) := by
  refine congrArg₂ (· + ·) ((product_hS _ _ r q).trans (Finset.sum_congr rfl fun k _ => congrArg (x (ix2 r k) * ·) (drop_w w k q))) ((spread_bS _ r q).trans (drop_b b 0 q))

theorem hiddenS_at (wg wl : Vec Ideal S1x2048x512 .f32) (x : Vec Ideal S384x2048 .bf16) (bg bl : Vec Ideal S1x1x512 .f32) (r : Fin 384) (q : Fin 512) :
    k0_pay4 wg wl x bg bl (ix3 0 r q)
      = hidden (fun k => x (ix2 r k)) (fun k => wg (ix3 0 k q)) (fun k => wl (ix3 0 k q)) (bg (ix3 0 0 q)) (bl (ix3 0 0 q)) := by
  have hp : ∀ (g l : EReal), min g (lit 0x40E00000#32) * Ideal.div (lit 0x3F800000#32) (lit 0x3F800000#32 + Ideal.exp (lit 0x00000000#32 - lit 0x3FD9DB23#32 * min g (lit 0x40E00000#32)))
      * (min (lit 0x40E00000#32) (max (lit 0xC0E00000#32) l) + lit 0x3F800000#32) = act g l := fun g l => by
    unfold act
    rw [show lit 0x00000000#32 = (0 : EReal) from Ideal.ofBits_zero_f32, zero_sub]
  have he : k0_pay4 wg wl x bg bl (ix3 0 r q)
      = shapeCast S1x384x512 (fun z : S384x512.Idx => min (preS wg x bg z) (lit 0x40E00000#32) * Ideal.div (lit 0x3F800000#32) (lit 0x3F800000#32 + Ideal.exp (lit 0x00000000#32 - lit 0x3FD9DB23#32 * min (preS wg x bg z) (lit 0x40E00000#32)))
        * (min (lit 0x40E00000#32) (max (lit 0xC0E00000#32) (preS wl x bl z)) + lit 0x3F800000#32)) shapeCasts_S384x512_S1x384x512 (ix3 0 r q) := rfl
  refine he.trans ((lift_S _ r q).trans ?_)
  refine (hp (preS wg x bg (ix2 r q)) (preS wl x bl (ix2 r q))).trans ?_
  unfold hidden
  rw [preS_at, preS_at]

theorem partF_at (w : Vec Ideal S1x2048x256 .f32) (p0 p1 p2 p3 : Vec Ideal S1x1152x512 .bf16) (b : Vec Ideal S1x1x256 .f32)
    (h : Fin 2048 → EReal) (r : Fin 1152) (j : Fin 256)
    (h0 : ∀ q : Fin 512, p0 (ix3 0 r q) = h ⟨512 * 0 + q.val, by omega⟩) (h1 : ∀ q : Fin 512, p1 (ix3 0 r q) = h ⟨512 * 1 + q.val, by omega⟩)
    (h2 : ∀ q : Fin 512, p2 (ix3 0 r q) = h ⟨512 * 2 + q.val, by omega⟩) (h3 : ∀ q : Fin 512, p3 (ix3 0 r q) = h ⟨512 * 3 + q.val, by omega⟩) :
    k0_pay34 w p0 p1 p2 p3 b (ix2 r j) = outOf h (fun f => w (ix3 0 f j)) (b (ix3 0 0 j)) := by
  have hp : k0_pay34 w p0 p1 p2 p3 b (ix2 r j)
      = (((matmul dot_S1152x512_S512x256_S1152x256_1_0_0_1_n_n none (shapeCast S1152x512 p0 shapeCasts_S1x1152x512_S1152x512) (extractStridedSlice S512x256 ![0, 0] (truncf .bf16 (shapeCast S2048x256 w shapeCasts_S1x2048x256_S2048x256) bitsLt_bf16_f32) slices_S2048x256_o0_0_S512x256) (constant S1152x256 .f32 0x00000000#32) (ix2 r j)
        + matmul dot_S1152x512_S512x256_S1152x256_1_0_0_1_n_n none (shapeCast S1152x512 p1 shapeCasts_S1x1152x512_S1152x512) (extractStridedSlice S512x256 ![512, 0] (truncf .bf16 (shapeCast S2048x256 w shapeCasts_S1x2048x256_S2048x256) bitsLt_bf16_f32) slices_S2048x256_o512_0_S512x256) (constant S1152x256 .f32 0x00000000#32) (ix2 r j))
        + matmul dot_S1152x512_S512x256_S1152x256_1_0_0_1_n_n none (shapeCast S1152x512 p2 shapeCasts_S1x1152x512_S1152x512) (extractStridedSlice S512x256 ![1024, 0] (truncf .bf16 (shapeCast S2048x256 w shapeCasts_S1x2048x256_S2048x256) bitsLt_bf16_f32) slices_S2048x256_o1024_0_S512x256) (constant S1152x256 .f32 0x00000000#32) (ix2 r j))
        + matmul dot_S1152x512_S512x256_S1152x256_1_0_0_1_n_n none (shapeCast S1152x512 p3 shapeCasts_S1x1152x512_S1152x512) (extractStridedSlice S512x256 ![1536, 0] (truncf .bf16 (shapeCast S2048x256 w shapeCasts_S1x2048x256_S2048x256) bitsLt_bf16_f32) slices_S2048x256_o1536_0_S512x256) (constant S1152x256 .f32 0x00000000#32) (ix2 r j))
        + broadcastTo S1152x256 (shapeCast S1x256 b shapeCasts_S1x1x256_S1x256) broadcasts_S1x256_S1152x256 (ix2 r j) := rfl
  rw [hp, product_oF, product_oF, product_oF, product_oF, spread_cF, drop_c]
  unfold outOf
  refine congrArg (· + _) (Eq.trans ?_ (sum_planes fun f => h f * w (ix3 0 f j)))
  have hw : ∀ f, (truncf .bf16 (shapeCast S2048x256 w shapeCasts_S1x2048x256_S2048x256) bitsLt_bf16_f32 : FVec Ideal S2048x256 .bf16) (ix2 f j) = w (ix3 0 f j) := fun f => drop_u w f j
  refine congrArg₂ (· + ·) (congrArg₂ (· + ·) (congrArg₂ (· + ·) ?_ ?_) ?_) ?_
  · refine Finset.sum_congr rfl fun q _ => ?_
    rw [drop_F, h0, slice_0, hw]
  · refine Finset.sum_congr rfl fun q _ => ?_
    rw [drop_F, h1, slice_1, hw]
  · refine Finset.sum_congr rfl fun q _ => ?_
    rw [drop_F, h2, slice_2, hw]
  · refine Finset.sum_congr rfl fun q _ => ?_
    rw [drop_F, h3, slice_3, hw]

theorem partS_at (w : Vec Ideal S1x2048x256 .f32) (p0 p1 p2 p3 : Vec Ideal S1x384x512 .bf16) (b : Vec Ideal S1x1x256 .f32)
    (h : Fin 2048 → EReal) (r : Fin 384) (j : Fin 256)
    (h0 : ∀ q : Fin 512, p0 (ix3 0 r q) = h ⟨512 * 0 + q.val, by omega⟩) (h1 : ∀ q : Fin 512, p1 (ix3 0 r q) = h ⟨512 * 1 + q.val, by omega⟩)
    (h2 : ∀ q : Fin 512, p2 (ix3 0 r q) = h ⟨512 * 2 + q.val, by omega⟩) (h3 : ∀ q : Fin 512, p3 (ix3 0 r q) = h ⟨512 * 3 + q.val, by omega⟩) :
    k0_pay38 (k0_pay9 w) p0 p1 p2 p3 b (ix2 r j) = outOf h (fun f => w (ix3 0 f j)) (b (ix3 0 0 j)) := by
  have hp : k0_pay38 (k0_pay9 w) p0 p1 p2 p3 b (ix2 r j)
      = (((matmul dot_S384x512_S512x256_S384x256_1_0_0_1_n_n none (shapeCast S384x512 p0 shapeCasts_S1x384x512_S384x512) (extractStridedSlice S512x256 ![0, 0] (truncf .bf16 (shapeCast S2048x256 w shapeCasts_S1x2048x256_S2048x256) bitsLt_bf16_f32) slices_S2048x256_o0_0_S512x256) (constant S384x256 .f32 0x00000000#32) (ix2 r j)
        + matmul dot_S384x512_S512x256_S384x256_1_0_0_1_n_n none (shapeCast S384x512 p1 shapeCasts_S1x384x512_S384x512) (extractStridedSlice S512x256 ![512, 0] (truncf .bf16 (shapeCast S2048x256 w shapeCasts_S1x2048x256_S2048x256) bitsLt_bf16_f32) slices_S2048x256_o512_0_S512x256) (constant S384x256 .f32 0x00000000#32) (ix2 r j))
        + matmul dot_S384x512_S512x256_S384x256_1_0_0_1_n_n none (shapeCast S384x512 p2 shapeCasts_S1x384x512_S384x512) (extractStridedSlice S512x256 ![1024, 0] (truncf .bf16 (shapeCast S2048x256 w shapeCasts_S1x2048x256_S2048x256) bitsLt_bf16_f32) slices_S2048x256_o1024_0_S512x256) (constant S384x256 .f32 0x00000000#32) (ix2 r j))
        + matmul dot_S384x512_S512x256_S384x256_1_0_0_1_n_n none (shapeCast S384x512 p3 shapeCasts_S1x384x512_S384x512) (extractStridedSlice S512x256 ![1536, 0] (truncf .bf16 (shapeCast S2048x256 w shapeCasts_S1x2048x256_S2048x256) bitsLt_bf16_f32) slices_S2048x256_o1536_0_S512x256) (constant S384x256 .f32 0x00000000#32) (ix2 r j))
        + broadcastTo S384x256 (shapeCast S1x256 b shapeCasts_S1x1x256_S1x256) broadcasts_S1x256_S384x256 (ix2 r j) := rfl
  rw [hp, product_oS, product_oS, product_oS, product_oS, spread_cS, drop_c]
  unfold outOf
  refine congrArg (· + _) (Eq.trans ?_ (sum_planes fun f => h f * w (ix3 0 f j)))
  have hw : ∀ f, (truncf .bf16 (shapeCast S2048x256 w shapeCasts_S1x2048x256_S2048x256) bitsLt_bf16_f32 : FVec Ideal S2048x256 .bf16) (ix2 f j) = w (ix3 0 f j) := fun f => drop_u w f j
  refine congrArg₂ (· + ·) (congrArg₂ (· + ·) (congrArg₂ (· + ·) ?_ ?_) ?_) ?_
  · refine Finset.sum_congr rfl fun q _ => ?_
    rw [drop_S, h0, slice_0, hw]
  · refine Finset.sum_congr rfl fun q _ => ?_
    rw [drop_S, h1, slice_1, hw]
  · refine Finset.sum_congr rfl fun q _ => ?_
    rw [drop_S, h2, slice_2, hw]
  · refine Finset.sum_congr rfl fun q _ => ?_
    rw [drop_S, h3, slice_3, hw]

end Cert.Kernel4Ideal.Ffn

end
-- ==== Proof.FfnStep.lean ====
/- What a point of the experts' kernel leaves in the scratch buffer and in an output plane, at an index. -/
module

public import proofs.«01_k».proof.Proof.FfnTile

@[expose] public section

noncomputable section

namespace Cert.Kernel4Ideal.Ffn

open Cert.Kernel4Ideal.Gen
open Cert.FfnWords (step)
open Idealize.ShloMosaic Idealize.ShloMosaic.TcCoe Idealize.ShloMosaic.ValueIdx

/-! ## Reads of the scratch buffer and of the tokens -/

theorem planeF_at (d : Vec Ideal S4x1152x512 .bf16) (p : Nat) (hp : p < 4) (r : Fin 1152) (q : Fin 512) :
    planeF d p hp (ix3 0 r q) = d (ix3 ⟨p, hp⟩ r q) := by
  refine congrArg d (funext fun a => Fin.ext ?_)
  match a with
  | ⟨0, _⟩ => show p + 1 * 0 = p; omega
  | ⟨1, _⟩ => show 0 + 1 * r.val = r.val; omega
  | ⟨2, _⟩ => show 0 + 1 * q.val = q.val; omega
theorem planeS_at (d : Vec Ideal S4x1152x512 .bf16) (s : Nat) (hs : s ∈ [0, 384, 768]) (p : Nat) (hp : p < 4) (r : Fin 1152)
    (h0 : s ≤ r.val) (h1 : r.val < s + 384) (q : Fin 512) : planeS d s hs p hp (ix3 0 ⟨r.val - s, by omega⟩ q) = d (ix3 ⟨p, hp⟩ r q) := by
  refine congrArg d (funext fun a => Fin.ext ?_)
  match a with
  | ⟨0, _⟩ => show p + 1 * 0 = p; omega
  | ⟨1, _⟩ => show s + 1 * (r.val - s) = r.val; omega
  | ⟨2, _⟩ => show 0 + 1 * q.val = q.val; omega
theorem rowsS_at (x : Vec Ideal S1152x2048 .bf16) (s : Nat) (hs : s ∈ [0, 384, 768]) (r : Fin 1152) (h0 : s ≤ r.val) (h1 : r.val < s + 384)
    (k : Fin 2048) : rowsS x s hs (ix2 ⟨r.val - s, by omega⟩ k) = x (ix2 r k) := by
  refine congrArg x (funext fun a => Fin.ext ?_)
  match a with
  | ⟨0, _⟩ => show s + 1 * (r.val - s) = r.val; omega
  | ⟨1, _⟩ => show 0 + 1 * k.val = k.val; omega

/-! ## Writes of a hidden plane -/

theorem hit384 (d : Vec Ideal S4x1152x512 .bf16) (off : Fin 3 → Nat) (inb) (w : FVec Ideal S1x384x512 .bf16) (L : List (View.Piece (Elt Ideal) S4x1152x512 .bf16))
    (p : Fin 4) (s : Nat) (e : off = ![p.val, s, 0]) (r : Fin 1152) (q : Fin 512) (h0 : s ≤ r.val) (h1 : r.val < s + 384) :
    over d ((⟨Rect.unit (s := S4x1152x512) off S1x384x512.size inb, w⟩ : View.Piece (Elt Ideal) S4x1152x512 .bf16) :: L) (ix3 p r q)
      = w (ix3 0 ⟨r.val - s, by omega⟩ q) := by
  have e0 : off 0 = p.val := congrFun e 0
  have e1 : off 1 = s := congrFun e 1
  have e2 : off 2 = 0 := congrFun e 2
  refine over_hit d (Rect.unit (s := S4x1152x512) off S1x384x512.size inb) w L (ix3 0 ⟨r.val - s, by omega⟩ q) _ (funext fun a => Fin.ext ?_)
  match a with
  | ⟨0, _⟩ => show off 0 + 1 * 0 = p.val; omega
  | ⟨1, _⟩ => show off 1 + 1 * (r.val - s) = r.val; omega
  | ⟨2, _⟩ => show off 2 + 1 * q.val = q.val; omega
theorem miss384 (d : Vec Ideal S4x1152x512 .bf16) (off : Fin 3 → Nat) (inb) (w : FVec Ideal S1x384x512 .bf16) (L : List (View.Piece (Elt Ideal) S4x1152x512 .bf16))
    (p : Fin 4) (k s : Nat) (e : off = ![k, s, 0]) (r : Fin 1152) (q : Fin 512) (h : p.val ≠ k ∨ r.val < s ∨ s + 384 ≤ r.val) :
    over d ((⟨Rect.unit (s := S4x1152x512) off S1x384x512.size inb, w⟩ : View.Piece (Elt Ideal) S4x1152x512 .bf16) :: L) (ix3 p r q)
      = over d L (ix3 p r q) := by
  have e0 : off 0 = k := congrFun e 0
  have e1 : off 1 = s := congrFun e 1
  refine over_miss d (Rect.unit (s := S4x1152x512) off S1x384x512.size inb) w L _ fun x hx => ?_
  have h0 := congrArg Fin.val (congrFun hx 0)
  have h1 := congrArg Fin.val (congrFun hx 1)
  have b0 : (x 0).val < 1 := (x 0).isLt
  have b1 : (x 1).val < 384 := (x 1).isLt
  change off 0 + 1 * (x 0).val = p.val at h0
  change off 1 + 1 * (x 1).val = r.val at h1
  omega

theorem hit1152 (d : Vec Ideal S4x1152x512 .bf16) (off : Fin 3 → Nat) (inb) (w : FVec Ideal S1x1152x512 .bf16) (L : List (View.Piece (Elt Ideal) S4x1152x512 .bf16))
    (p : Fin 4) (s : Nat) (e : off = ![p.val, s, 0]) (r : Fin 1152) (q : Fin 512) (h0 : s ≤ r.val) (h1 : r.val < s + 1152) :
    over d ((⟨Rect.unit (s := S4x1152x512) off S1x1152x512.size inb, w⟩ : View.Piece (Elt Ideal) S4x1152x512 .bf16) :: L) (ix3 p r q)
      = w (ix3 0 ⟨r.val - s, by omega⟩ q) := by
  have e0 : off 0 = p.val := congrFun e 0
  have e1 : off 1 = s := congrFun e 1
  have e2 : off 2 = 0 := congrFun e 2
  refine over_hit d (Rect.unit (s := S4x1152x512) off S1x1152x512.size inb) w L (ix3 0 ⟨r.val - s, by omega⟩ q) _ (funext fun a => Fin.ext ?_)
  match a with
  | ⟨0, _⟩ => show off 0 + 1 * 0 = p.val; omega
  | ⟨1, _⟩ => show off 1 + 1 * (r.val - s) = r.val; omega
  | ⟨2, _⟩ => show off 2 + 1 * q.val = q.val; omega
theorem miss1152 (d : Vec Ideal S4x1152x512 .bf16) (off : Fin 3 → Nat) (inb) (w : FVec Ideal S1x1152x512 .bf16) (L : List (View.Piece (Elt Ideal) S4x1152x512 .bf16))
    (p : Fin 4) (k s : Nat) (e : off = ![k, s, 0]) (r : Fin 1152) (q : Fin 512) (h : p.val ≠ k ∨ r.val < s ∨ s + 1152 ≤ r.val) :
    over d ((⟨Rect.unit (s := S4x1152x512) off S1x1152x512.size inb, w⟩ : View.Piece (Elt Ideal) S4x1152x512 .bf16) :: L) (ix3 p r q)
      = over d L (ix3 p r q) := by
  have e0 : off 0 = k := congrFun e 0
  have e1 : off 1 = s := congrFun e 1
  refine over_miss d (Rect.unit (s := S4x1152x512) off S1x1152x512.size inb) w L _ fun x hx => ?_
  have h0 := congrArg Fin.val (congrFun hx 0)
  have h1 := congrArg Fin.val (congrFun hx 1)
  have b0 : (x 0).val < 1 := (x 0).isLt
  have b1 : (x 1).val < 1152 := (x 1).isLt
  change off 0 + 1 * (x 0).val = p.val at h0
  change off 1 + 1 * (x 1).val = r.val at h1
  omega

/-- The hidden activation a point computes for a row. -/
def hidOf (X : Ins Ideal) (r : Fin 1152) (q : Fin 512) : EReal :=
  hidden (fun k => X.x (ix2 r k)) (fun k => X.wg (ix3 0 k q)) (fun k => X.wl (ix3 0 k q)) (X.bg (ix3 0 0 q)) (X.bl (ix3 0 0 q))

theorem hS_at (X : Ins Ideal) (s : Nat) (hs : s ∈ [0, 384, 768]) (r : Fin 1152) (q : Fin 512) (h0 : s ≤ r.val) (h1 : r.val < s + 384) :
    hS X s hs (ix3 0 ⟨r.val - s, by omega⟩ q) = hidOf X r q := by
  refine (hiddenS_at _ _ _ _ _ _ q).trans ?_
  unfold hidOf
  exact congrArg (fun x => hidden x _ _ _ _) (funext fun k => rowsS_at X.x s hs r h0 h1 k)

theorem step_le (v : BitVec 32) (r : Fin 1152) (h : ((384 * (r.val / 384) : Nat) : Int) < v.toInt) : ¬ v.toInt ≤ 0 := by omega

theorem hidStep_hit (i : grid0.Coords) (hj : step i < 4) (v : BitVec 32) (X : Ins Ideal) (d : Vec Ideal S4x1152x512 .bf16) (p : Fin 4)
    (hp : p.val = step i) (r : Fin 1152) (q : Fin 512) (hv : ((384 * (r.val / 384) : Nat) : Int) < v.toInt) :
    hidStep i v X d (ix3 p r q) = hidOf X r q := by
  have e4 : k0_off4 i = ![p.val, 0, 0] := by rw [hp]; exact FfnWords.off4_eq i
  have e5 : k0_off5 i = ![p.val, 384, 0] := by rw [hp]; exact FfnWords.off5_eq i
  have e6 : k0_off6 i = ![p.val, 768, 0] := by rw [hp]; exact FfnWords.off6_eq i
  have hr := r.isLt
  unfold hidStep
  rw [dif_pos hj]
  by_cases hf : v = 1152#32
  · rw [if_pos hf]
    refine (hit1152 d _ _ _ _ p 0 e4 r q (by omega) (by omega)).trans ?_
    exact hiddenF_at _ _ _ _ _ _ q
  rw [if_neg hf, if_neg (step_le v r hv)]
  by_cases c1 : v.toInt ≤ 384
  · rw [if_pos c1]
    exact (hit384 d _ _ _ _ p 0 e4 r q (by omega) (by omega)).trans (hS_at X 0 (by decide) r q (by omega) (by omega))
  rw [if_neg c1]
  by_cases c2 : v.toInt ≤ 768
  · rw [if_pos c2]
    by_cases g1 : r.val < 384
    · refine (miss384 d _ _ _ _ p _ 384 e5 r q (by omega)).trans ?_
      exact (hit384 d _ _ _ _ p 0 e4 r q (by omega) (by omega)).trans (hS_at X 0 (by decide) r q (by omega) (by omega))
    exact (hit384 d _ _ _ _ p 384 e5 r q (by omega) (by omega)).trans (hS_at X 384 (by decide) r q (by omega) (by omega))
  rw [if_neg c2]
  by_cases g2 : r.val < 768
  · refine (miss384 d _ _ _ _ p _ 768 e6 r q (by omega)).trans ?_
    by_cases g1 : r.val < 384
    · refine (miss384 d _ _ _ _ p _ 384 e5 r q (by omega)).trans ?_
      exact (hit384 d _ _ _ _ p 0 e4 r q (by omega) (by omega)).trans (hS_at X 0 (by decide) r q (by omega) (by omega))
    exact (hit384 d _ _ _ _ p 384 e5 r q (by omega) (by omega)).trans (hS_at X 384 (by decide) r q (by omega) (by omega))
  exact (hit384 d _ _ _ _ p 768 e6 r q (by omega) (by omega)).trans (hS_at X 768 (by decide) r q (by omega) (by omega))

/-- The other planes stay. -/
theorem hidStep_miss (i : grid0.Coords) (v : BitVec 32) (X : Ins Ideal) (d : Vec Ideal S4x1152x512 .bf16) (p : Fin 4)
    (hp : p.val ≠ step i) (r : Fin 1152) (q : Fin 512) : hidStep i v X d (ix3 p r q) = d (ix3 p r q) := by
  have e4 : k0_off4 i = ![step i, 0, 0] := FfnWords.off4_eq i
  have e5 : k0_off5 i = ![step i, 384, 0] := FfnWords.off5_eq i
  have e6 : k0_off6 i = ![step i, 768, 0] := FfnWords.off6_eq i
  unfold hidStep
  by_cases hj : step i < 4
  · rw [dif_pos hj]
    by_cases hf : v = 1152#32
    · rw [if_pos hf]
      exact miss1152 d _ _ _ _ p _ 0 e4 r q (.inl hp)
    rw [if_neg hf]
    by_cases c0 : v.toInt ≤ 0
    · rw [if_pos c0]
    rw [if_neg c0]
    by_cases c1 : v.toInt ≤ 384
    · rw [if_pos c1]
      exact miss384 d _ _ _ _ p _ 0 e4 r q (.inl hp)
    rw [if_neg c1]
    by_cases c2 : v.toInt ≤ 768
    · rw [if_pos c2]
      exact (miss384 d _ _ _ _ p _ 384 e5 r q (.inl hp)).trans (miss384 d _ _ _ _ p _ 0 e4 r q (.inl hp))
    rw [if_neg c2]
    exact (miss384 d _ _ _ _ p _ 768 e6 r q (.inl hp)).trans
      ((miss384 d _ _ _ _ p _ 384 e5 r q (.inl hp)).trans (miss384 d _ _ _ _ p _ 0 e4 r q (.inl hp)))
  · rw [dif_neg hj]

/-! ## Writes of an output plane -/

/-- Where a chunk of a row lies in an output plane. -/
abbrev at8 (row : Fin 1152) (ch : Fin 8) (l : Fin 128) : S9216x128.Idx := ix2 ⟨8 * row.val + ch.val, by omega⟩ l

theorem strip384_hit (y : Vec Ideal S9216x128 .f32) (o : Fin 2 → Nat) (inb) (w : FVec Ideal S384x128 .f32) (L : List (View.Piece (Elt Ideal) S9216x128 .f32))
    (s : Nat) (ch : Fin 8) (e : o = ![8 * s + ch.val, 0]) (row : Fin 1152) (l : Fin 128) (h0 : s ≤ row.val) (h1 : row.val < s + 384) :
    over y ((⟨⟨⟨o, S384x128.size, ![8, 1], inb⟩, spos_8_1⟩, w⟩ : View.Piece (Elt Ideal) S9216x128 .f32) :: L) (at8 row ch l) = w (ix2 ⟨row.val - s, by omega⟩ l) := by
  have e0 : o 0 = 8 * s + ch.val := congrFun e 0
  have e1 : o 1 = 0 := congrFun e 1
  refine over_hit y (⟨⟨o, S384x128.size, ![8, 1], inb⟩, spos_8_1⟩ : Rect S9216x128) w L (ix2 ⟨row.val - s, by omega⟩ l) _ (funext fun a => Fin.ext ?_)
  match a with
  | ⟨0, _⟩ => show o 0 + 8 * (row.val - s) = 8 * row.val + ch.val; omega
  | ⟨1, _⟩ => show o 1 + 1 * l.val = l.val; omega
theorem strip384_miss (y : Vec Ideal S9216x128 .f32) (o : Fin 2 → Nat) (inb) (w : FVec Ideal S384x128 .f32) (L : List (View.Piece (Elt Ideal) S9216x128 .f32))
    (s k : Nat) (hk : k < 8) (ch : Fin 8) (e : o = ![8 * s + k, 0]) (row : Fin 1152) (l : Fin 128) (h : ch.val ≠ k ∨ row.val < s ∨ s + 384 ≤ row.val) :
    over y ((⟨⟨⟨o, S384x128.size, ![8, 1], inb⟩, spos_8_1⟩, w⟩ : View.Piece (Elt Ideal) S9216x128 .f32) :: L) (at8 row ch l) = over y L (at8 row ch l) := by
  have e0 : o 0 = 8 * s + k := congrFun e 0
  refine over_miss y (⟨⟨o, S384x128.size, ![8, 1], inb⟩, spos_8_1⟩ : Rect S9216x128) w L _ fun x hx => ?_
  have h0 := congrArg Fin.val (congrFun hx 0)
  have b0 : (x 0).val < 384 := (x 0).isLt
  change o 0 + 8 * (x 0).val = 8 * row.val + ch.val at h0
  have hc := ch.isLt
  omega
theorem pair384_hit (y : Vec Ideal S9216x128 .f32) (o1 o0 : Fin 2 → Nat) (in1) (in0) (b a : FVec Ideal S384x128 .f32) (L : List (View.Piece (Elt Ideal) S9216x128 .f32))
    (s t : Nat) (ht : t < 4) (ch : Fin 8) (e1 : o1 = ![8 * s + (2 * t + 1), 0]) (e0 : o0 = ![8 * s + 2 * t, 0]) (row : Fin 1152) (l : Fin 128)
    (hc : ch.val / 2 = t) (h0 : s ≤ row.val) (h1 : row.val < s + 384) :
    over y ((⟨⟨⟨o1, S384x128.size, ![8, 1], in1⟩, spos_8_1⟩, b⟩ : View.Piece (Elt Ideal) S9216x128 .f32) :: (⟨⟨⟨o0, S384x128.size, ![8, 1], in0⟩, spos_8_1⟩, a⟩ : View.Piece (Elt Ideal) S9216x128 .f32) :: L) (at8 row ch l) = (if ch.val % 2 = 1 then b else a) (ix2 ⟨row.val - s, by omega⟩ l) := by
  by_cases hm : ch.val % 2 = 1
  · rw [if_pos hm]
    exact strip384_hit y o1 in1 b _ s ch (by rw [e1, show 2 * t + 1 = ch.val by omega]) row l h0 h1
  · rw [if_neg hm]
    refine (strip384_miss y o1 in1 b _ s _ (by omega) ch e1 row l (.inl (by omega))).trans ?_
    exact strip384_hit y o0 in0 a _ s ch (by rw [e0, show 2 * t = ch.val by omega]) row l h0 h1
theorem pair384_miss (y : Vec Ideal S9216x128 .f32) (o1 o0 : Fin 2 → Nat) (in1) (in0) (b a : FVec Ideal S384x128 .f32) (L : List (View.Piece (Elt Ideal) S9216x128 .f32))
    (s t : Nat) (ht : t < 4) (ch : Fin 8) (e1 : o1 = ![8 * s + (2 * t + 1), 0]) (e0 : o0 = ![8 * s + 2 * t, 0]) (row : Fin 1152) (l : Fin 128)
    (h : ch.val / 2 ≠ t ∨ row.val < s ∨ s + 384 ≤ row.val) :
    over y ((⟨⟨⟨o1, S384x128.size, ![8, 1], in1⟩, spos_8_1⟩, b⟩ : View.Piece (Elt Ideal) S9216x128 .f32) :: (⟨⟨⟨o0, S384x128.size, ![8, 1], in0⟩, spos_8_1⟩, a⟩ : View.Piece (Elt Ideal) S9216x128 .f32) :: L) (at8 row ch l) = over y L (at8 row ch l) :=
  (strip384_miss y o1 in1 b _ s _ (by omega) ch e1 row l (by omega)).trans (strip384_miss y o0 in0 a _ s _ (by omega) ch e0 row l (by omega))

theorem strip1152_hit (y : Vec Ideal S9216x128 .f32) (o : Fin 2 → Nat) (inb) (w : FVec Ideal S1152x128 .f32) (L : List (View.Piece (Elt Ideal) S9216x128 .f32))
    (s : Nat) (ch : Fin 8) (e : o = ![8 * s + ch.val, 0]) (row : Fin 1152) (l : Fin 128) (h0 : s ≤ row.val) (h1 : row.val < s + 1152) :
    over y ((⟨⟨⟨o, S1152x128.size, ![8, 1], inb⟩, spos_8_1⟩, w⟩ : View.Piece (Elt Ideal) S9216x128 .f32) :: L) (at8 row ch l) = w (ix2 ⟨row.val - s, by omega⟩ l) := by
  have e0 : o 0 = 8 * s + ch.val := congrFun e 0
  have e1 : o 1 = 0 := congrFun e 1
  refine over_hit y (⟨⟨o, S1152x128.size, ![8, 1], inb⟩, spos_8_1⟩ : Rect S9216x128) w L (ix2 ⟨row.val - s, by omega⟩ l) _ (funext fun a => Fin.ext ?_)
  match a with
  | ⟨0, _⟩ => show o 0 + 8 * (row.val - s) = 8 * row.val + ch.val; omega
  | ⟨1, _⟩ => show o 1 + 1 * l.val = l.val; omega
theorem strip1152_miss (y : Vec Ideal S9216x128 .f32) (o : Fin 2 → Nat) (inb) (w : FVec Ideal S1152x128 .f32) (L : List (View.Piece (Elt Ideal) S9216x128 .f32))
    (s k : Nat) (hk : k < 8) (ch : Fin 8) (e : o = ![8 * s + k, 0]) (row : Fin 1152) (l : Fin 128) (h : ch.val ≠ k ∨ row.val < s ∨ s + 1152 ≤ row.val) :
    over y ((⟨⟨⟨o, S1152x128.size, ![8, 1], inb⟩, spos_8_1⟩, w⟩ : View.Piece (Elt Ideal) S9216x128 .f32) :: L) (at8 row ch l) = over y L (at8 row ch l) := by
  have e0 : o 0 = 8 * s + k := congrFun e 0
  refine over_miss y (⟨⟨o, S1152x128.size, ![8, 1], inb⟩, spos_8_1⟩ : Rect S9216x128) w L _ fun x hx => ?_
  have h0 := congrArg Fin.val (congrFun hx 0)
  have b0 : (x 0).val < 1152 := (x 0).isLt
  change o 0 + 8 * (x 0).val = 8 * row.val + ch.val at h0
  have hc := ch.isLt
  omega
theorem pair1152_hit (y : Vec Ideal S9216x128 .f32) (o1 o0 : Fin 2 → Nat) (in1) (in0) (b a : FVec Ideal S1152x128 .f32) (L : List (View.Piece (Elt Ideal) S9216x128 .f32))
    (s t : Nat) (ht : t < 4) (ch : Fin 8) (e1 : o1 = ![8 * s + (2 * t + 1), 0]) (e0 : o0 = ![8 * s + 2 * t, 0]) (row : Fin 1152) (l : Fin 128)
    (hc : ch.val / 2 = t) (h0 : s ≤ row.val) (h1 : row.val < s + 1152) :
    over y ((⟨⟨⟨o1, S1152x128.size, ![8, 1], in1⟩, spos_8_1⟩, b⟩ : View.Piece (Elt Ideal) S9216x128 .f32) :: (⟨⟨⟨o0, S1152x128.size, ![8, 1], in0⟩, spos_8_1⟩, a⟩ : View.Piece (Elt Ideal) S9216x128 .f32) :: L) (at8 row ch l) = (if ch.val % 2 = 1 then b else a) (ix2 ⟨row.val - s, by omega⟩ l) := by
  by_cases hm : ch.val % 2 = 1
  · rw [if_pos hm]
    exact strip1152_hit y o1 in1 b _ s ch (by rw [e1, show 2 * t + 1 = ch.val by omega]) row l h0 h1
  · rw [if_neg hm]
    refine (strip1152_miss y o1 in1 b _ s _ (by omega) ch e1 row l (.inl (by omega))).trans ?_
    exact strip1152_hit y o0 in0 a _ s ch (by rw [e0, show 2 * t = ch.val by omega]) row l h0 h1
theorem pair1152_miss (y : Vec Ideal S9216x128 .f32) (o1 o0 : Fin 2 → Nat) (in1) (in0) (b a : FVec Ideal S1152x128 .f32) (L : List (View.Piece (Elt Ideal) S9216x128 .f32))
    (s t : Nat) (ht : t < 4) (ch : Fin 8) (e1 : o1 = ![8 * s + (2 * t + 1), 0]) (e0 : o0 = ![8 * s + 2 * t, 0]) (row : Fin 1152) (l : Fin 128)
    (h : ch.val / 2 ≠ t ∨ row.val < s ∨ s + 1152 ≤ row.val) :
    over y ((⟨⟨⟨o1, S1152x128.size, ![8, 1], in1⟩, spos_8_1⟩, b⟩ : View.Piece (Elt Ideal) S9216x128 .f32) :: (⟨⟨⟨o0, S1152x128.size, ![8, 1], in0⟩, spos_8_1⟩, a⟩ : View.Piece (Elt Ideal) S9216x128 .f32) :: L) (at8 row ch l) = over y L (at8 row ch l) :=
  (strip1152_miss y o1 in1 b _ s _ (by omega) ch e1 row l (by omega)).trans (strip1152_miss y o0 in0 a _ s _ (by omega) ch e0 row l (by omega))

/-- The column of an output tile that a lane of a chunk holds. -/
def colOf (ch : Fin 8) (l : Fin 128) : Fin 256 := ⟨128 * (ch.val % 2) + l.val, by omega⟩

/-- The output a point computes for a row. -/
def outVal (w : Vec Ideal S1x2048x256 .f32) (b : Vec Ideal S1x1x256 .f32) (d : Vec Ideal S4x1152x512 .bf16) (row : Fin 1152) (col : Fin 256) : EReal :=
  outOf (fun f => d (ix3 ⟨f.val / 512, by omega⟩ row ⟨f.val % 512, by omega⟩)) (fun f => w (ix3 0 f col)) (b (ix3 0 0 col))

theorem plane_col (d : Vec Ideal S4x1152x512 .bf16) (row : Fin 1152) (p : Nat) (hp : p < 4) (q : Fin 512) :
    d (ix3 ⟨p, hp⟩ row q) = d (ix3 ⟨(512 * p + q.val) / 512, by omega⟩ row ⟨(512 * p + q.val) % 512, by omega⟩) := by
  refine congrArg d ?_
  refine congrArg₂ (fun a b => ix3 a row b) (Fin.ext ?_) (Fin.ext ?_)
  · show p = (512 * p + q.val) / 512; omega
  · show q.val = (512 * p + q.val) % 512; omega

theorem oF_at (w : Vec Ideal S1x2048x256 .f32) (b : Vec Ideal S1x1x256 .f32) (d : Vec Ideal S4x1152x512 .bf16) (row : Fin 1152) (col : Fin 256) :
    oF w d b (ix2 row col) = outVal w b d row col :=
  partF_at w _ _ _ _ b (fun f => d (ix3 ⟨f.val / 512, by omega⟩ row ⟨f.val % 512, by omega⟩)) row col
    (fun q => (planeF_at d 0 (by decide) row q).trans (plane_col d row 0 (by decide) q))
    (fun q => (planeF_at d 1 (by decide) row q).trans (plane_col d row 1 (by decide) q))
    (fun q => (planeF_at d 2 (by decide) row q).trans (plane_col d row 2 (by decide) q))
    (fun q => (planeF_at d 3 (by decide) row q).trans (plane_col d row 3 (by decide) q))

theorem oS_at (w : Vec Ideal S1x2048x256 .f32) (b : Vec Ideal S1x1x256 .f32) (d : Vec Ideal S4x1152x512 .bf16) (s : Nat) (hs : s ∈ [0, 384, 768])
    (row : Fin 1152) (h0 : s ≤ row.val) (h1 : row.val < s + 384) (col : Fin 256) :
    oS w d b s hs (ix2 ⟨row.val - s, by omega⟩ col) = outVal w b d row col :=
  partS_at w _ _ _ _ b (fun f => d (ix3 ⟨f.val / 512, by omega⟩ row ⟨f.val % 512, by omega⟩)) _ col
    (fun q => (planeS_at d s hs 0 (by decide) row h0 h1 q).trans (plane_col d row 0 (by decide) q))
    (fun q => (planeS_at d s hs 1 (by decide) row h0 h1 q).trans (plane_col d row 1 (by decide) q))
    (fun q => (planeS_at d s hs 2 (by decide) row h0 h1 q).trans (plane_col d row 2 (by decide) q))
    (fun q => (planeS_at d s hs 3 (by decide) row h0 h1 q).trans (plane_col d row 3 (by decide) q))

theorem halvesF (o : FVec Ideal S1152x256 .f32) (ch : Fin 8) (r : Fin 1152) (l : Fin 128) :
    (if ch.val % 2 = 1 then k0_pay7 o else k0_pay36 o) (ix2 r l) = o (ix2 r (colOf ch l)) := by
  by_cases hm : ch.val % 2 = 1
  · rw [if_pos hm, half1_F]
    exact congrArg (fun z => o (ix2 r z)) (Fin.ext (by show 128 + l.val = 128 * (ch.val % 2) + l.val; omega))
  · rw [if_neg hm, half0_F]
    exact congrArg (fun z => o (ix2 r z)) (Fin.ext (by show 0 + l.val = 128 * (ch.val % 2) + l.val; omega))
theorem halvesS (o : FVec Ideal S384x256 .f32) (ch : Fin 8) (r : Fin 384) (l : Fin 128) :
    (if ch.val % 2 = 1 then k0_pay44 o else k0_pay42 o) (ix2 r l) = o (ix2 r (colOf ch l)) := by
  by_cases hm : ch.val % 2 = 1
  · rw [if_pos hm, half1_S]
    exact congrArg (fun z => o (ix2 r z)) (Fin.ext (by show 128 + l.val = 128 * (ch.val % 2) + l.val; omega))
  · rw [if_neg hm, half0_S]
    exact congrArg (fun z => o (ix2 r z)) (Fin.ext (by show 0 + l.val = 128 * (ch.val % 2) + l.val; omega))
theorem halvesZ (ch : Fin 8) (i : S384x128.Idx) :
    (if ch.val % 2 = 1 then (k0_pay16 : FVec Ideal S384x128 .f32) else k0_pay14) i = (0 : EReal) := by
  by_cases hm : ch.val % 2 = 1
  · rw [if_pos hm]; exact zero_hi i
  · rw [if_neg hm]; exact zero_lo i

theorem off2 {a a' : Nat} (h : a = a') : (![a, 0] : Fin 2 → Nat) = ![a', 0] := by rw [h]

section Out
variable (i : grid0.Coords) (hj : 4 ≤ step i)
include hj
theorem at7 (r : Fin 2) : k0_off7 i (BitVec.ofNat 32 r.val) = ![8 * 0 + (2 * (step i - 4) + r.val), 0] := (FfnWords.off7_eq i hj r).trans (off2 (by omega))
theorem at10 (r : Fin 2) : k0_off10 i (BitVec.ofNat 32 r.val) = ![8 * 384 + (2 * (step i - 4) + r.val), 0] := (FfnWords.off10_eq i hj r).trans (off2 (by omega))
theorem at12 (r : Fin 2) : k0_off12 i (BitVec.ofNat 32 r.val) = ![8 * 768 + (2 * (step i - 4) + r.val), 0] := (FfnWords.off12_eq i hj r).trans (off2 (by omega))

variable (y : Vec Ideal S9216x128 .f32) (L : List (View.Piece (Elt Ideal) S9216x128 .f32)) (row : Fin 1152) (ch : Fin 8) (l : Fin 128)

theorem outF_hit (o : FVec Ideal S1152x256 .f32) (hc : ch.val / 2 = step i - 4) :
    over y (outF i hj o) (at8 row ch l) = o (ix2 row (colOf ch l)) := by
  have ht := FfnWords.step_lt i
  refine (pair1152_hit y _ _ _ _ _ _ _ 0 (step i - 4) (by omega) ch (at7 i hj 1) (at7 i hj 0) row l hc (by omega) (by omega)).trans ?_
  exact halvesF o ch row l
theorem outF_miss (o : FVec Ideal S1152x256 .f32) (hc : ch.val / 2 ≠ step i - 4) : over y (outF i hj o) (at8 row ch l) = y (at8 row ch l) := by
  have ht := FfnWords.step_lt i
  exact pair1152_miss y _ _ _ _ _ _ _ 0 (step i - 4) (by omega) ch (at7 i hj 1) (at7 i hj 0) row l (.inl hc)

theorem out0_hit (a b : FVec Ideal S384x128 .f32) (hc : ch.val / 2 = step i - 4) (h0 : 0 ≤ row.val) (h1 : row.val < 0 + 384) :
    over y (out0 i hj a b ++ L) (at8 row ch l) = (if ch.val % 2 = 1 then b else a) (ix2 ⟨row.val - 0, by omega⟩ l) := by
  have ht := FfnWords.step_lt i
  exact pair384_hit y _ _ _ _ _ _ _ 0 (step i - 4) (by omega) ch (at7 i hj 1) (at7 i hj 0) row l hc h0 h1
theorem out0_miss (a b : FVec Ideal S384x128 .f32) (h : ch.val / 2 ≠ step i - 4 ∨ row.val < 0 ∨ 0 + 384 ≤ row.val) :
    over y (out0 i hj a b ++ L) (at8 row ch l) = over y L (at8 row ch l) := by
  have ht := FfnWords.step_lt i
  exact pair384_miss y _ _ _ _ _ _ _ 0 (step i - 4) (by omega) ch (at7 i hj 1) (at7 i hj 0) row l h

theorem out1_hit (a b : FVec Ideal S384x128 .f32) (hc : ch.val / 2 = step i - 4) (h0 : 384 ≤ row.val) (h1 : row.val < 384 + 384) :
    over y (out1 i a b ++ L) (at8 row ch l) = (if ch.val % 2 = 1 then b else a) (ix2 ⟨row.val - 384, by omega⟩ l) := by
  have ht := FfnWords.step_lt i
  exact pair384_hit y _ _ _ _ _ _ _ 384 (step i - 4) (by omega) ch (at10 i hj 1) (at10 i hj 0) row l hc h0 h1
theorem out1_miss (a b : FVec Ideal S384x128 .f32) (h : ch.val / 2 ≠ step i - 4 ∨ row.val < 384 ∨ 384 + 384 ≤ row.val) :
    over y (out1 i a b ++ L) (at8 row ch l) = over y L (at8 row ch l) := by
  have ht := FfnWords.step_lt i
  exact pair384_miss y _ _ _ _ _ _ _ 384 (step i - 4) (by omega) ch (at10 i hj 1) (at10 i hj 0) row l h

theorem out2_hit (a b : FVec Ideal S384x128 .f32) (hc : ch.val / 2 = step i - 4) (h0 : 768 ≤ row.val) (h1 : row.val < 768 + 384) :
    over y (out2 i a b ++ L) (at8 row ch l) = (if ch.val % 2 = 1 then b else a) (ix2 ⟨row.val - 768, by omega⟩ l) := by
  have ht := FfnWords.step_lt i
  exact pair384_hit y _ _ _ _ _ _ _ 768 (step i - 4) (by omega) ch (at12 i hj 1) (at12 i hj 0) row l hc h0 h1
theorem out2_miss (a b : FVec Ideal S384x128 .f32) (h : ch.val / 2 ≠ step i - 4 ∨ row.val < 768 ∨ 768 + 384 ≤ row.val) :
    over y (out2 i a b ++ L) (at8 row ch l) = over y L (at8 row ch l) := by
  have ht := FfnWords.step_lt i
  exact pair384_miss y _ _ _ _ _ _ _ 768 (step i - 4) (by omega) ch (at12 i hj 1) (at12 i hj 0) row l h

/-- Three groups of rows together: each takes its own pair. -/
theorem out_all (a0 b0 a1 b1 a2 b2 : FVec Ideal S384x128 .f32) (v : EReal) (hc : ch.val / 2 = step i - 4)
    (h0 : ∀ h : row.val < 384, (if ch.val % 2 = 1 then b0 else a0) (ix2 ⟨row.val - 0, by omega⟩ l) = v)
    (h1 : ∀ h : 384 ≤ row.val ∧ row.val < 768, (if ch.val % 2 = 1 then b1 else a1) (ix2 ⟨row.val - 384, by omega⟩ l) = v)
    (h2 : ∀ h : 768 ≤ row.val, (if ch.val % 2 = 1 then b2 else a2) (ix2 ⟨row.val - 768, by omega⟩ l) = v) :
    over y (out2 i a2 b2 ++ (out1 i a1 b1 ++ out0 i hj a0 b0)) (at8 row ch l) = v := by
  have hr := row.isLt
  by_cases g2 : row.val < 768
  · refine (out2_miss i hj y _ row ch l a2 b2 (.inr (.inl g2))).trans ?_
    by_cases g1 : row.val < 384
    · refine (out1_miss i hj y _ row ch l a1 b1 (.inr (.inl g1))).trans ?_
      rw [← List.append_nil (out0 i hj a0 b0)]
      exact (out0_hit i hj y [] row ch l a0 b0 hc (by omega) (by omega)).trans (h0 g1)
    · exact (out1_hit i hj y _ row ch l a1 b1 hc (by omega) (by omega)).trans (h1 ⟨by omega, g2⟩)
  · exact (out2_hit i hj y _ row ch l a2 b2 hc (by omega) (by omega)).trans (h2 (by omega))

theorem out_none (a0 b0 a1 b1 a2 b2 : FVec Ideal S384x128 .f32) (hc : ch.val / 2 ≠ step i - 4) :
    over y (out2 i a2 b2 ++ (out1 i a1 b1 ++ out0 i hj a0 b0)) (at8 row ch l) = y (at8 row ch l) := by
  refine (out2_miss i hj y _ row ch l a2 b2 (.inl hc)).trans ((out1_miss i hj y _ row ch l a1 b1 (.inl hc)).trans ?_)
  rw [← List.append_nil (out0 i hj a0 b0)]
  exact out0_miss i hj y [] row ch l a0 b0 (.inl hc)

variable (v : BitVec 32) (w : Vec Ideal S1x2048x256 .f32) (b : Vec Ideal S1x1x256 .f32) (d : Vec Ideal S4x1152x512 .bf16)

/-- The chunks of other steps stay. -/
theorem outStep_other (hc : ch.val / 2 ≠ step i - 4) : outStep i v w b d y (at8 row ch l) = y (at8 row ch l) := by
  unfold outStep
  rw [dif_pos hj]
  by_cases hf : v = 1152#32
  · rw [if_pos hf]; exact outF_miss i hj y row ch l _ hc
  rw [if_neg hf]
  by_cases c0 : v.toInt ≤ 0
  · rw [if_pos c0]; exact out_none i hj y row ch l _ _ _ _ _ _ hc
  rw [if_neg c0]
  by_cases c1 : v.toInt ≤ 384
  · rw [if_pos c1]; exact out_none i hj y row ch l _ _ _ _ _ _ hc
  rw [if_neg c1]
  by_cases c2 : v.toInt ≤ 768
  · rw [if_pos c2]; exact out_none i hj y row ch l _ _ _ _ _ _ hc
  rw [if_neg c2]; exact out_none i hj y row ch l _ _ _ _ _ _ hc

/-- A step's own chunks: the output where the row's group has rows, zero elsewhere. -/
theorem outStep_own (hc : ch.val / 2 = step i - 4) : outStep i v w b d y (at8 row ch l)
    = if ((384 * (row.val / 384) : Nat) : Int) < v.toInt then outVal w b d row (colOf ch l) else 0 := by
  have hr := row.isLt
  have S : ∀ (s : Nat) (hs : s ∈ [0, 384, 768]) (h0 : s ≤ row.val) (h1 : row.val < s + 384),
      (if ch.val % 2 = 1 then k0_pay44 (oS w d b s hs) else k0_pay42 (oS w d b s hs)) (ix2 ⟨row.val - s, by omega⟩ l) = outVal w b d row (colOf ch l) :=
    fun s hs h0 h1 => (halvesS _ ch _ l).trans (oS_at w b d s hs row h0 h1 _)
  unfold outStep
  rw [dif_pos hj]
  by_cases hf : v = 1152#32
  · have hv : v.toInt = 1152 := by rw [hf]; decide
    rw [if_pos hf, if_pos (by omega)]
    exact (outF_hit i hj y row ch l _ hc).trans (oF_at w b d row _)
  rw [if_neg hf]
  by_cases c0 : v.toInt ≤ 0
  · rw [if_pos c0, if_neg (by omega)]
    exact out_all i hj y row ch l _ _ _ _ _ _ 0 hc (fun _ => halvesZ ch _) (fun _ => halvesZ ch _) (fun _ => halvesZ ch _)
  rw [if_neg c0]
  by_cases c1 : v.toInt ≤ 384
  · rw [if_pos c1]
    refine out_all i hj y row ch l _ _ _ _ _ _ _ hc (fun h => ?_) (fun h => ?_) (fun h => ?_)
    · exact (S 0 (by decide) (by omega) (by omega)).trans (if_pos (by omega)).symm
    · exact (halvesZ ch _).trans (if_neg (by omega)).symm
    · exact (halvesZ ch _).trans (if_neg (by omega)).symm
  rw [if_neg c1]
  by_cases c2 : v.toInt ≤ 768
  · rw [if_pos c2]
    refine out_all i hj y row ch l _ _ _ _ _ _ _ hc (fun h => ?_) (fun h => ?_) (fun h => ?_)
    · exact (S 0 (by decide) (by omega) (by omega)).trans (if_pos (by omega)).symm
    · exact (S 384 (by decide) (by omega) (by omega)).trans (if_pos (by omega)).symm
    · exact (halvesZ ch _).trans (if_neg (by omega)).symm
  rw [if_neg c2]
  refine out_all i hj y row ch l _ _ _ _ _ _ _ hc (fun h => ?_) (fun h => ?_) (fun h => ?_)
  · exact (S 0 (by decide) (by omega) (by omega)).trans (if_pos (by omega)).symm
  · exact (S 384 (by decide) (by omega) (by omega)).trans (if_pos (by omega)).symm
  · exact (S 768 (by decide) (by omega) (by omega)).trans (if_pos (by omega)).symm

end Out

/-- Before the last four steps an output plane stays. -/
theorem outStep_early (i : grid0.Coords) (hj : step i < 4) (v : BitVec 32) (w : Vec Ideal S1x2048x256 .f32) (b : Vec Ideal S1x1x256 .f32)
    (d : Vec Ideal S4x1152x512 .bf16) (y : Vec Ideal S9216x128 .f32) : outStep i v w b d y = y := by
  unfold outStep
  rw [dif_neg (by omega)]

end Cert.Kernel4Ideal.Ffn

end
-- ==== Proof.FfnPlain.lean ====
/- The experts' layer as plain mathematics: the two half planes of its result. -/
module

public import proofs.«01_k».proof.Proof.FfnTile

@[expose] public section

noncomputable section

namespace Cert.FfnPlain

open Idealize.ShloMosaic Idealize.ShloMosaic.ValueIdx
open Cert.Kernel4Ideal.Ffn (hidden outOf)

/-- The rows of all blocks, the experts' two weights and biases, and a word per block. -/
abbrev Rows := (⟨2, ![167040, 2048]⟩ : Shape).Idx → EReal
abbrev First := (⟨3, ![32, 2048, 4096]⟩ : Shape).Idx → EReal
abbrev FirstBias := (⟨2, ![32, 4096]⟩ : Shape).Idx → EReal
abbrev Second := (⟨3, ![32, 2048, 2048]⟩ : Shape).Idx → EReal
abbrev SecondBias := (⟨2, ![32, 2048]⟩ : Shape).Idx → EReal
abbrev Words := (⟨1, ![145]⟩ : Shape).Idx → BitVec 32
abbrev Plane := (⟨2, ![1336320, 128]⟩ : Shape).Idx → EReal

/-- Each block's expert is one of the 32. -/
abbrev Named (e : Words) : Prop := ∀ b : Fin 145, (e (ix1 b)).toNat < 32
/-- A block's expert. -/
def expert (e : Words) (h : Named e) (b : Fin 145) : Fin 32 := ⟨(e (ix1 b)).toNat, h b⟩

/-- Activation `f` of row `row` of block `b`, by expert `k`. -/
def hidAt (x : Rows) (w1 : First) (b1 : FirstBias) (k : Fin 32) (b : Fin 145) (row : Fin 1152) (f : Fin 2048) : EReal :=
  hidden (fun j => x (ix2 ⟨1152 * b.val + row.val, by omega⟩ j))
    (fun j => w1 (ix3 k j ⟨f.val, by omega⟩)) (fun j => w1 (ix3 k j ⟨2048 + f.val, by omega⟩))
    (b1 (ix2 k ⟨f.val, by omega⟩)) (b1 (ix2 k ⟨2048 + f.val, by omega⟩))

/-- Column `col` of row `row` of block `b`: 0 in a group of 384 rows that starts at or beyond the block's row count `n`. -/
def outAt (x : Rows) (w1 : First) (b1 : FirstBias) (w2 : Second) (b2 : SecondBias) (k : Fin 32) (n : BitVec 32)
    (b : Fin 145) (row : Fin 1152) (col : Fin 2048) : EReal :=
  if ((384 * (row.val / 384) : Nat) : Int) < n.toInt then
    outOf (hidAt x w1 b1 k b row) (fun f => w2 (ix3 k f col)) (b2 (ix2 k col))
  else 0

/-- The plane of the 1024 columns from `off` on: eight rows of 128 columns for a row. -/
def plane (off : Nat) (ho : off ≤ 1024) (x : Rows) (w1 : First) (b1 : FirstBias) (w2 : Second) (b2 : SecondBias)
    (e : Words) (r : Words) (h : Named e) : Plane := fun i =>
  have h0 : (i 0).val < 1336320 := (i 0).isLt
  have h1 : (i 1).val < 128 := (i 1).isLt
  outAt x w1 b1 w2 b2 (expert e h ⟨(i 0).val / 8 / 1152, by omega⟩) (r (ix1 ⟨(i 0).val / 8 / 1152, by omega⟩))
    ⟨(i 0).val / 8 / 1152, by omega⟩ ⟨(i 0).val / 8 % 1152, by omega⟩ ⟨off + 128 * ((i 0).val % 8) + (i 1).val, by omega⟩

end Cert.FfnPlain

end
-- ==== Proof.FfnBlock.lean ====
/- What the experts' kernel reads at a point, as arguments at indices. -/
module

public import proofs.«01_k».proof.Proof.FfnStep
public import proofs.«01_k».proof.Proof.FfnPlain

@[expose] public section

noncomputable section

namespace Cert.Kernel4Ideal.Ffn

open Cert.Kernel4Ideal.Gen
open Cert.FfnWords (step)
open Idealize.ShloMosaic Idealize.ShloMosaic.TcCoe Idealize.ShloMosaic.ValueIdx
open Idealize.ShloMosaic.Pipeline (Dat RDat Cfg Window)

variable (m : (ℓ : Loc nD τ sig) → Buf (Elt Ideal) ℓ) (hO : Ok m) (c : Dev nD)

/-- The arguments of a device, as launched. -/
abbrev xs : FfnPlain.Rows := m ((c : Thread nD τ).loc main_arg0)
abbrev first : FfnPlain.First := m ((c : Thread nD τ).loc main_arg1)
abbrev firstBias : FfnPlain.FirstBias := m ((c : Thread nD τ).loc main_arg2)
abbrev second : FfnPlain.Second := m ((c : Thread nD τ).loc main_arg3)
abbrev secondBias : FfnPlain.SecondBias := m ((c : Thread nD τ).loc main_arg4)
abbrev experts : FfnPlain.Words := m ((c : Thread nD τ).loc main_arg5)
abbrev counts : FfnPlain.Words := m ((c : Thread nD τ).loc main_arg6)

/-! ## The grid's points -/

/-- The coordinates of a point. -/
abbrev co (t : Fin (cfgM m hO).N) : grid0.Coords := (cfgM m hO).grid.coords t

theorem co0 (t : Fin (cfgM m hO).N) : (co m hO t 0).val = t.val / 8 :=
  (by decide +kernel : ∀ t : Fin grid0.N, (grid0.coords t 0).val = t.val / 8) t
theorem co1 (t : Fin (cfgM m hO).N) : step (co m hO t) = t.val % 8 :=
  (by decide +kernel : ∀ t : Fin grid0.N, (grid0.coords t 1).val = t.val % 8) t

theorem point_lt (b : Fin 145) (k : Nat) (hk : k < 8) : 8 * b.val + k < (cfgM m hO).N := by
  show 8 * b.val + k < grid0.N
  rw [show grid0.N = 1160 from N_0]
  omega

theorem lastOf : ∀ t : Fin grid0.N,
    (true && (decide (t.val + 1 = grid0.N)
      || decide (∃ h : t.val + 1 < grid0.N, cc0_transform_9 (grid0.coords ⟨t.val + 1, h⟩) ≠ cc0_transform_9 (grid0.coords t))))
      = decide (t.val % 8 = 7) := by
  decide +kernel
theorem flush9 (t : Fin (cfgM m hO).N) : ((cfgM m hO).win 9).flush t = decide (t.val % 8 = 7) := lastOf t
theorem flush10 (t : Fin (cfgM m hO).N) : ((cfgM m hO).win 10).flush t = decide (t.val % 8 = 7) := lastOf t

/-! ## The biases as the host code reshapes them -/

theorem firstBias_at (k : Fin 32) (q : Fin 4096) : V m c main_v0 (ix3 k 0 q) = firstBias m c (ix2 k q) := by
  have e : V m c main_v0 = shapeCast S32x1x4096 (firstBias m c) shapeCasts_S32x4096_S32x1x4096 := by
    show StableHlo.after hostOps0 _ (Proc.devRef .tc main_v0) = _
    after_results
    rfl
  rw [e]
  refine shapeCast_apply _ _ _ _ ?_
  rw [Shape.rowMajor_val_two, Shape.rowMajor_val_three]
  show k.val * 4096 + q.val = (k.val * 1 + 0) * 4096 + q.val
  omega
theorem secondBias_at (k : Fin 32) (q : Fin 2048) : V m c main_v1 (ix3 k 0 q) = secondBias m c (ix2 k q) := by
  have e : V m c main_v1 = shapeCast S32x1x2048 (secondBias m c) shapeCasts_S32x2048_S32x1x2048 := by
    show StableHlo.after hostOps0 _ (Proc.devRef .tc main_v1) = _
    after_results
    rfl
  rw [e]
  refine shapeCast_apply _ _ _ _ ?_
  rw [Shape.rowMajor_val_two, Shape.rowMajor_val_three]
  show k.val * 2048 + q.val = (k.val * 1 + 0) * 2048 + q.val
  omega

/-! ## The blocks -/

theorem token_word (b j : Nat) (hb : b < 145) (hj : j < 4) :
    (Scalar.select (Scalar.cmpi .sge (BitVec.ofNat 32 j) (4#32 : BitVec 32))
      (Scalar.minsi (Scalar.addi (BitVec.ofNat 32 b) (1#32 : BitVec 32)) (144#32 : BitVec 32)) (BitVec.ofNat 32 b)).toNat = b := by
  have e : Scalar.cmpi .sge (BitVec.ofNat 32 j) (4#32 : BitVec 32) = 0#1 := by
    interval_cases j <;> decide
  rw [e]
  show (BitVec.ofNat 32 b).toNat = b
  rw [BitVec.toNat_ofNat]
  omega

theorem index0 (i : grid0.Coords) (hj : step i < 4) : cc0_transform_0 i = ![(i 0).val, 0] := by
  unfold cc0_transform_0; dsimp only
  rw [token_word (i 0).val (i 1).val (block_lt i) hj]
  rfl

/-- The block of a point, and its step. -/
structure At (t : Fin (cfgM m hO).N) (b : Fin 145) (j : Nat) : Prop where
  block : (co m hO t 0).val = b.val
  step : step (co m hO t) = j

theorem at_point (b : Fin 145) (k : Nat) (hk : k < 8) : At m hO ⟨8 * b.val + k, point_lt m hO b k hk⟩ b k :=
  ⟨by rw [co0]; show (8 * b.val + k) / 8 = b.val; omega, by rw [co1]; show (8 * b.val + k) % 8 = k; omega⟩

section Blocks
variable {t : Fin (cfgM m hO).N} {b : Fin 145} {j : Nat} (hA : At m hO t b j)
include hA

theorem expert_at : (expertW (tbl m) ⟨(co m hO t 0).val, block_lt _⟩).toNat = (experts m 0 (ix1 b)).toNat := by
  rw [show (⟨(co m hO t 0).val, block_lt _⟩ : Fin 145) = b from Fin.ext hA.block, expertW_tbl]

theorem outB_at (hj : 4 ≤ j) : (expertW (tbl m) (outB (co m hO t))).toNat = (experts m 0 (ix1 b)).toNat := by
  have e : outB (co m hO t) = b := by
    unfold outB
    rw [if_neg (by rw [hA.step]; omega)]
    exact Fin.ext hA.block
  rw [e, expertW_tbl]

theorem cnt_at : cnt m hO c t = counts m c (ix1 b) := by
  obtain rfl : c = 0 := Subsingleton.elim _ _
  refine Eq.trans ?_ (congrFun (V_arg6 m 0) (ix1 b))
  refine congrArg (V m 0 main_arg6) (funext fun a => Fin.ext ?_)
  match a with
  | ⟨0, _⟩ =>
    show k0_off1 (co m hO t) 0 + 1 * 0 = b.val
    rw [congrFun (k0_off1_eq (co m hO t)) 0]
    exact hA.block

theorem x_at (hj : j < 4) (r : Fin 1152) (k : Fin 2048) : (xin m hO c t).x (ix2 r k) = xs m c (ix2 ⟨1152 * b.val + r.val, by omega⟩ k) := by
  refine Eq.trans ?_ (congrFun (V_arg0 m c) _)
  have hi := index0 (co m hO t) (by rw [hA.step]; exact hj)
  refine congrArg (V m c main_arg0) (funext fun a => Fin.ext ?_)
  have hb := hA.block
  match a with
  | ⟨0, _⟩ => show cc0_transform_0 (co m hO t) 0 * 1152 + 1 * r.val = 1152 * b.val + r.val; rw [hi]; show (co m hO t 0).val * 1152 + 1 * r.val = _; omega
  | ⟨1, _⟩ => show cc0_transform_0 (co m hO t) 1 * 2048 + 1 * k.val = k.val; rw [hi]; show 0 * 2048 + 1 * k.val = _; omega

/-- The block is among the counted ones. -/
def Used (b : Fin 145) : Prop :=
  Scalar.cmpi .slt (BitVec.ofNat 32 b.val) ((m (((0 : Dev nD) : Thread nD τ).loc main_arg7) : S1.Idx → BitVec 32) (ix1 0)) = 1#1

theorem used_at (hu : Used m b) : usedW (tbl m) (co m hO t) = 1#1 := by
  unfold usedW
  rw [hA.block, countW_tbl]
  exact hu
theorem hidT_at (hu : Used m b) (hj : j < 4) : hidT (tbl m) (co m hO t) = j := by
  unfold hidT
  rw [if_pos (used_at m hO hA hu), hA.step]
  omega
theorem outT_at (hu : Used m b) (hj : 4 ≤ j) : outT (tbl m) (co m hO t) = j - 4 := by
  unfold outT
  rw [if_pos ⟨used_at m hO hA hu, by rw [hA.step]; exact hj⟩, hA.step]

variable (h : FfnPlain.Named (experts m 0)) (hu : Used m b)
include hu

set_option maxHeartbeats 1000000 in
theorem wg_at (hj : j < 4) (k : Fin 2048) (q : Fin 512) :
    (xin m hO c t).wg (ix3 0 k q) = first m c (ix3 (FfnPlain.expert _ h b) k ⟨0 + (512 * j + q.val), by omega⟩) := by
  refine Eq.trans ?_ (congrFun (V_arg1 m c) _)
  have hi := index1 (tbl m) (co m hO t)
  have hx := expert_at m hO hA
  have ht := hidT_at m hO hA hu hj
  refine congrArg (V m c main_arg1) (funext fun a => Fin.ext ?_)
  match a with
  | ⟨0, _⟩ => show cc0_transform_1 k0_off1_inb numel1_S1 inb_S1_S1_0 (tbl m) (co m hO t) 0 * 1 + 1 * 0 = (experts m 0 (ix1 b)).toNat; rw [hi, ← hx]; show (expertW (tbl m) _).toNat * 1 + 1 * 0 = _; omega
  | ⟨1, _⟩ => show cc0_transform_1 k0_off1_inb numel1_S1 inb_S1_S1_0 (tbl m) (co m hO t) 1 * 2048 + 1 * k.val = k.val; rw [hi]; show 0 * 2048 + 1 * k.val = _; omega
  | ⟨2, _⟩ => show cc0_transform_1 k0_off1_inb numel1_S1 inb_S1_S1_0 (tbl m) (co m hO t) 2 * 512 + 1 * q.val = 0 + (512 * j + q.val); rw [hi]; show (hidT (tbl m) (co m hO t)) * 512 + 1 * q.val = _; rw [ht]; omega
theorem wl_at (hj : j < 4) (k : Fin 2048) (q : Fin 512) :
    (xin m hO c t).wl (ix3 0 k q) = first m c (ix3 (FfnPlain.expert _ h b) k ⟨2048 + (512 * j + q.val), by omega⟩) := by
  refine Eq.trans ?_ (congrFun (V_arg1 m c) _)
  have hi := index2 (tbl m) (co m hO t)
  have hx := expert_at m hO hA
  have ht := hidT_at m hO hA hu hj
  refine congrArg (V m c main_arg1) (funext fun a => Fin.ext ?_)
  match a with
  | ⟨0, _⟩ => show cc0_transform_2 k0_off1_inb numel1_S1 inb_S1_S1_0 (tbl m) (co m hO t) 0 * 1 + 1 * 0 = (experts m 0 (ix1 b)).toNat; rw [hi, ← hx]; show (expertW (tbl m) _).toNat * 1 + 1 * 0 = _; omega
  | ⟨1, _⟩ => show cc0_transform_2 k0_off1_inb numel1_S1 inb_S1_S1_0 (tbl m) (co m hO t) 1 * 2048 + 1 * k.val = k.val; rw [hi]; show 0 * 2048 + 1 * k.val = _; omega
  | ⟨2, _⟩ => show cc0_transform_2 k0_off1_inb numel1_S1 inb_S1_S1_0 (tbl m) (co m hO t) 2 * 512 + 1 * q.val = 2048 + (512 * j + q.val); rw [hi]; show (4 + hidT (tbl m) (co m hO t)) * 512 + 1 * q.val = _; rw [ht]; omega
set_option maxHeartbeats 1000000 in
theorem bg_at (hj : j < 4) (q : Fin 512) :
    (xin m hO c t).bg (ix3 0 0 q) = firstBias m c (ix2 (FfnPlain.expert _ h b) ⟨0 + (512 * j + q.val), by omega⟩) := by
  refine Eq.trans ?_ (firstBias_at m c _ _)
  have hi := index3 (tbl m) (co m hO t)
  have hx := expert_at m hO hA
  have ht := hidT_at m hO hA hu hj
  refine congrArg (V m c main_v0) (funext fun a => Fin.ext ?_)
  match a with
  | ⟨0, _⟩ => show cc0_transform_3 k0_off1_inb numel1_S1 inb_S1_S1_0 (tbl m) (co m hO t) 0 * 1 + 1 * 0 = (experts m 0 (ix1 b)).toNat; rw [hi, ← hx]; show (expertW (tbl m) _).toNat * 1 + 1 * 0 = _; omega
  | ⟨1, _⟩ => show cc0_transform_3 k0_off1_inb numel1_S1 inb_S1_S1_0 (tbl m) (co m hO t) 1 * 1 + 1 * 0 = 0; rw [hi]; rfl
  | ⟨2, _⟩ => show cc0_transform_3 k0_off1_inb numel1_S1 inb_S1_S1_0 (tbl m) (co m hO t) 2 * 512 + 1 * q.val = 0 + (512 * j + q.val); rw [hi]; show (hidT (tbl m) (co m hO t)) * 512 + 1 * q.val = _; rw [ht]; omega
theorem bl_at (hj : j < 4) (q : Fin 512) :
    (xin m hO c t).bl (ix3 0 0 q) = firstBias m c (ix2 (FfnPlain.expert _ h b) ⟨2048 + (512 * j + q.val), by omega⟩) := by
  refine Eq.trans ?_ (firstBias_at m c _ _)
  have hi := index4 (tbl m) (co m hO t)
  have hx := expert_at m hO hA
  have ht := hidT_at m hO hA hu hj
  refine congrArg (V m c main_v0) (funext fun a => Fin.ext ?_)
  match a with
  | ⟨0, _⟩ => show cc0_transform_4 k0_off1_inb numel1_S1 inb_S1_S1_0 (tbl m) (co m hO t) 0 * 1 + 1 * 0 = (experts m 0 (ix1 b)).toNat; rw [hi, ← hx]; show (expertW (tbl m) _).toNat * 1 + 1 * 0 = _; omega
  | ⟨1, _⟩ => show cc0_transform_4 k0_off1_inb numel1_S1 inb_S1_S1_0 (tbl m) (co m hO t) 1 * 1 + 1 * 0 = 0; rw [hi]; rfl
  | ⟨2, _⟩ => show cc0_transform_4 k0_off1_inb numel1_S1 inb_S1_S1_0 (tbl m) (co m hO t) 2 * 512 + 1 * q.val = 2048 + (512 * j + q.val); rw [hi]; show (4 + hidT (tbl m) (co m hO t)) * 512 + 1 * q.val = _; rw [ht]; omega
theorem ul_at (hj : 4 ≤ j) (hj8 : j < 8) (k : Fin 2048) (q : Fin 256) :
    (xin m hO c t).ul (ix3 0 k q) = second m c (ix3 (FfnPlain.expert _ h b) k ⟨0 + 256 * (j - 4) + q.val, by omega⟩) := by
  refine Eq.trans ?_ (congrFun (V_arg3 m c) _)
  have hi := index5 (tbl m) (co m hO t)
  have hx := outB_at m hO hA hj
  have ht := outT_at m hO hA hu hj
  refine congrArg (V m c main_arg3) (funext fun a => Fin.ext ?_)
  match a with
  | ⟨0, _⟩ => show cc0_transform_5 k0_off2_inb numel1_S1 k0_off1_inb inb_S1_S1_0 (tbl m) (co m hO t) 0 * 1 + 1 * 0 = (experts m 0 (ix1 b)).toNat; rw [hi, ← hx]; show (expertW (tbl m) _).toNat * 1 + 1 * 0 = _; omega
  | ⟨1, _⟩ => show cc0_transform_5 k0_off2_inb numel1_S1 k0_off1_inb inb_S1_S1_0 (tbl m) (co m hO t) 1 * 2048 + 1 * k.val = k.val; rw [hi]; show 0 * 2048 + 1 * k.val = _; omega
  | ⟨2, _⟩ => show cc0_transform_5 k0_off2_inb numel1_S1 k0_off1_inb inb_S1_S1_0 (tbl m) (co m hO t) 2 * 256 + 1 * q.val = 0 + 256 * (j - 4) + q.val; rw [hi]; show (outT (tbl m) (co m hO t)) * 256 + 1 * q.val = _; rw [ht]; omega
theorem uh_at (hj : 4 ≤ j) (hj8 : j < 8) (k : Fin 2048) (q : Fin 256) :
    (xin m hO c t).uh (ix3 0 k q) = second m c (ix3 (FfnPlain.expert _ h b) k ⟨1024 + 256 * (j - 4) + q.val, by omega⟩) := by
  refine Eq.trans ?_ (congrFun (V_arg3 m c) _)
  have hi := index6 (tbl m) (co m hO t)
  have hx := outB_at m hO hA hj
  have ht := outT_at m hO hA hu hj
  refine congrArg (V m c main_arg3) (funext fun a => Fin.ext ?_)
  match a with
  | ⟨0, _⟩ => show cc0_transform_6 k0_off2_inb numel1_S1 k0_off1_inb inb_S1_S1_0 (tbl m) (co m hO t) 0 * 1 + 1 * 0 = (experts m 0 (ix1 b)).toNat; rw [hi, ← hx]; show (expertW (tbl m) _).toNat * 1 + 1 * 0 = _; omega
  | ⟨1, _⟩ => show cc0_transform_6 k0_off2_inb numel1_S1 k0_off1_inb inb_S1_S1_0 (tbl m) (co m hO t) 1 * 2048 + 1 * k.val = k.val; rw [hi]; show 0 * 2048 + 1 * k.val = _; omega
  | ⟨2, _⟩ => show cc0_transform_6 k0_off2_inb numel1_S1 k0_off1_inb inb_S1_S1_0 (tbl m) (co m hO t) 2 * 256 + 1 * q.val = 1024 + 256 * (j - 4) + q.val; rw [hi]; show (4 + outT (tbl m) (co m hO t)) * 256 + 1 * q.val = _; rw [ht]; omega
theorem cl_at (hj : 4 ≤ j) (hj8 : j < 8) (q : Fin 256) :
    (xin m hO c t).cl (ix3 0 0 q) = secondBias m c (ix2 (FfnPlain.expert _ h b) ⟨0 + 256 * (j - 4) + q.val, by omega⟩) := by
  refine Eq.trans ?_ (secondBias_at m c _ _)
  have hi := index7 (tbl m) (co m hO t)
  have hx := outB_at m hO hA hj
  have ht := outT_at m hO hA hu hj
  refine congrArg (V m c main_v1) (funext fun a => Fin.ext ?_)
  match a with
  | ⟨0, _⟩ => show cc0_transform_7 k0_off2_inb numel1_S1 k0_off1_inb inb_S1_S1_0 (tbl m) (co m hO t) 0 * 1 + 1 * 0 = (experts m 0 (ix1 b)).toNat; rw [hi, ← hx]; show (expertW (tbl m) _).toNat * 1 + 1 * 0 = _; omega
  | ⟨1, _⟩ => show cc0_transform_7 k0_off2_inb numel1_S1 k0_off1_inb inb_S1_S1_0 (tbl m) (co m hO t) 1 * 1 + 1 * 0 = 0; rw [hi]; rfl
  | ⟨2, _⟩ => show cc0_transform_7 k0_off2_inb numel1_S1 k0_off1_inb inb_S1_S1_0 (tbl m) (co m hO t) 2 * 256 + 1 * q.val = 0 + 256 * (j - 4) + q.val; rw [hi]; show (outT (tbl m) (co m hO t)) * 256 + 1 * q.val = _; rw [ht]; omega
theorem ch_at (hj : 4 ≤ j) (hj8 : j < 8) (q : Fin 256) :
    (xin m hO c t).ch (ix3 0 0 q) = secondBias m c (ix2 (FfnPlain.expert _ h b) ⟨1024 + 256 * (j - 4) + q.val, by omega⟩) := by
  refine Eq.trans ?_ (secondBias_at m c _ _)
  have hi := index8 (tbl m) (co m hO t)
  have hx := outB_at m hO hA hj
  have ht := outT_at m hO hA hu hj
  refine congrArg (V m c main_v1) (funext fun a => Fin.ext ?_)
  match a with
  | ⟨0, _⟩ => show cc0_transform_8 k0_off2_inb numel1_S1 k0_off1_inb inb_S1_S1_0 (tbl m) (co m hO t) 0 * 1 + 1 * 0 = (experts m 0 (ix1 b)).toNat; rw [hi, ← hx]; show (expertW (tbl m) _).toNat * 1 + 1 * 0 = _; omega
  | ⟨1, _⟩ => show cc0_transform_8 k0_off2_inb numel1_S1 k0_off1_inb inb_S1_S1_0 (tbl m) (co m hO t) 1 * 1 + 1 * 0 = 0; rw [hi]; rfl
  | ⟨2, _⟩ => show cc0_transform_8 k0_off2_inb numel1_S1 k0_off1_inb inb_S1_S1_0 (tbl m) (co m hO t) 2 * 256 + 1 * q.val = 1024 + 256 * (j - 4) + q.val; rw [hi]; show (4 + outT (tbl m) (co m hO t)) * 256 + 1 * q.val = _; rw [ht]; omega

/-- A hidden step's activations are those of the plain mathematics. -/
theorem hidOf_at (hj : j < 4) (r : Fin 1152) (q : Fin 512) :
    hidOf (xin m hO c t) r q
      = FfnPlain.hidAt (xs m c) (first m c) (firstBias m c) (FfnPlain.expert _ h b) b r ⟨512 * j + q.val, by omega⟩ := by
  unfold hidOf FfnPlain.hidAt
  rw [bg_at m hO c hA h hu hj, bl_at m hO c hA h hu hj]
  simp only [x_at m hO c hA hj, wg_at m hO c hA h hu hj, wl_at m hO c hA h hu hj, Nat.zero_add]

end Blocks

/-! ## The scratch buffer -/

variable (h : FfnPlain.Named (experts m 0)) (hU : ∀ b : Fin 145, 0 < (counts m c (ix1 b)).toInt → Used m b)
include hU

/-- After `k` steps of a block, the first `k` planes of the scratch buffer hold the activations of the rows whose group has rows. -/
theorem good_at (b : Fin 145) (k : Nat) (hk : k ≤ 8) (d : Vec Ideal S4x1152x512 .bf16) (hd : Good m hO c (8 * b.val + k) d)
    (p : Fin 4) (hp : p.val < k) (r : Fin 1152) (hr : ((384 * (r.val / 384) : Nat) : Int) < (counts m c (ix1 b)).toInt) (q : Fin 512) :
    d (ix3 p r q) = FfnPlain.hidAt (xs m c) (first m c) (firstBias m c) (FfnPlain.expert _ h b) b r ⟨512 * p.val + q.val, by omega⟩ := by
  induction k generalizing d with
  | zero => omega
  | succ k ih =>
    obtain ⟨hn, d0, hg, rfl⟩ : ∃ (hn : 8 * b.val + k < (cfgM m hO).N) (d0 : Vec Ideal S4x1152x512 .bf16), Good m hO c (8 * b.val + k) d0
      ∧ d = hidStep (co m hO ⟨8 * b.val + k, hn⟩) (cnt m hO c ⟨8 * b.val + k, hn⟩) (xin m hO c ⟨8 * b.val + k, hn⟩) d0 := hd
    have hA : At m hO ⟨8 * b.val + k, hn⟩ b k := at_point m hO b k (by omega)
    have hu : Used m b := hU b (by omega)
    by_cases e : p.val = k
    · refine (hidStep_hit _ (by rw [hA.step]; omega) _ _ d0 p (by rw [hA.step]; exact e) r q (by rw [cnt_at m hO c hA]; exact hr)).trans ?_
      refine (hidOf_at m hO c hA h hu (by omega) r q).trans ?_
      exact congrArg _ (Fin.ext (by show 512 * k + q.val = 512 * p.val + q.val; omega))
    · refine (hidStep_miss _ _ _ d0 p (by rw [hA.step]; exact e) r q).trans ?_
      exact ih (by omega) d0 hg (by omega)

/-! ## The output planes -/

/-- A row of a column, of the scratch contents a step of the second four finds. -/
theorem outVal_at (b : Fin 145) (j : Nat) (hj : 4 ≤ j) (hj8 : j < 8) (d : Vec Ideal S4x1152x512 .bf16) (hd : Good m hO c (8 * b.val + j) d)
    (w : Vec Ideal S1x2048x256 .f32) (bb : Vec Ideal S1x1x256 .f32) (col : Fin 256) (cl : Fin 2048)
    (hw : Used m b → ∀ f, w (ix3 0 f col) = second m c (ix3 (FfnPlain.expert _ h b) f cl))
    (hb : Used m b → bb (ix3 0 0 col) = secondBias m c (ix2 (FfnPlain.expert _ h b) cl)) (r : Fin 1152) :
    (if ((384 * (r.val / 384) : Nat) : Int) < (counts m c (ix1 b)).toInt then outVal w bb d r col else 0)
      = FfnPlain.outAt (xs m c) (first m c) (firstBias m c) (second m c) (secondBias m c) (FfnPlain.expert _ h b) (counts m c (ix1 b)) b r cl := by
  unfold FfnPlain.outAt
  by_cases hr : ((384 * (r.val / 384) : Nat) : Int) < (counts m c (ix1 b)).toInt
  · rw [if_pos hr, if_pos hr]
    have hu : Used m b := hU b (by omega)
    unfold outVal
    rw [hb hu]
    refine congrArg₂ (fun u v => outOf u v _) (funext fun f => ?_) (funext fun f => hw hu f)
    refine (good_at m hO c h hU b j (by omega) d hd ⟨f.val / 512, by omega⟩ (by show f.val / 512 < j; omega) r hr ⟨f.val % 512, by omega⟩).trans ?_
    exact congrArg _ (Fin.ext (by show 512 * (f.val / 512) + f.val % 512 = f.val; omega))
  · rw [if_neg hr, if_neg hr]

theorem low_at (b : Fin 145) (j : Nat) (hj : j < 4) (t : Fin (cfgM m hO).N) (ht : t.val = 8 * b.val + (4 + j))
    (X : Vec Ideal S9216x128 .f32) (hX : (rdat m hO c).Leaves 9 t X) (r : Fin 1152) (ch : Fin 8) (l : Fin 128) (hc : ch.val / 2 ≤ j) :
    X (at8 r ch l) = FfnPlain.outAt (xs m c) (first m c) (firstBias m c) (second m c) (secondBias m c) (FfnPlain.expert _ h b)
      (counts m c (ix1 b)) b r ⟨0 + 128 * ch.val + l.val, by omega⟩ := by
  induction j generalizing t X with
  | zero =>
    obtain ⟨Y, hY, d, hd, hX⟩ := hX
    have hA : At m hO t b (4 + 0) := by
      have := at_point m hO b (4 + 0) (by omega)
      rwa [show (⟨8 * b.val + (4 + 0), point_lt m hO b (4 + 0) (by omega)⟩ : Fin (cfgM m hO).N) = t from Fin.ext ht.symm] at this
    rw [ht] at hd
    refine (congrFun hX _).trans ?_
    refine (outStep_own _ (by rw [hA.step]) Y r ch l _ _ _ d (by rw [hA.step]; omega)).trans ?_
    rw [cnt_at m hO c hA]
    refine outVal_at m hO c h hU b (4 + 0) (by omega) (by omega) d hd _ _ _ _ (fun hu f => ?_) (fun hu => ?_) r
    · refine (ul_at m hO c hA h hu (by omega) (by omega) f _).trans (congrArg (fun z => second m c (ix3 _ f z)) (Fin.ext ?_))
      show 0 + 256 * (4 + 0 - 4) + (128 * (ch.val % 2) + l.val) = 0 + 128 * ch.val + l.val
      omega
    · refine (cl_at m hO c hA h hu (by omega) (by omega) _).trans (congrArg (fun z => secondBias m c (ix2 _ z)) (Fin.ext ?_))
      show 0 + 256 * (4 + 0 - 4) + (128 * (ch.val % 2) + l.val) = 0 + 128 * ch.val + l.val
      omega
  | succ j ih =>
    obtain ⟨Y, hY, d, hd, hX⟩ := hX
    have hA : At m hO t b (4 + (j + 1)) := by
      have := at_point m hO b (4 + (j + 1)) (by omega)
      rwa [show (⟨8 * b.val + (4 + (j + 1)), point_lt m hO b (4 + (j + 1)) (by omega)⟩ : Fin (cfgM m hO).N) = t from Fin.ext ht.symm] at this
    rw [ht] at hd
    refine (congrFun hX _).trans ?_
    by_cases e : ch.val / 2 = j + 1
    · refine (outStep_own _ (by rw [hA.step]; omega) Y r ch l _ _ _ d (by rw [hA.step]; omega)).trans ?_
      rw [cnt_at m hO c hA]
      refine outVal_at m hO c h hU b (4 + (j + 1)) (by omega) (by omega) d hd _ _ _ _ (fun hu f => ?_) (fun hu => ?_) r
      · refine (ul_at m hO c hA h hu (by omega) (by omega) f _).trans (congrArg (fun z => second m c (ix3 _ f z)) (Fin.ext ?_))
        show 0 + 256 * (4 + (j + 1) - 4) + (128 * (ch.val % 2) + l.val) = 0 + 128 * ch.val + l.val
        omega
      · refine (cl_at m hO c hA h hu (by omega) (by omega) _).trans (congrArg (fun z => secondBias m c (ix2 _ z)) (Fin.ext ?_))
        show 0 + 256 * (4 + (j + 1) - 4) + (128 * (ch.val % 2) + l.val) = 0 + 128 * ch.val + l.val
        omega
    · refine (outStep_other _ (by rw [hA.step]; omega) Y r ch l _ _ _ d (by rw [hA.step]; omega)).trans ?_
      rcases ((rdat m hO c).finds_of_pos (Window.fetch_out _ rfl t) (by omega) Y).1 hY with hf | hl
      · have hf' := (flush9 m hO _).symm.trans hf
        have hm := of_decide_eq_true hf'
        dsimp only at hm
        omega
      · exact ih (by omega) _ (by dsimp only; omega) Y hl (by omega)

theorem high_at (b : Fin 145) (j : Nat) (hj : j < 4) (t : Fin (cfgM m hO).N) (ht : t.val = 8 * b.val + (4 + j))
    (X : Vec Ideal S9216x128 .f32) (hX : (rdat m hO c).Leaves 10 t X) (r : Fin 1152) (ch : Fin 8) (l : Fin 128) (hc : ch.val / 2 ≤ j) :
    X (at8 r ch l) = FfnPlain.outAt (xs m c) (first m c) (firstBias m c) (second m c) (secondBias m c) (FfnPlain.expert _ h b)
      (counts m c (ix1 b)) b r ⟨1024 + 128 * ch.val + l.val, by omega⟩ := by
  induction j generalizing t X with
  | zero =>
    obtain ⟨Y, hY, d, hd, hX⟩ := hX
    have hA : At m hO t b (4 + 0) := by
      have := at_point m hO b (4 + 0) (by omega)
      rwa [show (⟨8 * b.val + (4 + 0), point_lt m hO b (4 + 0) (by omega)⟩ : Fin (cfgM m hO).N) = t from Fin.ext ht.symm] at this
    rw [ht] at hd
    refine (congrFun hX _).trans ?_
    refine (outStep_own _ (by rw [hA.step]) Y r ch l _ _ _ d (by rw [hA.step]; omega)).trans ?_
    rw [cnt_at m hO c hA]
    refine outVal_at m hO c h hU b (4 + 0) (by omega) (by omega) d hd _ _ _ _ (fun hu f => ?_) (fun hu => ?_) r
    · refine (uh_at m hO c hA h hu (by omega) (by omega) f _).trans (congrArg (fun z => second m c (ix3 _ f z)) (Fin.ext ?_))
      show 1024 + 256 * (4 + 0 - 4) + (128 * (ch.val % 2) + l.val) = 1024 + 128 * ch.val + l.val
      omega
    · refine (ch_at m hO c hA h hu (by omega) (by omega) _).trans (congrArg (fun z => secondBias m c (ix2 _ z)) (Fin.ext ?_))
      show 1024 + 256 * (4 + 0 - 4) + (128 * (ch.val % 2) + l.val) = 1024 + 128 * ch.val + l.val
      omega
  | succ j ih =>
    obtain ⟨Y, hY, d, hd, hX⟩ := hX
    have hA : At m hO t b (4 + (j + 1)) := by
      have := at_point m hO b (4 + (j + 1)) (by omega)
      rwa [show (⟨8 * b.val + (4 + (j + 1)), point_lt m hO b (4 + (j + 1)) (by omega)⟩ : Fin (cfgM m hO).N) = t from Fin.ext ht.symm] at this
    rw [ht] at hd
    refine (congrFun hX _).trans ?_
    by_cases e : ch.val / 2 = j + 1
    · refine (outStep_own _ (by rw [hA.step]; omega) Y r ch l _ _ _ d (by rw [hA.step]; omega)).trans ?_
      rw [cnt_at m hO c hA]
      refine outVal_at m hO c h hU b (4 + (j + 1)) (by omega) (by omega) d hd _ _ _ _ (fun hu f => ?_) (fun hu => ?_) r
      · refine (uh_at m hO c hA h hu (by omega) (by omega) f _).trans (congrArg (fun z => second m c (ix3 _ f z)) (Fin.ext ?_))
        show 1024 + 256 * (4 + (j + 1) - 4) + (128 * (ch.val % 2) + l.val) = 1024 + 128 * ch.val + l.val
        omega
      · refine (ch_at m hO c hA h hu (by omega) (by omega) _).trans (congrArg (fun z => secondBias m c (ix2 _ z)) (Fin.ext ?_))
        show 1024 + 256 * (4 + (j + 1) - 4) + (128 * (ch.val % 2) + l.val) = 1024 + 128 * ch.val + l.val
        omega
    · refine (outStep_other _ (by rw [hA.step]; omega) Y r ch l _ _ _ d (by rw [hA.step]; omega)).trans ?_
      rcases ((rdat m hO c).finds_of_pos (Window.fetch_out _ rfl t) (by omega) Y).1 hY with hf | hl
      · have hf' := (flush10 m hO _).symm.trans hf
        have hm := of_decide_eq_true hf'
        dsimp only at hm
        omega
      · exact ih (by omega) _ (by dsimp only; omega) Y hl (by omega)

end Cert.Kernel4Ideal.Ffn

end
-- ==== Proof.FfnRef.lean ====
/- The experts' reference at an index. -/
module

public import proofs.«01_k».proof.Proof.FfnPlain
public import proofs.«01_k».proof.Proof.Words
public import proofs.«01_k».proof.Proof.Gen.Reference4Ideal.Read

@[expose] public section

noncomputable section

namespace Cert.FfnRef

open Idealize.ShloMosaic Idealize.ShloMosaic.ValueIdx
open Cert.Reference4Ideal Cert.Reference4Ideal.Gen Cert.Reference4Ideal.Read
open Cert.FfnPlain (Rows First FirstBias Second SecondBias Named expert hidAt outAt plane)
open Cert.Kernel4Ideal.Ffn (lit act hidden outOf)

/-! ## The gathers -/

theorem clamped (w : BitVec 32) (k : Fin 32) (h : w.toNat = k.val) : min w.toInt.toNat 31 = k.val := by
  rw [BitVec.toInt_eq_toNat_of_lt (by omega)]
  omega

theorem gather1 {α : Type} (x : S32x2048x4096.Idx → α) (idx : IVec S145x1 32) (k : Fin 32) (b : Fin 145) (f : Fin 2048) (q : Fin 4096)
    (h : (idx (ix2 b 0)).toNat = k.val) : Host.gather gather_S32x2048x4096_S145x1_S145x2048x4096_12_0_n_n_0_1_120484096 x idx (ix3 b f q) = x (ix3 k f q) := by
  unfold Host.gather
  refine congrArg x (funext fun a => Fin.ext ?_)
  show gather_S32x2048x4096_S145x1_S145x2048x4096_12_0_n_n_0_1_120484096.start (ix3 b f q) idx a + gather_S32x2048x4096_S145x1_S145x2048x4096_12_0_n_n_0_1_120484096.batchCoord (ix3 b f q) a
    + gather_S32x2048x4096_S145x1_S145x2048x4096_12_0_n_n_0_1_120484096.offCoord (ix3 b f q) a = _
  rw [GatherDims.batchCoord_eq_zero _ _ _ List.not_mem_nil, Nat.add_zero]
  rcases (by match a with | ⟨0, _⟩ => exact .inl rfl | ⟨1, _⟩ => exact .inr (.inl rfl) | ⟨2, _⟩ => exact .inr (.inr rfl) : a = 0 ∨ a = 1 ∨ a = 2) with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x2048x4096_S145x1_S145x2048x4096_12_0_n_n_0_1_120484096.startIndexMap from List.mem_singleton.mpr rfl)]
    have hsi : gather_S32x2048x4096_S145x1_S145x2048x4096_12_0_n_n_0_1_120484096.siIdx (ix3 b f q) ⟨List.idxOf (0 : Fin 3) gather_S32x2048x4096_S145x1_S145x2048x4096_12_0_n_n_0_1_120484096.startIndexMap,
        List.idxOf_lt_length_iff.2 (List.mem_singleton.mpr rfl)⟩ = ix2 b 0 := by
      funext j; refine Fin.ext ?_
      match j with
      | ⟨0, _⟩ => rfl
      | ⟨1, _⟩ => rfl
    rw [hsi]
    exact clamped _ k h
  · unfold GatherDims.start GatherDims.offCoord
    rw [dif_neg (show ¬(1 : Fin 3) ∈ gather_S32x2048x4096_S145x1_S145x2048x4096_12_0_n_n_0_1_120484096.startIndexMap by decide), Nat.zero_add, dif_pos (by decide)]
    rfl
  · unfold GatherDims.start GatherDims.offCoord
    rw [dif_neg (show ¬(2 : Fin 3) ∈ gather_S32x2048x4096_S145x1_S145x2048x4096_12_0_n_n_0_1_120484096.startIndexMap by decide), Nat.zero_add, dif_pos (by decide)]
    rfl

theorem gather1b {α : Type} (x : S32x4096.Idx → α) (idx : IVec S145x1 32) (k : Fin 32) (b : Fin 145) (q : Fin 4096)
    (h : (idx (ix2 b 0)).toNat = k.val) : Host.gather gather_S32x4096_S145x1_S145x4096_1_0_n_n_0_1_14096 x idx (ix2 b q) = x (ix2 k q) := by
  unfold Host.gather
  refine congrArg x (funext fun a => Fin.ext ?_)
  show gather_S32x4096_S145x1_S145x4096_1_0_n_n_0_1_14096.start (ix2 b q) idx a + gather_S32x4096_S145x1_S145x4096_1_0_n_n_0_1_14096.batchCoord (ix2 b q) a
    + gather_S32x4096_S145x1_S145x4096_1_0_n_n_0_1_14096.offCoord (ix2 b q) a = _
  rw [GatherDims.batchCoord_eq_zero _ _ _ List.not_mem_nil, Nat.add_zero]
  rcases (by match a with | ⟨0, _⟩ => exact .inl rfl | ⟨1, _⟩ => exact .inr rfl : a = 0 ∨ a = 1) with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x4096_S145x1_S145x4096_1_0_n_n_0_1_14096.startIndexMap from List.mem_singleton.mpr rfl)]
    have hsi : gather_S32x4096_S145x1_S145x4096_1_0_n_n_0_1_14096.siIdx (ix2 b q) ⟨List.idxOf (0 : Fin 2) gather_S32x4096_S145x1_S145x4096_1_0_n_n_0_1_14096.startIndexMap,
        List.idxOf_lt_length_iff.2 (List.mem_singleton.mpr rfl)⟩ = ix2 b 0 := by
      funext j; refine Fin.ext ?_
      match j with
      | ⟨0, _⟩ => rfl
      | ⟨1, _⟩ => rfl
    rw [hsi]
    exact clamped _ k h
  · unfold GatherDims.start GatherDims.offCoord
    rw [dif_neg (show ¬(1 : Fin 2) ∈ gather_S32x4096_S145x1_S145x4096_1_0_n_n_0_1_14096.startIndexMap by decide), Nat.zero_add, dif_pos (by decide)]
    rfl

theorem gather2 {α : Type} (x : S32x2048x2048.Idx → α) (idx : IVec S145x1 32) (k : Fin 32) (b : Fin 145) (f : Fin 2048) (q : Fin 2048)
    (h : (idx (ix2 b 0)).toNat = k.val) : Host.gather gather_S32x2048x2048_S145x1_S145x2048x2048_12_0_n_n_0_1_120482048 x idx (ix3 b f q) = x (ix3 k f q) := by
  unfold Host.gather
  refine congrArg x (funext fun a => Fin.ext ?_)
  show gather_S32x2048x2048_S145x1_S145x2048x2048_12_0_n_n_0_1_120482048.start (ix3 b f q) idx a + gather_S32x2048x2048_S145x1_S145x2048x2048_12_0_n_n_0_1_120482048.batchCoord (ix3 b f q) a
    + gather_S32x2048x2048_S145x1_S145x2048x2048_12_0_n_n_0_1_120482048.offCoord (ix3 b f q) a = _
  rw [GatherDims.batchCoord_eq_zero _ _ _ List.not_mem_nil, Nat.add_zero]
  rcases (by match a with | ⟨0, _⟩ => exact .inl rfl | ⟨1, _⟩ => exact .inr (.inl rfl) | ⟨2, _⟩ => exact .inr (.inr rfl) : a = 0 ∨ a = 1 ∨ a = 2) with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x2048x2048_S145x1_S145x2048x2048_12_0_n_n_0_1_120482048.startIndexMap from List.mem_singleton.mpr rfl)]
    have hsi : gather_S32x2048x2048_S145x1_S145x2048x2048_12_0_n_n_0_1_120482048.siIdx (ix3 b f q) ⟨List.idxOf (0 : Fin 3) gather_S32x2048x2048_S145x1_S145x2048x2048_12_0_n_n_0_1_120482048.startIndexMap,
        List.idxOf_lt_length_iff.2 (List.mem_singleton.mpr rfl)⟩ = ix2 b 0 := by
      funext j; refine Fin.ext ?_
      match j with
      | ⟨0, _⟩ => rfl
      | ⟨1, _⟩ => rfl
    rw [hsi]
    exact clamped _ k h
  · unfold GatherDims.start GatherDims.offCoord
    rw [dif_neg (show ¬(1 : Fin 3) ∈ gather_S32x2048x2048_S145x1_S145x2048x2048_12_0_n_n_0_1_120482048.startIndexMap by decide), Nat.zero_add, dif_pos (by decide)]
    rfl
  · unfold GatherDims.start GatherDims.offCoord
    rw [dif_neg (show ¬(2 : Fin 3) ∈ gather_S32x2048x2048_S145x1_S145x2048x2048_12_0_n_n_0_1_120482048.startIndexMap by decide), Nat.zero_add, dif_pos (by decide)]
    rfl

theorem gather2b {α : Type} (x : S32x2048.Idx → α) (idx : IVec S145x1 32) (k : Fin 32) (b : Fin 145) (q : Fin 2048)
    (h : (idx (ix2 b 0)).toNat = k.val) : Host.gather gather_S32x2048_S145x1_S145x2048_1_0_n_n_0_1_12048 x idx (ix2 b q) = x (ix2 k q) := by
  unfold Host.gather
  refine congrArg x (funext fun a => Fin.ext ?_)
  show gather_S32x2048_S145x1_S145x2048_1_0_n_n_0_1_12048.start (ix2 b q) idx a + gather_S32x2048_S145x1_S145x2048_1_0_n_n_0_1_12048.batchCoord (ix2 b q) a
    + gather_S32x2048_S145x1_S145x2048_1_0_n_n_0_1_12048.offCoord (ix2 b q) a = _
  rw [GatherDims.batchCoord_eq_zero _ _ _ List.not_mem_nil, Nat.add_zero]
  rcases (by match a with | ⟨0, _⟩ => exact .inl rfl | ⟨1, _⟩ => exact .inr rfl : a = 0 ∨ a = 1) with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x2048_S145x1_S145x2048_1_0_n_n_0_1_12048.startIndexMap from List.mem_singleton.mpr rfl)]
    have hsi : gather_S32x2048_S145x1_S145x2048_1_0_n_n_0_1_12048.siIdx (ix2 b q) ⟨List.idxOf (0 : Fin 2) gather_S32x2048_S145x1_S145x2048_1_0_n_n_0_1_12048.startIndexMap,
        List.idxOf_lt_length_iff.2 (List.mem_singleton.mpr rfl)⟩ = ix2 b 0 := by
      funext j; refine Fin.ext ?_
      match j with
      | ⟨0, _⟩ => rfl
      | ⟨1, _⟩ => rfl
    rw [hsi]
    exact clamped _ k h
  · unfold GatherDims.start GatherDims.offCoord
    rw [dif_neg (show ¬(1 : Fin 2) ∈ gather_S32x2048_S145x1_S145x2048_1_0_n_n_0_1_12048.startIndexMap by decide), Nat.zero_add, dif_pos (by decide)]
    rfl

/-! ## A row -/

section
variable (x : Rows) (w1 : First) (b1 : FirstBias) (w2 : Second) (b2 : SecondBias) (e r : FfnPlain.Words) (h : Named e)

theorem start_at (b : Fin 145) : (val_main_call0_v0 (F := Ideal) e (ix2 b 0)).toNat = (expert e h b).val := by
  rw [val_main_call0_v0_apply]
  show (e _).toNat = (e (ix1 b)).toNat
  exact congrArg (fun i => (e i).toNat) (funext fun a => Fin.ext (by match a with | ⟨0, _⟩ => rfl))

theorem first_at (b : Fin 145) (row : Fin 1152) (q : Fin 4096) :
    val_main_v7 (F := Ideal) x w1 b1 e (ix3 b row q)
      = (∑ k : Fin 2048, x (ix2 ⟨1152 * b.val + row.val, by omega⟩ k) * w1 (ix3 (expert e h b) k q)) + b1 (ix2 (expert e h b) q) := by
  rw [val_main_v7_apply, val_main_v3_apply, val_main_v6_apply, val_main_v5_apply]
  refine congrArg₂ (fun u v : EReal => u + v) (Finset.sum_congr rfl fun k _ => congrArg₂ (fun u v : EReal => u * v) ?_ ?_) ?_
  · rw [val_main_v0_apply]
    refine congrArg x (funext fun a => Fin.ext ?_)
    match a with
    | ⟨0, _⟩ => show ((b.val * 1152 + row.val) * 2048 + k.val) / 2048 = 1152 * b.val + row.val; omega
    | ⟨1, _⟩ => show ((b.val * 1152 + row.val) * 2048 + k.val) % 2048 = k.val; omega
  · have hi : ridx_main_v3 (ix3 b row q) k = ix3 b k q := funext fun a => Fin.ext (by match a with | ⟨0, _⟩ => rfl | ⟨1, _⟩ => rfl | ⟨2, _⟩ => rfl)
    rw [hi, val_main_v2_apply]
    exact gather1 w1 _ (expert e h b) b k q (start_at e h b)
  · have hi : idx_main_v5 (idx_main_v6 (ix3 b row q)) = ix2 b q := funext fun a => Fin.ext (by match a with | ⟨0, _⟩ => rfl | ⟨1, _⟩ => rfl)
    rw [hi]
    exact gather1b b1 _ (expert e h b) b q (start_at e h b)

theorem hid_at (b : Fin 145) (row : Fin 1152) (f : Fin 2048) :
    val_main_v25 (F := Ideal) x w1 b1 e (ix3 b row f) = hidAt x w1 b1 (expert e h b) b row f := by
  have hg : idx_main_v8 (ix3 b row f) = ix3 b row ⟨f.val, by omega⟩ := funext fun a => Fin.ext (by
    match a with
    | ⟨0, _⟩ => first | rfl | (show 0 + b.val = b.val; omega)
    | ⟨1, _⟩ => first | rfl | (show 0 + row.val = row.val; omega)
    | ⟨2, _⟩ => first | rfl | (show 0 + f.val = f.val; omega))
  have hl : idx_main_v11 (ix3 b row f) = ix3 b row ⟨2048 + f.val, by omega⟩ := funext fun a => Fin.ext (by
    match a with
    | ⟨0, _⟩ => first | rfl | (show 0 + b.val = b.val; omega)
    | ⟨1, _⟩ => first | rfl | (show 0 + row.val = row.val; omega)
    | ⟨2, _⟩ => first | rfl | (show f.val + 2048 = 2048 + f.val; omega))
  have eg := first_at x w1 b1 e h b row ⟨f.val, by omega⟩
  have el := first_at x w1 b1 e h b row ⟨2048 + f.val, by omega⟩
  have e10 : val_main_v10 (F := Ideal) x w1 b1 e (ix3 b row f)
      = min (val_main_v7 (F := Ideal) x w1 b1 e (ix3 b row ⟨f.val, by omega⟩)) (lit 0x40E00000#32) := by
    rw [val_main_v10_apply, val_main_v8_apply, val_main_v9_apply, val_main_cst_apply, hg]; rfl
  have e12 : val_main_v12 (F := Ideal) x w1 b1 e (ix3 b row f)
      = min (lit 0x40E00000#32) (max (lit 0xC0E00000#32) (val_main_v7 (F := Ideal) x w1 b1 e (ix3 b row ⟨2048 + f.val, by omega⟩))) := by
    rw [val_main_v12_apply, val_main_call2_v4_apply, val_main_call2_v3_apply, val_main_cst_1_apply, val_main_call2_v2_apply,
      val_main_call2_v1_apply, val_main_call2_v0_apply, val_main_cst_0_apply, val_main_v11_apply, hl]; rfl
  rw [val_main_v25_apply, val_main_v24_apply, val_main_v21_apply, val_main_v23_apply, val_main_v22_apply, val_main_cst_5_apply,
    val_main_v20_apply, val_main_v19_apply, val_main_cst_4_apply, val_main_v18_apply, val_main_v17_apply, val_main_cst_3_apply,
    val_main_v16_apply, val_main_v15_apply, val_main_v14_apply, val_main_v13_apply, val_main_cst_2_apply, e12, e10, eg, el]
  rfl

theorem out_at (b : Fin 145) (row : Fin 1152) (col : Fin 2048) :
    val_main_v32 (F := Ideal) x w1 b1 w2 b2 e (ix3 b row col)
      = outOf (hidAt x w1 b1 (expert e h b) b row) (fun f => w2 (ix3 (expert e h b) f col)) (b2 (ix2 (expert e h b) col)) := by
  rw [val_main_v32_apply, val_main_v28_apply, val_main_v31_apply, val_main_v30_apply]
  refine congrArg₂ (fun u v : EReal => u + v) (Finset.sum_congr rfl fun k _ => congrArg₂ (fun u v : EReal => u * v) ?_ ?_) ?_
  · have hi : lidx_main_v28 (ix3 b row col) k = ix3 b row k := funext fun a => Fin.ext (by match a with | ⟨0, _⟩ => rfl | ⟨1, _⟩ => rfl | ⟨2, _⟩ => rfl)
    rw [hi]
    exact hid_at x w1 b1 e h b row k
  · have hi : ridx_main_v28 (ix3 b row col) k = ix3 b k col := funext fun a => Fin.ext (by match a with | ⟨0, _⟩ => rfl | ⟨1, _⟩ => rfl | ⟨2, _⟩ => rfl)
    rw [hi, val_main_v27_apply]
    exact gather2 w2 _ (expert e h b) b k col (start_at e h b)
  · have hi : idx_main_v30 (idx_main_v31 (ix3 b row col)) = ix2 b col := funext fun a => Fin.ext (by match a with | ⟨0, _⟩ => rfl | ⟨1, _⟩ => rfl)
    rw [hi]
    exact gather2b b2 _ (expert e h b) b col (start_at e h b)

theorem group_word : ∀ a : Fin 1152,
    IntOp.muli (IntOp.divsi .host (BitVec.ofNat 32 a.val) 384#32) 384#32 = BitVec.ofNat 32 (384 * (a.val / 384)) := by
  decide +kernel

theorem masked_at (b : Fin 145) (row : Fin 1152) (col : Fin 2048) :
    val_main_v43 (F := Ideal) x w1 b1 w2 b2 e r (ix3 b row col)
      = outAt x w1 b1 w2 b2 (expert e h b) (r (ix1 b)) b row col := by
  rw [val_main_v43_apply, val_main_v42_apply, val_main_v41_apply, out_at x w1 b1 w2 b2 e h]
  have hw : val_main_v37 (F := Ideal) (ix3 b row col) = BitVec.ofNat 32 (384 * (row.val / 384)) := by
    rw [val_main_v37_apply, val_main_v35_apply, val_main_v33_apply, val_main_v34_apply, val_main_c_apply, val_main_v36_apply,
      val_main_c_6_apply]
    exact group_word row
  have hr : val_main_v39 (F := Ideal) r (ix3 b row col) = r (ix1 b) := by
    rw [val_main_v39_apply, val_main_v38_apply]
    exact congrArg r (funext fun a => Fin.ext (by match a with | ⟨0, _⟩ => rfl))
  have hz : val_main_call5_v1 (F := Ideal) (ix3 b row col) = 0 := by
    rw [val_main_call5_v1_apply, val_main_call5_v0_apply, val_main_cst_7_apply]
    exact Ideal.ofBits_zero_f32
  have hc : val_main_v40 (F := Ideal) r (ix3 b row col)
      = BitVec.ofBool (decide (((384 * (row.val / 384) : Nat) : Int) < (r (ix1 b)).toInt)) := by
    rw [val_main_v40_apply, hw, hr]
    unfold IntOp.cmpi
    dsimp only
    rw [BitVec.slt_eq_decide, Words.toInt_small _ (by omega)]
  rw [hc, hz]
  exact Words.select_ofBool _ _ _

theorem half_at (off : Nat) (ho : off ≤ 1024) (i : S1336320x128.Idx) (j : S167040x2048.Idx)
    (h0 : (j 0).val = (i 0).val / 8) (h1 : (j 1).val = off + 128 * ((i 0).val % 8) + (i 1).val) :
    val_main_v44 (F := Ideal) x w1 b1 w2 b2 e r j = plane off ho x w1 b1 w2 b2 e r h i := by
  have hi0 : (i 0).val < 1336320 := (i 0).isLt
  have hi1 : (i 1).val < 128 := (i 1).isLt
  have hj : idx_main_v44 j = ix3 ⟨(i 0).val / 8 / 1152, by omega⟩ ⟨(i 0).val / 8 % 1152, by omega⟩
      ⟨off + 128 * ((i 0).val % 8) + (i 1).val, by omega⟩ := funext fun a => Fin.ext (by
    match a with
    | ⟨0, _⟩ => show ((j 0).val * 2048 + (j 1).val) / 2359296 = (i 0).val / 8 / 1152; omega
    | ⟨1, _⟩ => show ((j 0).val * 2048 + (j 1).val) / 2048 % 1152 = (i 0).val / 8 % 1152; omega
    | ⟨2, _⟩ => show ((j 0).val * 2048 + (j 1).val) % 2048 = off + 128 * ((i 0).val % 8) + (i 1).val; omega)
  rw [val_main_v44_apply, hj]
  exact masked_at x w1 b1 w2 b2 e r h _ _ _

theorem low_eq : val_main_v46 (F := Ideal) x w1 b1 w2 b2 e r = plane 0 (by omega) x w1 b1 w2 b2 e r h := by
  funext i
  have hi0 : (i 0).val < 1336320 := (i 0).isLt
  have hi1 : (i 1).val < 128 := (i 1).isLt
  rw [val_main_v46_apply, val_main_v45_apply]
  refine half_at x w1 b1 w2 b2 e r h 0 (by omega) i _ ?_ ?_
  · show ((i 0).val * 128 + (i 1).val) / 1024 = (i 0).val / 8; omega
  · show ((i 0).val * 128 + (i 1).val) % 1024 = 0 + 128 * ((i 0).val % 8) + (i 1).val; omega

theorem high_eq : val_main_v48 (F := Ideal) x w1 b1 w2 b2 e r = plane 1024 (by omega) x w1 b1 w2 b2 e r h := by
  funext i
  have hi0 : (i 0).val < 1336320 := (i 0).isLt
  have hi1 : (i 1).val < 128 := (i 1).isLt
  rw [val_main_v48_apply, val_main_v47_apply]
  refine half_at x w1 b1 w2 b2 e r h 1024 (by omega) i _ ?_ ?_
  · show ((i 0).val * 128 + (i 1).val) / 1024 = (i 0).val / 8; omega
  · show 1024 + ((i 0).val * 128 + (i 1).val) % 1024 = 1024 + 128 * ((i 0).val % 8) + (i 1).val; omega

end

end Cert.FfnRef

end
-- ==== Proof.FfnValue.lean ====
/- The experts' two results: the kernel's run, and the reference's. -/
module

public import proofs.«01_k».proof.Proof.FfnBlock
public import proofs.«01_k».proof.Proof.FfnRef
public import proofs.«01_k».proof.Proof.FfnCounted
public import Idealize.ShloMosaic.Lib.Pipeline.ArrRel

@[expose] public section

noncomputable section

namespace Cert.Kernel4Ideal.Ffn

open Cert.Kernel4Ideal.Gen
open Cert.FfnWords (step)
open Idealize.ShloMosaic
open Idealize.ShloMosaic.TcCoe Idealize.ShloMosaic.ValueIdx Idealize.SL.Sem
open Idealize.ShloMosaic.Pipeline (Dat RDat Cfg Window)

/-- A plane at a row of a block, a chunk and a lane. -/
theorem plane_at (off : Nat) (ho : off ≤ 1024) (x w1 b1 w2 b2 e r) (h : FfnPlain.Named e) (i : (⟨2, ![1336320, 128]⟩ : Shape).Idx)
    (b : Fin 145) (row : Fin 1152) (ch : Fin 8) (l : Fin 128)
    (h0 : (i 0).val = (1152 * b.val + row.val) * 8 + ch.val) (h1 : (i 1).val = l.val) :
    FfnPlain.plane off ho x w1 b1 w2 b2 e r h i
      = FfnPlain.outAt x w1 b1 w2 b2 (FfnPlain.expert e h b) (r (ix1 b)) b row ⟨off + 128 * ch.val + l.val, by omega⟩ := by
  have key : ∀ (b' : Fin 145) (row' : Fin 1152) (col' : Fin 2048), b' = b → row' = row → col' = ⟨off + 128 * ch.val + l.val, by omega⟩ →
      FfnPlain.outAt x w1 b1 w2 b2 (FfnPlain.expert e h b') (r (ix1 b')) b' row' col'
        = FfnPlain.outAt x w1 b1 w2 b2 (FfnPlain.expert e h b) (r (ix1 b)) b row ⟨off + 128 * ch.val + l.val, by omega⟩ := by
    rintro _ _ _ rfl rfl rfl
    rfl
  unfold FfnPlain.plane
  refine key _ _ _ (Fin.ext ?_) (Fin.ext ?_) (Fin.ext ?_)
  · show (i 0).val / 8 / 1152 = b.val; omega
  · show (i 0).val / 8 % 1152 = row.val; omega
  · show off + 128 * ((i 0).val % 8) + (i 1).val = off + 128 * ch.val + l.val; omega

theorem index9 (i : grid0.Coords) : cc0_transform_9 i = ![(i 0).val, 0] := by
  unfold cc0_transform_9; dsimp only
  have : (BitVec.ofNat 32 (i 0).val).toNat = (i 0).val := by
    rw [BitVec.toNat_ofNat]; have := block_lt i; omega
  rw [this]; rfl
theorem index10 (i : grid0.Coords) : cc0_transform_10 i = ![(i 0).val, 0] := index9 i

variable (m : (ℓ : Loc nD τ sig) → Buf (Elt Ideal) ℓ) (ρ : Dev nD → PrngReg) (hO : Ok m) (c : Dev nD)

/-! ## The arrays -/

theorem covers9 : ((cfgM m hO).win 9).Covers := by
  refine ⟨fun a => ?_, fun β => ?_⟩
  · match a with
    | ⟨0, _⟩ => show 0 < 9216; omega
    | ⟨1, _⟩ => show 0 < 128; omega
  · have b0 : (β (0 : Fin 2)).val < 145 := lt_of_lt_of_eq (β (0 : Fin 2)).isLt (show (1336320 + 9216 - 1) / 9216 = 145 by omega)
    have b1 : (β (1 : Fin 2)).val < 1 := lt_of_lt_of_eq (β (1 : Fin 2)).isLt (show (128 + 128 - 1) / 128 = 1 by omega)
    refine ⟨⟨8 * (β (0 : Fin 2)).val + 7, point_lt m hO ⟨(β (0 : Fin 2)).val, b0⟩ 7 (by omega)⟩, ?_, fun a => ⟨?_, Or.inl rfl⟩⟩
    · exact (flush9 m hO _).trans (decide_eq_true (by show (8 * (β (0 : Fin 2)).val + 7) % 8 = 7; omega))
    · match a with
      | ⟨0, _⟩ =>
        show cc0_transform_9 (co m hO ⟨8 * (β (0 : Fin 2)).val + 7, point_lt m hO ⟨(β (0 : Fin 2)).val, b0⟩ 7 (by omega)⟩) 0 = (β (0 : Fin 2)).val
        rw [index9, show ∀ n : Nat, (![n, 0] : Fin 2 → Nat) 0 = n from fun _ => rfl, co0]
        show (8 * (β (0 : Fin 2)).val + 7) / 8 = (β (0 : Fin 2)).val
        omega
      | ⟨1, _⟩ =>
        show cc0_transform_9 (co m hO ⟨8 * (β (0 : Fin 2)).val + 7, point_lt m hO ⟨(β (0 : Fin 2)).val, b0⟩ 7 (by omega)⟩) 1 = (β (1 : Fin 2)).val
        rw [index9]
        show 0 = (β (1 : Fin 2)).val
        omega
theorem covers10 : ((cfgM m hO).win 10).Covers := by
  refine ⟨fun a => ?_, fun β => ?_⟩
  · match a with
    | ⟨0, _⟩ => show 0 < 9216; omega
    | ⟨1, _⟩ => show 0 < 128; omega
  · have b0 : (β (0 : Fin 2)).val < 145 := lt_of_lt_of_eq (β (0 : Fin 2)).isLt (show (1336320 + 9216 - 1) / 9216 = 145 by omega)
    have b1 : (β (1 : Fin 2)).val < 1 := lt_of_lt_of_eq (β (1 : Fin 2)).isLt (show (128 + 128 - 1) / 128 = 1 by omega)
    refine ⟨⟨8 * (β (0 : Fin 2)).val + 7, point_lt m hO ⟨(β (0 : Fin 2)).val, b0⟩ 7 (by omega)⟩, ?_, fun a => ⟨?_, Or.inl rfl⟩⟩
    · exact (flush10 m hO _).trans (decide_eq_true (by show (8 * (β (0 : Fin 2)).val + 7) % 8 = 7; omega))
    · match a with
      | ⟨0, _⟩ =>
        show cc0_transform_10 (co m hO ⟨8 * (β (0 : Fin 2)).val + 7, point_lt m hO ⟨(β (0 : Fin 2)).val, b0⟩ 7 (by omega)⟩) 0 = (β (0 : Fin 2)).val
        rw [index10, show ∀ n : Nat, (![n, 0] : Fin 2 → Nat) 0 = n from fun _ => rfl, co0]
        show (8 * (β (0 : Fin 2)).val + 7) / 8 = (β (0 : Fin 2)).val
        omega
      | ⟨1, _⟩ =>
        show cc0_transform_10 (co m hO ⟨8 * (β (0 : Fin 2)).val + 7, point_lt m hO ⟨(β (0 : Fin 2)).val, b0⟩ 7 (by omega)⟩) 1 = (β (1 : Fin 2)).val
        rw [index10]
        show 0 = (β (1 : Fin 2)).val
        omega

variable (h : FfnPlain.Named (experts m 0))

/-- The plane of the 1024 columns from `off` on, of the arguments as launched. -/
abbrev planeOf (off : Nat) (ho : off ≤ 1024) : FfnPlain.Plane :=
  FfnPlain.plane off ho (xs m c) (first m c) (firstBias m c) (second m c) (secondBias m c) (experts m 0) (counts m c) h

section
variable (hU : ∀ b : Fin 145, 0 < (counts m c (ix1 b)).toInt → Used m b)
include hU

theorem low_array (after : (w : Fin (cfgM m hO).W) → Fin (cfgM m hO).N → ((cfgM m hO).win w).block.Idx → Elt Ideal ((cfgM m hO).win w).elt)
    (hL : ∀ t, ((cfgM m hO).win 9).flush t = true → (rdat m hO c).Leaves 9 t (after 9 t)) :
    ((rdat m hO c).withAfter after).arrAt 9 (cfgM m hO).N = planeOf m c h 0 (by omega) := by
  refine Pipeline.Dat.arrAt_eq_of_covers _ 9 _ (covers9 m hO) (fun t hf => ?_) (Memref.isWhole_whole _)
  change ∀ y : (⟨2, ![9216, 128]⟩ : Shape).Idx, _
  intro y
  have h8 : t.val % 8 = 7 := of_decide_eq_true ((flush9 m hO t).symm.trans hf)
  have hn : t.val < 1160 := t.isLt
  have y0 : (y 0).val < 9216 := (y 0).isLt
  have y1 : (y 1).val < 128 := (y 1).isLt
  have hy : y = at8 ⟨(y 0).val / 8, by omega⟩ ⟨(y 0).val % 8, by omega⟩ ⟨(y 1).val, y1⟩ := by
    funext a
    refine Fin.ext ?_
    match a with
    | ⟨0, _⟩ => show (y 0).val = 8 * ((y 0).val / 8) + (y 0).val % 8; omega
    | ⟨1, _⟩ => rfl
  have hX := low_at m hO c h hU ⟨t.val / 8, by omega⟩ 3 (by omega) t (by show t.val = 8 * (t.val / 8) + (4 + 3); omega) (after 9 t) (hL t hf)
    ⟨(y 0).val / 8, by omega⟩ ⟨(y 0).val % 8, by omega⟩ ⟨(y 1).val, y1⟩ (by show (y 0).val % 8 / 2 ≤ 3; omega)
  show after 9 t y = _
  rw [hy]
  refine hX.trans (plane_at 0 (by omega) _ _ _ _ _ _ _ h _ _ _ _ _ ?_ ?_).symm
  · show cc0_transform_9 (co m hO t) 0 * 9216 + 1 * (8 * ((y 0).val / 8) + (y 0).val % 8) = (1152 * (t.val / 8) + (y 0).val / 8) * 8 + (y 0).val % 8
    rw [index9, show (![(co m hO t 0).val, 0] : Fin 2 → Nat) 0 = (co m hO t 0).val from rfl, co0]
    omega
  · show cc0_transform_9 (co m hO t) 1 * 128 + 1 * (y 1).val = (y 1).val
    rw [index9]
    show 0 * 128 + 1 * (y 1).val = (y 1).val
    omega

theorem high_array (after : (w : Fin (cfgM m hO).W) → Fin (cfgM m hO).N → ((cfgM m hO).win w).block.Idx → Elt Ideal ((cfgM m hO).win w).elt)
    (hL : ∀ t, ((cfgM m hO).win 10).flush t = true → (rdat m hO c).Leaves 10 t (after 10 t)) :
    ((rdat m hO c).withAfter after).arrAt 10 (cfgM m hO).N = planeOf m c h 1024 (by omega) := by
  refine Pipeline.Dat.arrAt_eq_of_covers _ 10 _ (covers10 m hO) (fun t hf => ?_) (Memref.isWhole_whole _)
  change ∀ y : (⟨2, ![9216, 128]⟩ : Shape).Idx, _
  intro y
  have h8 : t.val % 8 = 7 := of_decide_eq_true ((flush10 m hO t).symm.trans hf)
  have hn : t.val < 1160 := t.isLt
  have y0 : (y 0).val < 9216 := (y 0).isLt
  have y1 : (y 1).val < 128 := (y 1).isLt
  have hy : y = at8 ⟨(y 0).val / 8, by omega⟩ ⟨(y 0).val % 8, by omega⟩ ⟨(y 1).val, y1⟩ := by
    funext a
    refine Fin.ext ?_
    match a with
    | ⟨0, _⟩ => show (y 0).val = 8 * ((y 0).val / 8) + (y 0).val % 8; omega
    | ⟨1, _⟩ => rfl
  have hX := high_at m hO c h hU ⟨t.val / 8, by omega⟩ 3 (by omega) t (by show t.val = 8 * (t.val / 8) + (4 + 3); omega) (after 10 t) (hL t hf)
    ⟨(y 0).val / 8, by omega⟩ ⟨(y 0).val % 8, by omega⟩ ⟨(y 1).val, y1⟩ (by show (y 0).val % 8 / 2 ≤ 3; omega)
  show after 10 t y = _
  rw [hy]
  refine hX.trans (plane_at 1024 (by omega) _ _ _ _ _ _ _ h _ _ _ _ _ ?_ ?_).symm
  · show cc0_transform_10 (co m hO t) 0 * 9216 + 1 * (8 * ((y 0).val / 8) + (y 0).val % 8) = (1152 * (t.val / 8) + (y 0).val / 8) * 8 + (y 0).val % 8
    rw [index10, show (![(co m hO t 0).val, 0] : Fin 2 → Nat) 0 = (co m hO t 0).val from rfl, co0]
    omega
  · show cc0_transform_10 (co m hO t) 1 * 128 + 1 * (y 1).val = (y 1).val
    rw [index10]
    show 0 * 128 + 1 * (y 1).val = (y 1).val
    omega

end

include hO in
set_option backward.isDefEq.respectTransparency.types false in
/-- The run of the kernel: the results are the two half planes, and the arguments are as launched. -/
theorem run_both (hU : ∀ (c : Dev nD) (b : Fin 145), 0 < (counts m c (ix1 b)).toInt → Used m b) :
    θ_run defs (onTc (τ := τ) (main (F := Ideal))) ⟨m, fun _ => 0, ρ⟩ fun r => ∀ c : Dev nD,
      r.2.mem ((c.tc : Thread nD τ).loc main_v2_0) = planeOf m c h 0 (by omega)
      ∧ r.2.mem ((c.tc : Thread nD τ).loc main_v2_1) = planeOf m c h 1024 (by omega)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ g c => by
    obtain ⟨after, hL, hA⟩ := RDat.FramePost.exists_exact g.1 c
    exact ⟨(hA 9).trans (low_array m hO c h (hU c) after fun t hf => hL 9 t hf),
      (hA 10).trans (high_array m hO c h (hU c) after fun t hf => hL 10 t hf),
      (RDat.FramePost.arr_in g.1 c 0 rfl).trans ((A_eq m hO c 0).trans (V_arg0 m c)),
      (RDat.FramePost.arr_in g.1 c 1 rfl).trans ((A_eq m hO c 1).trans (V_arg1 m c)),
      ((g.1 c).2 main_arg2 (by decide : main_arg2 ∈ Pipeline.restRefs sig spec0)).trans (V_arg2 m c),
      (RDat.FramePost.arr_in g.1 c 5 rfl).trans ((A_eq m hO c 5).trans (V_arg3 m c)),
      ((g.1 c).2 main_arg4 (by decide : main_arg4 ∈ Pipeline.restRefs sig spec0)).trans (V_arg4 m c),
      ((g.1 c).2 main_arg5 (by decide : main_arg5 ∈ Pipeline.restRefs sig spec0)).trans (V_arg5 m c),
      ((g.1 c).2 main_arg6 (by decide : main_arg6 ∈ Pipeline.restRefs sig spec0)).trans (V_arg6 m c),
      ((g.1 c).2 main_arg7 (by decide : main_arg7 ∈ Pipeline.restRefs sig spec0)).trans (V_arg7 m c)⟩) (run_main m ρ hO)

end Cert.Kernel4Ideal.Ffn

namespace Cert.FfnClaims

open Idealize.ShloMosaic
open Idealize.ShloMosaic.TcCoe Idealize.ShloMosaic.ValueIdx Idealize.SL.Sem
open Cert.Kernel4Ideal.Ffn (experts counts planeOf Used)

theorem algebraic4 : Cert.algebraic_Kernel4Ideal_Reference4Ideal_pre_blocks_counted := by
  intro m ρ m' ρ' hpre hagree
  have hn : FfnPlain.Named (experts m 0) := fun b => (counted_of _ _ _ _ _ _ _ _ (hpre 0) b).1
  have hu : ∀ (c : Dev Cert.Kernel4Ideal.nD) (b : Fin 145), 0 < (counts m c (ix1 b)).toInt → Used m b := fun c b hb => by
    obtain rfl : c = 0 := Subsingleton.elim _ _
    exact (counted_of _ _ _ _ _ _ _ _ (hpre 0) b).2 hb
  refine ⟨fun c => planeOf m c hn 0 (by omega), fun c => planeOf m c hn 1024 (by omega),
    Cert.Kernel4Ideal.Ffn.run_both m ρ (okCounted m hpre) hn hu, ?_⟩
  refine (θ_run Cert.Reference4Ideal.defs _ _).mono (fun r h c => ⟨(h c).1.trans ?_, (h c).2.1.trans ?_, (h c).2.2⟩)
    (Cert.Reference4Ideal.Value.run m' ρ')
  · obtain rfl : c = 0 := Subsingleton.elim _ _
    obtain ⟨a0, a1, a2, a3, a4, a5, a6, -⟩ := hagree 0
    rw [Cert.Reference4Ideal.Read.val_main_v46_eq, a0, a1, a2, a3, a4, a5, a6]
    exact Cert.FfnRef.low_eq _ _ _ _ _ _ _ hn
  · obtain rfl : c = 0 := Subsingleton.elim _ _
    obtain ⟨a0, a1, a2, a3, a4, a5, a6, -⟩ := hagree 0
    rw [Cert.Reference4Ideal.Read.val_main_v48_eq, a0, a1, a2, a3, a4, a5, a6]
    exact Cert.FfnRef.high_eq _ _ _ _ _ _ _ hn

end Cert.FfnClaims

end
-- ==== Proof.lean ====
/- The proof of the claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel3
public import proofs.«01_k».proof.Proof.Gen.KernelIdeal.Value
public import proofs.«01_k».proof.Proof.Gen.Kernel2Ideal.Value
public import proofs.«01_k».proof.Proof.Gen.Kernel3Ideal.Value
public import proofs.«01_k».proof.Proof.AttentionClaims
public import proofs.«01_k».proof.Proof.ProjClaims
public import proofs.«01_k».proof.Proof.FfnCast
public import proofs.«01_k».proof.Proof.FfnCounted
public import proofs.«01_k».proof.Proof.FfnValue
public import proofs.«01_k».proof.Proof.Gen.Kernel4
public import proofs.«01_k».proof.Proof.Gen.Reference4Ideal
public import proofs.«01_k».proof.Proof.Gen.Reference4Ideal.Run
public import proofs.«01_k».proof.Proof.Gen.Reference4Ideal.Read

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    AttentionClaims.preFacts, FfnClaims.namedFacts, FfnClaims.countedFacts,
    AttentionClaims.kernel, AttentionClaims.kernelIdeal, fun m ρ _ => AttentionClaims.kernelIdeal m ρ trivial,
    AttentionClaims.referenceIdeal, fun m ρ _ => AttentionClaims.referenceIdeal m ρ trivial,
    ProjClaims.kernel2, ProjClaims.kernel2Ideal, ProjClaims.reference2Ideal,
    ProjClaims.kernel3, ProjClaims.kernel3Ideal, ProjClaims.reference3Ideal,
    FfnClaims.kernel4, FfnClaims.kernel4Ideal, FfnClaims.kernel4IdealCounted,
    FfnClaims.reference4Ideal, fun m ρ _ => FfnClaims.reference4Ideal m ρ trivial,
    AttentionClaims.preserves, AttentionClaims.algebraic,
    trivial, ProjClaims.algebraic2, trivial, ProjClaims.algebraic3, trivial, FfnClaims.algebraic4⟩

end Cert.Proof

end
